-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_admissible [hPre_admissible : Cert.Pre_admissible.Facts] (m : (ℓ : Loc Cert.ScanIdeal.nD Cert.ScanIdeal.τ Cert.ScanIdeal.sig) → Buf (Elt Ideal) ℓ) : Prop :=
  ∀ c : Dev Cert.ScanIdeal.nD,
    (Cert.Pre_admissible.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9)) (m ((c.tc : Thread Cert.ScanIdeal.nD Cert.ScanIdeal.τ).loc Cert.ScanIdeal.main_arg10)) (m ((c.tc : Thread Cert.ScanIdeal.nD Cert.ScanIdeal.τ).loc Cert.ScanIdeal.main_arg11)) (m ((c.tc : Thread Cert.ScanIdeal.nD Cert.ScanIdeal.τ).loc Cert.ScanIdeal.main_arg12)) (m ((c.tc : Thread Cert.ScanIdeal.nD Cert.ScanIdeal.τ).loc Cert.ScanIdeal.main_arg13)) (m ((c.tc : Thread Cert.ScanIdeal.nD Cert.ScanIdeal.τ).loc Cert.ScanIdeal.main_arg14)) (m ((c.tc : Thread Cert.ScanIdeal.nD Cert.ScanIdeal.τ).loc Cert.ScanIdeal.main_arg15)) (m ((c.tc : Thread Cert.ScanIdeal.nD Cert.ScanIdeal.τ).loc Cert.ScanIdeal.main_arg16)) (m ((c.tc : Thread Cert.ScanIdeal.nD Cert.ScanIdeal.τ).loc Cert.ScanIdeal.main_arg17)) (m ((c.tc : Thread Cert.ScanIdeal.nD Cert.ScanIdeal.τ).loc Cert.ScanIdeal.main_arg18))) = (fun _ => 1#1)

def Pre_ScanReferenceIdeal (m : (ℓ : Loc Cert.ScanReferenceIdeal.nD Cert.ScanReferenceIdeal.τ Cert.ScanReferenceIdeal.sig) → Buf (Elt Ideal) ℓ) : Prop :=
  True

def Pre_ScanReferenceIdeal_admissible [hPre_admissible : Cert.Pre_admissible.Facts] (m : (ℓ : Loc Cert.ScanReferenceIdeal.nD Cert.ScanReferenceIdeal.τ Cert.ScanReferenceIdeal.sig) → Buf (Elt Ideal) ℓ) : Prop :=
  ∀ c : Dev Cert.ScanReferenceIdeal.nD,
    (Cert.Pre_admissible.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4)) (m ((c.tc : Thread Cert.ScanReferenceIdeal.nD Cert.ScanReferenceIdeal.τ).loc Cert.ScanReferenceIdeal.main_arg5)) (m ((c.tc : Thread Cert.ScanReferenceIdeal.nD Cert.ScanReferenceIdeal.τ).loc Cert.ScanReferenceIdeal.main_arg6)) (m ((c.tc : Thread Cert.ScanReferenceIdeal.nD Cert.ScanReferenceIdeal.τ).loc Cert.ScanReferenceIdeal.main_arg7)) (m ((c.tc : Thread Cert.ScanReferenceIdeal.nD Cert.ScanReferenceIdeal.τ).loc Cert.ScanReferenceIdeal.main_arg8)) (m ((c.tc : Thread Cert.ScanReferenceIdeal.nD Cert.ScanReferenceIdeal.τ).loc Cert.ScanReferenceIdeal.main_arg9)) (m ((c.tc : Thread Cert.ScanReferenceIdeal.nD Cert.ScanReferenceIdeal.τ).loc Cert.ScanReferenceIdeal.main_arg10)) (m ((c.tc : Thread Cert.ScanReferenceIdeal.nD Cert.ScanReferenceIdeal.τ).loc Cert.ScanReferenceIdeal.main_arg11)) (m ((c.tc : Thread Cert.ScanReferenceIdeal.nD Cert.ScanReferenceIdeal.τ).loc Cert.ScanReferenceIdeal.main_arg12)) (m ((c.tc : Thread Cert.ScanReferenceIdeal.nD Cert.ScanReferenceIdeal.τ).loc Cert.ScanReferenceIdeal.main_arg13)) (m ((c.tc : Thread Cert.ScanReferenceIdeal.nD Cert.ScanReferenceIdeal.τ).loc Cert.ScanReferenceIdeal.main_arg14)) (m ((c.tc : Thread Cert.ScanReferenceIdeal.nD Cert.ScanReferenceIdeal.τ).loc Cert.ScanReferenceIdeal.main_arg15)) (m ((c.tc : Thread Cert.ScanReferenceIdeal.nD Cert.ScanReferenceIdeal.τ).loc Cert.ScanReferenceIdeal.main_arg16)) (m ((c.tc : Thread Cert.ScanReferenceIdeal.nD Cert.ScanReferenceIdeal.τ).loc Cert.ScanReferenceIdeal.main_arg17)) (m ((c.tc : Thread Cert.ScanReferenceIdeal.nD Cert.ScanReferenceIdeal.τ).loc Cert.ScanReferenceIdeal.main_arg18))) = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_front_admissible [hPre_front_admissible : Cert.Pre_front_admissible.Facts] (m : (ℓ : Loc Cert.FrontIdeal.nD Cert.FrontIdeal.τ Cert.FrontIdeal.sig) → Buf (Elt Ideal) ℓ) : Prop :=
  ∀ c : Dev Cert.FrontIdeal.nD,
    (Cert.Pre_front_admissible.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8)) (m ((c.tc : Thread Cert.FrontIdeal.nD Cert.FrontIdeal.τ).loc Cert.FrontIdeal.main_arg9)) (m ((c.tc : Thread Cert.FrontIdeal.nD Cert.FrontIdeal.τ).loc Cert.FrontIdeal.main_arg10)) (m ((c.tc : Thread Cert.FrontIdeal.nD Cert.FrontIdeal.τ).loc Cert.FrontIdeal.main_arg11)) (m ((c.tc : Thread Cert.FrontIdeal.nD Cert.FrontIdeal.τ).loc Cert.FrontIdeal.main_arg12))) = (fun _ => 1#1)

def Pre_FrontReferenceIdeal (m : (ℓ : Loc Cert.FrontReferenceIdeal.nD Cert.FrontReferenceIdeal.τ Cert.FrontReferenceIdeal.sig) → Buf (Elt Ideal) ℓ) : Prop :=
  True

def Pre_FrontReferenceIdeal_front_admissible [hPre_front_admissible : Cert.Pre_front_admissible.Facts] (m : (ℓ : Loc Cert.FrontReferenceIdeal.nD Cert.FrontReferenceIdeal.τ Cert.FrontReferenceIdeal.sig) → Buf (Elt Ideal) ℓ) : Prop :=
  ∀ c : Dev Cert.FrontReferenceIdeal.nD,
    (Cert.Pre_front_admissible.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6)) (m ((c.tc : Thread Cert.FrontReferenceIdeal.nD Cert.FrontReferenceIdeal.τ).loc Cert.FrontReferenceIdeal.main_arg7)) (m ((c.tc : Thread Cert.FrontReferenceIdeal.nD Cert.FrontReferenceIdeal.τ).loc Cert.FrontReferenceIdeal.main_arg8)) (m ((c.tc : Thread Cert.FrontReferenceIdeal.nD Cert.FrontReferenceIdeal.τ).loc Cert.FrontReferenceIdeal.main_arg9)) (m ((c.tc : Thread Cert.FrontReferenceIdeal.nD Cert.FrontReferenceIdeal.τ).loc Cert.FrontReferenceIdeal.main_arg10)) (m ((c.tc : Thread Cert.FrontReferenceIdeal.nD Cert.FrontReferenceIdeal.τ).loc Cert.FrontReferenceIdeal.main_arg11)) (m ((c.tc : Thread Cert.FrontReferenceIdeal.nD Cert.FrontReferenceIdeal.τ).loc Cert.FrontReferenceIdeal.main_arg12))) = (fun _ => 1#1)

def Pre_Mixing (m : (ℓ : Loc Cert.Mixing.nD Cert.Mixing.τ Cert.Mixing.sig) → Buf (Elt Bits) ℓ) : Prop :=
  True

def Pre_MixingIdeal (m : (ℓ : Loc Cert.MixingIdeal.nD Cert.MixingIdeal.τ Cert.MixingIdeal.sig) → Buf (Elt Ideal) ℓ) : Prop :=
  True

def Pre_MixingReferenceIdeal (m : (ℓ : Loc Cert.MixingReferenceIdeal.nD Cert.MixingReferenceIdeal.τ Cert.MixingReferenceIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9)
      ∧ r.2.mem ((c.tc : Thread Cert.Scan.nD Cert.Scan.τ).loc Cert.Scan.main_arg10) = m ((c.tc : Thread Cert.Scan.nD Cert.Scan.τ).loc Cert.Scan.main_arg10)
      ∧ r.2.mem ((c.tc : Thread Cert.Scan.nD Cert.Scan.τ).loc Cert.Scan.main_arg11) = m ((c.tc : Thread Cert.Scan.nD Cert.Scan.τ).loc Cert.Scan.main_arg11)
      ∧ r.2.mem ((c.tc : Thread Cert.Scan.nD Cert.Scan.τ).loc Cert.Scan.main_arg12) = m ((c.tc : Thread Cert.Scan.nD Cert.Scan.τ).loc Cert.Scan.main_arg12)
      ∧ r.2.mem ((c.tc : Thread Cert.Scan.nD Cert.Scan.τ).loc Cert.Scan.main_arg13) = m ((c.tc : Thread Cert.Scan.nD Cert.Scan.τ).loc Cert.Scan.main_arg13)
      ∧ r.2.mem ((c.tc : Thread Cert.Scan.nD Cert.Scan.τ).loc Cert.Scan.main_arg14) = m ((c.tc : Thread Cert.Scan.nD Cert.Scan.τ).loc Cert.Scan.main_arg14)
      ∧ r.2.mem ((c.tc : Thread Cert.Scan.nD Cert.Scan.τ).loc Cert.Scan.main_arg15) = m ((c.tc : Thread Cert.Scan.nD Cert.Scan.τ).loc Cert.Scan.main_arg15)
      ∧ r.2.mem ((c.tc : Thread Cert.Scan.nD Cert.Scan.τ).loc Cert.Scan.main_arg16) = m ((c.tc : Thread Cert.Scan.nD Cert.Scan.τ).loc Cert.Scan.main_arg16)
      ∧ r.2.mem ((c.tc : Thread Cert.Scan.nD Cert.Scan.τ).loc Cert.Scan.main_arg17) = m ((c.tc : Thread Cert.Scan.nD Cert.Scan.τ).loc Cert.Scan.main_arg17)
      ∧ r.2.mem ((c.tc : Thread Cert.Scan.nD Cert.Scan.τ).loc Cert.Scan.main_arg18) = m ((c.tc : Thread Cert.Scan.nD Cert.Scan.τ).loc Cert.Scan.main_arg18))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
      ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11)
      ∧ r.2.mem ((c.tc : Thread Cert.ScanIdeal.nD Cert.ScanIdeal.τ).loc Cert.ScanIdeal.main_arg12) = m ((c.tc : Thread Cert.ScanIdeal.nD Cert.ScanIdeal.τ).loc Cert.ScanIdeal.main_arg12)
      ∧ r.2.mem ((c.tc : Thread Cert.ScanIdeal.nD Cert.ScanIdeal.τ).loc Cert.ScanIdeal.main_arg13) = m ((c.tc : Thread Cert.ScanIdeal.nD Cert.ScanIdeal.τ).loc Cert.ScanIdeal.main_arg13)
      ∧ r.2.mem ((c.tc : Thread Cert.ScanIdeal.nD Cert.ScanIdeal.τ).loc Cert.ScanIdeal.main_arg14) = m ((c.tc : Thread Cert.ScanIdeal.nD Cert.ScanIdeal.τ).loc Cert.ScanIdeal.main_arg14)
      ∧ r.2.mem ((c.tc : Thread Cert.ScanIdeal.nD Cert.ScanIdeal.τ).loc Cert.ScanIdeal.main_arg15) = m ((c.tc : Thread Cert.ScanIdeal.nD Cert.ScanIdeal.τ).loc Cert.ScanIdeal.main_arg15)
      ∧ r.2.mem ((c.tc : Thread Cert.ScanIdeal.nD Cert.ScanIdeal.τ).loc Cert.ScanIdeal.main_arg16) = m ((c.tc : Thread Cert.ScanIdeal.nD Cert.ScanIdeal.τ).loc Cert.ScanIdeal.main_arg16)
      ∧ r.2.mem ((c.tc : Thread Cert.ScanIdeal.nD Cert.ScanIdeal.τ).loc Cert.ScanIdeal.main_arg17) = m ((c.tc : Thread Cert.ScanIdeal.nD Cert.ScanIdeal.τ).loc Cert.ScanIdeal.main_arg17)
      ∧ r.2.mem ((c.tc : Thread Cert.ScanIdeal.nD Cert.ScanIdeal.τ).loc Cert.ScanIdeal.main_arg18) = m ((c.tc : Thread Cert.ScanIdeal.nD Cert.ScanIdeal.τ).loc Cert.ScanIdeal.main_arg18))
      ∧ r.2.sem = fun _ => 0)

def quiescent_ScanIdeal_pre_admissible [hScanIdeal : Cert.ScanIdeal.Facts] [hPre_admissible : Cert.Pre_admissible.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_admissible m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
      ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11)
      ∧ r.2.mem ((c.tc : Thread Cert.ScanIdeal.nD Cert.ScanIdeal.τ).loc Cert.ScanIdeal.main_arg12) = m ((c.tc : Thread Cert.ScanIdeal.nD Cert.ScanIdeal.τ).loc Cert.ScanIdeal.main_arg12)
      ∧ r.2.mem ((c.tc : Thread Cert.ScanIdeal.nD Cert.ScanIdeal.τ).loc Cert.ScanIdeal.main_arg13) = m ((c.tc : Thread Cert.ScanIdeal.nD Cert.ScanIdeal.τ).loc Cert.ScanIdeal.main_arg13)
      ∧ r.2.mem ((c.tc : Thread Cert.ScanIdeal.nD Cert.ScanIdeal.τ).loc Cert.ScanIdeal.main_arg14) = m ((c.tc : Thread Cert.ScanIdeal.nD Cert.ScanIdeal.τ).loc Cert.ScanIdeal.main_arg14)
      ∧ r.2.mem ((c.tc : Thread Cert.ScanIdeal.nD Cert.ScanIdeal.τ).loc Cert.ScanIdeal.main_arg15) = m ((c.tc : Thread Cert.ScanIdeal.nD Cert.ScanIdeal.τ).loc Cert.ScanIdeal.main_arg15)
      ∧ r.2.mem ((c.tc : Thread Cert.ScanIdeal.nD Cert.ScanIdeal.τ).loc Cert.ScanIdeal.main_arg16) = m ((c.tc : Thread Cert.ScanIdeal.nD Cert.ScanIdeal.τ).loc Cert.ScanIdeal.main_arg16)
      ∧ r.2.mem ((c.tc : Thread Cert.ScanIdeal.nD Cert.ScanIdeal.τ).loc Cert.ScanIdeal.main_arg17) = m ((c.tc : Thread Cert.ScanIdeal.nD Cert.ScanIdeal.τ).loc Cert.ScanIdeal.main_arg17)
      ∧ r.2.mem ((c.tc : Thread Cert.ScanIdeal.nD Cert.ScanIdeal.τ).loc Cert.ScanIdeal.main_arg18) = m ((c.tc : Thread Cert.ScanIdeal.nD Cert.ScanIdeal.τ).loc Cert.ScanIdeal.main_arg18))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8)
      ∧ r.2.mem ((c.tc : Thread Cert.ScanReferenceIdeal.nD Cert.ScanReferenceIdeal.τ).loc Cert.ScanReferenceIdeal.main_arg9) = m ((c.tc : Thread Cert.ScanReferenceIdeal.nD Cert.ScanReferenceIdeal.τ).loc Cert.ScanReferenceIdeal.main_arg9)
      ∧ r.2.mem ((c.tc : Thread Cert.ScanReferenceIdeal.nD Cert.ScanReferenceIdeal.τ).loc Cert.ScanReferenceIdeal.main_arg10) = m ((c.tc : Thread Cert.ScanReferenceIdeal.nD Cert.ScanReferenceIdeal.τ).loc Cert.ScanReferenceIdeal.main_arg10)
      ∧ r.2.mem ((c.tc : Thread Cert.ScanReferenceIdeal.nD Cert.ScanReferenceIdeal.τ).loc Cert.ScanReferenceIdeal.main_arg11) = m ((c.tc : Thread Cert.ScanReferenceIdeal.nD Cert.ScanReferenceIdeal.τ).loc Cert.ScanReferenceIdeal.main_arg11)
      ∧ r.2.mem ((c.tc : Thread Cert.ScanReferenceIdeal.nD Cert.ScanReferenceIdeal.τ).loc Cert.ScanReferenceIdeal.main_arg12) = m ((c.tc : Thread Cert.ScanReferenceIdeal.nD Cert.ScanReferenceIdeal.τ).loc Cert.ScanReferenceIdeal.main_arg12)
      ∧ r.2.mem ((c.tc : Thread Cert.ScanReferenceIdeal.nD Cert.ScanReferenceIdeal.τ).loc Cert.ScanReferenceIdeal.main_arg13) = m ((c.tc : Thread Cert.ScanReferenceIdeal.nD Cert.ScanReferenceIdeal.τ).loc Cert.ScanReferenceIdeal.main_arg13)
      ∧ r.2.mem ((c.tc : Thread Cert.ScanReferenceIdeal.nD Cert.ScanReferenceIdeal.τ).loc Cert.ScanReferenceIdeal.main_arg14) = m ((c.tc : Thread Cert.ScanReferenceIdeal.nD Cert.ScanReferenceIdeal.τ).loc Cert.ScanReferenceIdeal.main_arg14)
      ∧ r.2.mem ((c.tc : Thread Cert.ScanReferenceIdeal.nD Cert.ScanReferenceIdeal.τ).loc Cert.ScanReferenceIdeal.main_arg15) = m ((c.tc : Thread Cert.ScanReferenceIdeal.nD Cert.ScanReferenceIdeal.τ).loc Cert.ScanReferenceIdeal.main_arg15)
      ∧ r.2.mem ((c.tc : Thread Cert.ScanReferenceIdeal.nD Cert.ScanReferenceIdeal.τ).loc Cert.ScanReferenceIdeal.main_arg16) = m ((c.tc : Thread Cert.ScanReferenceIdeal.nD Cert.ScanReferenceIdeal.τ).loc Cert.ScanReferenceIdeal.main_arg16)
      ∧ r.2.mem ((c.tc : Thread Cert.ScanReferenceIdeal.nD Cert.ScanReferenceIdeal.τ).loc Cert.ScanReferenceIdeal.main_arg17) = m ((c.tc : Thread Cert.ScanReferenceIdeal.nD Cert.ScanReferenceIdeal.τ).loc Cert.ScanReferenceIdeal.main_arg17)
      ∧ r.2.mem ((c.tc : Thread Cert.ScanReferenceIdeal.nD Cert.ScanReferenceIdeal.τ).loc Cert.ScanReferenceIdeal.main_arg18) = m ((c.tc : Thread Cert.ScanReferenceIdeal.nD Cert.ScanReferenceIdeal.τ).loc Cert.ScanReferenceIdeal.main_arg18))
      ∧ r.2.sem = fun _ => 0)

def quiescent_ScanReferenceIdeal_pre_admissible [hScanReferenceIdeal : Cert.ScanReferenceIdeal.Facts] [hPre_admissible : Cert.Pre_admissible.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal_admissible m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8)
      ∧ r.2.mem ((c.tc : Thread Cert.ScanReferenceIdeal.nD Cert.ScanReferenceIdeal.τ).loc Cert.ScanReferenceIdeal.main_arg9) = m ((c.tc : Thread Cert.ScanReferenceIdeal.nD Cert.ScanReferenceIdeal.τ).loc Cert.ScanReferenceIdeal.main_arg9)
      ∧ r.2.mem ((c.tc : Thread Cert.ScanReferenceIdeal.nD Cert.ScanReferenceIdeal.τ).loc Cert.ScanReferenceIdeal.main_arg10) = m ((c.tc : Thread Cert.ScanReferenceIdeal.nD Cert.ScanReferenceIdeal.τ).loc Cert.ScanReferenceIdeal.main_arg10)
      ∧ r.2.mem ((c.tc : Thread Cert.ScanReferenceIdeal.nD Cert.ScanReferenceIdeal.τ).loc Cert.ScanReferenceIdeal.main_arg11) = m ((c.tc : Thread Cert.ScanReferenceIdeal.nD Cert.ScanReferenceIdeal.τ).loc Cert.ScanReferenceIdeal.main_arg11)
      ∧ r.2.mem ((c.tc : Thread Cert.ScanReferenceIdeal.nD Cert.ScanReferenceIdeal.τ).loc Cert.ScanReferenceIdeal.main_arg12) = m ((c.tc : Thread Cert.ScanReferenceIdeal.nD Cert.ScanReferenceIdeal.τ).loc Cert.ScanReferenceIdeal.main_arg12)
      ∧ r.2.mem ((c.tc : Thread Cert.ScanReferenceIdeal.nD Cert.ScanReferenceIdeal.τ).loc Cert.ScanReferenceIdeal.main_arg13) = m ((c.tc : Thread Cert.ScanReferenceIdeal.nD Cert.ScanReferenceIdeal.τ).loc Cert.ScanReferenceIdeal.main_arg13)
      ∧ r.2.mem ((c.tc : Thread Cert.ScanReferenceIdeal.nD Cert.ScanReferenceIdeal.τ).loc Cert.ScanReferenceIdeal.main_arg14) = m ((c.tc : Thread Cert.ScanReferenceIdeal.nD Cert.ScanReferenceIdeal.τ).loc Cert.ScanReferenceIdeal.main_arg14)
      ∧ r.2.mem ((c.tc : Thread Cert.ScanReferenceIdeal.nD Cert.ScanReferenceIdeal.τ).loc Cert.ScanReferenceIdeal.main_arg15) = m ((c.tc : Thread Cert.ScanReferenceIdeal.nD Cert.ScanReferenceIdeal.τ).loc Cert.ScanReferenceIdeal.main_arg15)
      ∧ r.2.mem ((c.tc : Thread Cert.ScanReferenceIdeal.nD Cert.ScanReferenceIdeal.τ).loc Cert.ScanReferenceIdeal.main_arg16) = m ((c.tc : Thread Cert.ScanReferenceIdeal.nD Cert.ScanReferenceIdeal.τ).loc Cert.ScanReferenceIdeal.main_arg16)
      ∧ r.2.mem ((c.tc : Thread Cert.ScanReferenceIdeal.nD Cert.ScanReferenceIdeal.τ).loc Cert.ScanReferenceIdeal.main_arg17) = m ((c.tc : Thread Cert.ScanReferenceIdeal.nD Cert.ScanReferenceIdeal.τ).loc Cert.ScanReferenceIdeal.main_arg17)
      ∧ r.2.mem ((c.tc : Thread Cert.ScanReferenceIdeal.nD Cert.ScanReferenceIdeal.τ).loc Cert.ScanReferenceIdeal.main_arg18) = m ((c.tc : Thread Cert.ScanReferenceIdeal.nD Cert.ScanReferenceIdeal.τ).loc Cert.ScanReferenceIdeal.main_arg18))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12))
      ∧ r.2.sem = fun _ => 0)

def quiescent_FrontIdeal_pre_front_admissible [hFrontIdeal : Cert.FrontIdeal.Facts] [hPre_front_admissible : Cert.Pre_front_admissible.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_front_admissible m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12))
      ∧ r.2.sem = fun _ => 0)

def quiescent_FrontReferenceIdeal_pre_front_admissible [hFrontReferenceIdeal : Cert.FrontReferenceIdeal.Facts] [hPre_front_admissible : Cert.Pre_front_admissible.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal_front_admissible m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12))
      ∧ r.2.sem = fun _ => 0)

def quiescent_Mixing [hMixing : Cert.Mixing.Facts] : Prop :=
  ∀ (m : (ℓ : Loc Cert.Mixing.nD Cert.Mixing.τ Cert.Mixing.sig) → Buf (Elt Bits) ℓ) (g : Dev Cert.Mixing.nD → PrngReg), Pre_Mixing m →
    θ_run (Cert.Mixing.defs (F := Bits)) (onTc (τ := Cert.Mixing.τ) (Cert.Mixing.main (F := Bits))) ⟨m, fun _ => 0, g⟩ (fun r => (∀ c : Dev Cert.Mixing.nD,
      r.2.mem ((c.tc : Thread Cert.Mixing.nD Cert.Mixing.τ).loc Cert.Mixing.main_arg0) = m ((c.tc : Thread Cert.Mixing.nD Cert.Mixing.τ).loc Cert.Mixing.main_arg0)
      ∧ r.2.mem ((c.tc : Thread Cert.Mixing.nD Cert.Mixing.τ).loc Cert.Mixing.main_arg1) = m ((c.tc : Thread Cert.Mixing.nD Cert.Mixing.τ).loc Cert.Mixing.main_arg1)
      ∧ r.2.mem ((c.tc : Thread Cert.Mixing.nD Cert.Mixing.τ).loc Cert.Mixing.main_arg2) = m ((c.tc : Thread Cert.Mixing.nD Cert.Mixing.τ).loc Cert.Mixing.main_arg2)
      ∧ r.2.mem ((c.tc : Thread Cert.Mixing.nD Cert.Mixing.τ).loc Cert.Mixing.main_arg3) = m ((c.tc : Thread Cert.Mixing.nD Cert.Mixing.τ).loc Cert.Mixing.main_arg3)
      ∧ r.2.mem ((c.tc : Thread Cert.Mixing.nD Cert.Mixing.τ).loc Cert.Mixing.main_arg4) = m ((c.tc : Thread Cert.Mixing.nD Cert.Mixing.τ).loc Cert.Mixing.main_arg4))
      ∧ r.2.sem = fun _ => 0)

def quiescent_MixingIdeal [hMixingIdeal : Cert.MixingIdeal.Facts] : Prop :=
  ∀ (m : (ℓ : Loc Cert.MixingIdeal.nD Cert.MixingIdeal.τ Cert.MixingIdeal.sig) → Buf (Elt Ideal) ℓ) (g : Dev Cert.MixingIdeal.nD → PrngReg), Pre_MixingIdeal m →
    θ_run (Cert.MixingIdeal.defs (F := Ideal)) (onTc (τ := Cert.MixingIdeal.τ) (Cert.MixingIdeal.main (F := Ideal))) ⟨m, fun _ => 0, g⟩ (fun r => (∀ c : Dev Cert.MixingIdeal.nD,
      r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
      ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
      ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
      ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
      ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4))
      ∧ r.2.sem = fun _ => 0)

def quiescent_MixingReferenceIdeal [hMixingReferenceIdeal : Cert.MixingReferenceIdeal.Facts] : Prop :=
  ∀ (m : (ℓ : Loc Cert.MixingReferenceIdeal.nD Cert.MixingReferenceIdeal.τ Cert.MixingReferenceIdeal.sig) → Buf (Elt Ideal) ℓ) (g : Dev Cert.MixingReferenceIdeal.nD → PrngReg), Pre_MixingReferenceIdeal m →
    θ_run (Cert.MixingReferenceIdeal.defs (F := Ideal)) (onTc (τ := Cert.MixingReferenceIdeal.τ) (Cert.MixingReferenceIdeal.main (F := Ideal))) ⟨m, fun _ => 0, g⟩ (fun r => (∀ c : Dev Cert.MixingReferenceIdeal.nD,
      r.2.mem ((c.tc : Thread Cert.MixingReferenceIdeal.nD Cert.MixingReferenceIdeal.τ).loc Cert.MixingReferenceIdeal.main_arg0) = m ((c.tc : Thread Cert.MixingReferenceIdeal.nD Cert.MixingReferenceIdeal.τ).loc Cert.MixingReferenceIdeal.main_arg0)
      ∧ r.2.mem ((c.tc : Thread Cert.MixingReferenceIdeal.nD Cert.MixingReferenceIdeal.τ).loc Cert.MixingReferenceIdeal.main_arg1) = m ((c.tc : Thread Cert.MixingReferenceIdeal.nD Cert.MixingReferenceIdeal.τ).loc Cert.MixingReferenceIdeal.main_arg1)
      ∧ r.2.mem ((c.tc : Thread Cert.MixingReferenceIdeal.nD Cert.MixingReferenceIdeal.τ).loc Cert.MixingReferenceIdeal.main_arg2) = m ((c.tc : Thread Cert.MixingReferenceIdeal.nD Cert.MixingReferenceIdeal.τ).loc Cert.MixingReferenceIdeal.main_arg2)
      ∧ r.2.mem ((c.tc : Thread Cert.MixingReferenceIdeal.nD Cert.MixingReferenceIdeal.τ).loc Cert.MixingReferenceIdeal.main_arg3) = m ((c.tc : Thread Cert.MixingReferenceIdeal.nD Cert.MixingReferenceIdeal.τ).loc Cert.MixingReferenceIdeal.main_arg3)
      ∧ r.2.mem ((c.tc : Thread Cert.MixingReferenceIdeal.nD Cert.MixingReferenceIdeal.τ).loc Cert.MixingReferenceIdeal.main_arg4) = m ((c.tc : Thread Cert.MixingReferenceIdeal.nD Cert.MixingReferenceIdeal.τ).loc Cert.MixingReferenceIdeal.main_arg4))
      ∧ r.2.sem = fun _ => 0)

def preserves_Scan_ScanIdeal : Prop :=
  True

def algebraic_ScanIdeal_ScanReferenceIdeal_pre_admissible [hScanIdeal : Cert.ScanIdeal.Facts] [hScanReferenceIdeal : Cert.ScanReferenceIdeal.Facts] [hPre_admissible : Cert.Pre_admissible.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal_admissible m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)
      ∧ m' ((c.tc : Thread Cert.ScanReferenceIdeal.nD Cert.ScanReferenceIdeal.τ).loc Cert.ScanReferenceIdeal.main_arg5) = m ((c.tc : Thread Cert.ScanIdeal.nD Cert.ScanIdeal.τ).loc Cert.ScanIdeal.main_arg5)
      ∧ m' ((c.tc : Thread Cert.ScanReferenceIdeal.nD Cert.ScanReferenceIdeal.τ).loc Cert.ScanReferenceIdeal.main_arg6) = m ((c.tc : Thread Cert.ScanIdeal.nD Cert.ScanIdeal.τ).loc Cert.ScanIdeal.main_arg6)
      ∧ m' ((c.tc : Thread Cert.ScanReferenceIdeal.nD Cert.ScanReferenceIdeal.τ).loc Cert.ScanReferenceIdeal.main_arg7) = m ((c.tc : Thread Cert.ScanIdeal.nD Cert.ScanIdeal.τ).loc Cert.ScanIdeal.main_arg7)
      ∧ m' ((c.tc : Thread Cert.ScanReferenceIdeal.nD Cert.ScanReferenceIdeal.τ).loc Cert.ScanReferenceIdeal.main_arg8) = m ((c.tc : Thread Cert.ScanIdeal.nD Cert.ScanIdeal.τ).loc Cert.ScanIdeal.main_arg8)
      ∧ m' ((c.tc : Thread Cert.ScanReferenceIdeal.nD Cert.ScanReferenceIdeal.τ).loc Cert.ScanReferenceIdeal.main_arg9) = m ((c.tc : Thread Cert.ScanIdeal.nD Cert.ScanIdeal.τ).loc Cert.ScanIdeal.main_arg9)
      ∧ m' ((c.tc : Thread Cert.ScanReferenceIdeal.nD Cert.ScanReferenceIdeal.τ).loc Cert.ScanReferenceIdeal.main_arg10) = m ((c.tc : Thread Cert.ScanIdeal.nD Cert.ScanIdeal.τ).loc Cert.ScanIdeal.main_arg10)
      ∧ m' ((c.tc : Thread Cert.ScanReferenceIdeal.nD Cert.ScanReferenceIdeal.τ).loc Cert.ScanReferenceIdeal.main_arg11) = m ((c.tc : Thread Cert.ScanIdeal.nD Cert.ScanIdeal.τ).loc Cert.ScanIdeal.main_arg11)
      ∧ m' ((c.tc : Thread Cert.ScanReferenceIdeal.nD Cert.ScanReferenceIdeal.τ).loc Cert.ScanReferenceIdeal.main_arg12) = m ((c.tc : Thread Cert.ScanIdeal.nD Cert.ScanIdeal.τ).loc Cert.ScanIdeal.main_arg12)
      ∧ m' ((c.tc : Thread Cert.ScanReferenceIdeal.nD Cert.ScanReferenceIdeal.τ).loc Cert.ScanReferenceIdeal.main_arg13) = m ((c.tc : Thread Cert.ScanIdeal.nD Cert.ScanIdeal.τ).loc Cert.ScanIdeal.main_arg13)
      ∧ m' ((c.tc : Thread Cert.ScanReferenceIdeal.nD Cert.ScanReferenceIdeal.τ).loc Cert.ScanReferenceIdeal.main_arg14) = m ((c.tc : Thread Cert.ScanIdeal.nD Cert.ScanIdeal.τ).loc Cert.ScanIdeal.main_arg14)
      ∧ m' ((c.tc : Thread Cert.ScanReferenceIdeal.nD Cert.ScanReferenceIdeal.τ).loc Cert.ScanReferenceIdeal.main_arg15) = m ((c.tc : Thread Cert.ScanIdeal.nD Cert.ScanIdeal.τ).loc Cert.ScanIdeal.main_arg15)
      ∧ m' ((c.tc : Thread Cert.ScanReferenceIdeal.nD Cert.ScanReferenceIdeal.τ).loc Cert.ScanReferenceIdeal.main_arg16) = m ((c.tc : Thread Cert.ScanIdeal.nD Cert.ScanIdeal.τ).loc Cert.ScanIdeal.main_arg16)
      ∧ m' ((c.tc : Thread Cert.ScanReferenceIdeal.nD Cert.ScanReferenceIdeal.τ).loc Cert.ScanReferenceIdeal.main_arg17) = m ((c.tc : Thread Cert.ScanIdeal.nD Cert.ScanIdeal.τ).loc Cert.ScanIdeal.main_arg17)
      ∧ m' ((c.tc : Thread Cert.ScanReferenceIdeal.nD Cert.ScanReferenceIdeal.τ).loc Cert.ScanReferenceIdeal.main_arg18) = m ((c.tc : Thread Cert.ScanIdeal.nD Cert.ScanIdeal.τ).loc Cert.ScanIdeal.main_arg18)) →
    ∃ (v0 : (c : Dev Cert.ScanIdeal.nD) → Buf (Elt Ideal) ((c.tc : Thread Cert.ScanIdeal.nD Cert.ScanIdeal.τ).loc Cert.ScanIdeal.main_v43)) (v1 : (c : Dev Cert.ScanIdeal.nD) → Buf (Elt Ideal) ((c.tc : Thread Cert.ScanIdeal.nD Cert.ScanIdeal.τ).loc Cert.ScanIdeal.main_v46)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v43) = v0 c
          ∧ r.2.mem ((c.tc : Thread Cert.ScanIdeal.nD Cert.ScanIdeal.τ).loc Cert.ScanIdeal.main_v46) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
          ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
          ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
          ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11)
          ∧ r.2.mem ((c.tc : Thread Cert.ScanIdeal.nD Cert.ScanIdeal.τ).loc Cert.ScanIdeal.main_arg12) = m ((c.tc : Thread Cert.ScanIdeal.nD Cert.ScanIdeal.τ).loc Cert.ScanIdeal.main_arg12)
          ∧ r.2.mem ((c.tc : Thread Cert.ScanIdeal.nD Cert.ScanIdeal.τ).loc Cert.ScanIdeal.main_arg13) = m ((c.tc : Thread Cert.ScanIdeal.nD Cert.ScanIdeal.τ).loc Cert.ScanIdeal.main_arg13)
          ∧ r.2.mem ((c.tc : Thread Cert.ScanIdeal.nD Cert.ScanIdeal.τ).loc Cert.ScanIdeal.main_arg14) = m ((c.tc : Thread Cert.ScanIdeal.nD Cert.ScanIdeal.τ).loc Cert.ScanIdeal.main_arg14)
          ∧ r.2.mem ((c.tc : Thread Cert.ScanIdeal.nD Cert.ScanIdeal.τ).loc Cert.ScanIdeal.main_arg15) = m ((c.tc : Thread Cert.ScanIdeal.nD Cert.ScanIdeal.τ).loc Cert.ScanIdeal.main_arg15)
          ∧ r.2.mem ((c.tc : Thread Cert.ScanIdeal.nD Cert.ScanIdeal.τ).loc Cert.ScanIdeal.main_arg16) = m ((c.tc : Thread Cert.ScanIdeal.nD Cert.ScanIdeal.τ).loc Cert.ScanIdeal.main_arg16)
          ∧ r.2.mem ((c.tc : Thread Cert.ScanIdeal.nD Cert.ScanIdeal.τ).loc Cert.ScanIdeal.main_arg17) = m ((c.tc : Thread Cert.ScanIdeal.nD Cert.ScanIdeal.τ).loc Cert.ScanIdeal.main_arg17)
          ∧ r.2.mem ((c.tc : Thread Cert.ScanIdeal.nD Cert.ScanIdeal.τ).loc Cert.ScanIdeal.main_arg18) = m ((c.tc : Thread Cert.ScanIdeal.nD Cert.ScanIdeal.τ).loc Cert.ScanIdeal.main_arg18))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v87) = v0 c
          ∧ r.2.mem ((c.tc : Thread Cert.ScanReferenceIdeal.nD Cert.ScanReferenceIdeal.τ).loc Cert.ScanReferenceIdeal.main_v125) = v1 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5)
          ∧ r.2.mem ((c.tc : Thread Cert.ScanReferenceIdeal.nD Cert.ScanReferenceIdeal.τ).loc Cert.ScanReferenceIdeal.main_arg6) = m' ((c.tc : Thread Cert.ScanReferenceIdeal.nD Cert.ScanReferenceIdeal.τ).loc Cert.ScanReferenceIdeal.main_arg6)
          ∧ r.2.mem ((c.tc : Thread Cert.ScanReferenceIdeal.nD Cert.ScanReferenceIdeal.τ).loc Cert.ScanReferenceIdeal.main_arg7) = m' ((c.tc : Thread Cert.ScanReferenceIdeal.nD Cert.ScanReferenceIdeal.τ).loc Cert.ScanReferenceIdeal.main_arg7)
          ∧ r.2.mem ((c.tc : Thread Cert.ScanReferenceIdeal.nD Cert.ScanReferenceIdeal.τ).loc Cert.ScanReferenceIdeal.main_arg8) = m' ((c.tc : Thread Cert.ScanReferenceIdeal.nD Cert.ScanReferenceIdeal.τ).loc Cert.ScanReferenceIdeal.main_arg8)
          ∧ r.2.mem ((c.tc : Thread Cert.ScanReferenceIdeal.nD Cert.ScanReferenceIdeal.τ).loc Cert.ScanReferenceIdeal.main_arg9) = m' ((c.tc : Thread Cert.ScanReferenceIdeal.nD Cert.ScanReferenceIdeal.τ).loc Cert.ScanReferenceIdeal.main_arg9)
          ∧ r.2.mem ((c.tc : Thread Cert.ScanReferenceIdeal.nD Cert.ScanReferenceIdeal.τ).loc Cert.ScanReferenceIdeal.main_arg10) = m' ((c.tc : Thread Cert.ScanReferenceIdeal.nD Cert.ScanReferenceIdeal.τ).loc Cert.ScanReferenceIdeal.main_arg10)
          ∧ r.2.mem ((c.tc : Thread Cert.ScanReferenceIdeal.nD Cert.ScanReferenceIdeal.τ).loc Cert.ScanReferenceIdeal.main_arg11) = m' ((c.tc : Thread Cert.ScanReferenceIdeal.nD Cert.ScanReferenceIdeal.τ).loc Cert.ScanReferenceIdeal.main_arg11)
          ∧ r.2.mem ((c.tc : Thread Cert.ScanReferenceIdeal.nD Cert.ScanReferenceIdeal.τ).loc Cert.ScanReferenceIdeal.main_arg12) = m' ((c.tc : Thread Cert.ScanReferenceIdeal.nD Cert.ScanReferenceIdeal.τ).loc Cert.ScanReferenceIdeal.main_arg12)
          ∧ r.2.mem ((c.tc : Thread Cert.ScanReferenceIdeal.nD Cert.ScanReferenceIdeal.τ).loc Cert.ScanReferenceIdeal.main_arg13) = m' ((c.tc : Thread Cert.ScanReferenceIdeal.nD Cert.ScanReferenceIdeal.τ).loc Cert.ScanReferenceIdeal.main_arg13)
          ∧ r.2.mem ((c.tc : Thread Cert.ScanReferenceIdeal.nD Cert.ScanReferenceIdeal.τ).loc Cert.ScanReferenceIdeal.main_arg14) = m' ((c.tc : Thread Cert.ScanReferenceIdeal.nD Cert.ScanReferenceIdeal.τ).loc Cert.ScanReferenceIdeal.main_arg14)
          ∧ r.2.mem ((c.tc : Thread Cert.ScanReferenceIdeal.nD Cert.ScanReferenceIdeal.τ).loc Cert.ScanReferenceIdeal.main_arg15) = m' ((c.tc : Thread Cert.ScanReferenceIdeal.nD Cert.ScanReferenceIdeal.τ).loc Cert.ScanReferenceIdeal.main_arg15)
          ∧ r.2.mem ((c.tc : Thread Cert.ScanReferenceIdeal.nD Cert.ScanReferenceIdeal.τ).loc Cert.ScanReferenceIdeal.main_arg16) = m' ((c.tc : Thread Cert.ScanReferenceIdeal.nD Cert.ScanReferenceIdeal.τ).loc Cert.ScanReferenceIdeal.main_arg16)
          ∧ r.2.mem ((c.tc : Thread Cert.ScanReferenceIdeal.nD Cert.ScanReferenceIdeal.τ).loc Cert.ScanReferenceIdeal.main_arg17) = m' ((c.tc : Thread Cert.ScanReferenceIdeal.nD Cert.ScanReferenceIdeal.τ).loc Cert.ScanReferenceIdeal.main_arg17)
          ∧ r.2.mem ((c.tc : Thread Cert.ScanReferenceIdeal.nD Cert.ScanReferenceIdeal.τ).loc Cert.ScanReferenceIdeal.main_arg18) = m' ((c.tc : Thread Cert.ScanReferenceIdeal.nD Cert.ScanReferenceIdeal.τ).loc Cert.ScanReferenceIdeal.main_arg18))

def preserves_Front_FrontIdeal : Prop :=
  True

def algebraic_FrontIdeal_FrontReferenceIdeal_pre_front_admissible [hFrontIdeal : Cert.FrontIdeal.Facts] [hFrontReferenceIdeal : Cert.FrontReferenceIdeal.Facts] [hPre_front_admissible : Cert.Pre_front_admissible.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal_front_admissible m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)
      ∧ m' ((c.tc : Thread Cert.FrontReferenceIdeal.nD Cert.FrontReferenceIdeal.τ).loc Cert.FrontReferenceIdeal.main_arg10) = m ((c.tc : Thread Cert.FrontIdeal.nD Cert.FrontIdeal.τ).loc Cert.FrontIdeal.main_arg10)
      ∧ m' ((c.tc : Thread Cert.FrontReferenceIdeal.nD Cert.FrontReferenceIdeal.τ).loc Cert.FrontReferenceIdeal.main_arg11) = m ((c.tc : Thread Cert.FrontIdeal.nD Cert.FrontIdeal.τ).loc Cert.FrontIdeal.main_arg11)
      ∧ m' ((c.tc : Thread Cert.FrontReferenceIdeal.nD Cert.FrontReferenceIdeal.τ).loc Cert.FrontReferenceIdeal.main_arg12) = m ((c.tc : Thread Cert.FrontIdeal.nD Cert.FrontIdeal.τ).loc Cert.FrontIdeal.main_arg12)) →
    ∃ (v0 : (c : Dev Cert.FrontIdeal.nD) → Buf (Elt Ideal) ((c.tc : Thread Cert.FrontIdeal.nD Cert.FrontIdeal.τ).loc Cert.FrontIdeal.main_v20_0)) (v1 : (c : Dev Cert.FrontIdeal.nD) → Buf (Elt Ideal) ((c.tc : Thread Cert.FrontIdeal.nD Cert.FrontIdeal.τ).loc Cert.FrontIdeal.main_v20_1)) (v2 : (c : Dev Cert.FrontIdeal.nD) → Buf (Elt Ideal) ((c.tc : Thread Cert.FrontIdeal.nD Cert.FrontIdeal.τ).loc Cert.FrontIdeal.main_v20_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v20_0) = v0 c
          ∧ r.2.mem ((c.tc : Thread Cert.FrontIdeal.nD Cert.FrontIdeal.τ).loc Cert.FrontIdeal.main_v20_1) = v1 c
          ∧ r.2.mem ((c.tc : Thread Cert.FrontIdeal.nD Cert.FrontIdeal.τ).loc Cert.FrontIdeal.main_v20_2) = v2 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v126) = v0 c
          ∧ r.2.mem ((c.tc : Thread Cert.FrontReferenceIdeal.nD Cert.FrontReferenceIdeal.τ).loc Cert.FrontReferenceIdeal.main_v129) = v1 c
          ∧ r.2.mem ((c.tc : Thread Cert.FrontReferenceIdeal.nD Cert.FrontReferenceIdeal.τ).loc Cert.FrontReferenceIdeal.main_v130) = v2 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9)
          ∧ r.2.mem ((c.tc : Thread Cert.FrontReferenceIdeal.nD Cert.FrontReferenceIdeal.τ).loc Cert.FrontReferenceIdeal.main_arg10) = m' ((c.tc : Thread Cert.FrontReferenceIdeal.nD Cert.FrontReferenceIdeal.τ).loc Cert.FrontReferenceIdeal.main_arg10)
          ∧ r.2.mem ((c.tc : Thread Cert.FrontReferenceIdeal.nD Cert.FrontReferenceIdeal.τ).loc Cert.FrontReferenceIdeal.main_arg11) = m' ((c.tc : Thread Cert.FrontReferenceIdeal.nD Cert.FrontReferenceIdeal.τ).loc Cert.FrontReferenceIdeal.main_arg11)
          ∧ r.2.mem ((c.tc : Thread Cert.FrontReferenceIdeal.nD Cert.FrontReferenceIdeal.τ).loc Cert.FrontReferenceIdeal.main_arg12) = m' ((c.tc : Thread Cert.FrontReferenceIdeal.nD Cert.FrontReferenceIdeal.τ).loc Cert.FrontReferenceIdeal.main_arg12))

def preserves_Mixing_MixingIdeal : Prop :=
  True

def algebraic_MixingIdeal_MixingReferenceIdeal [hMixingIdeal : Cert.MixingIdeal.Facts] [hMixingReferenceIdeal : Cert.MixingReferenceIdeal.Facts] : Prop :=
  ∀ (m : (ℓ : Loc Cert.MixingIdeal.nD Cert.MixingIdeal.τ Cert.MixingIdeal.sig) → Buf (Elt Ideal) ℓ) (g : Dev Cert.MixingIdeal.nD → PrngReg)
    (m' : (ℓ : Loc Cert.MixingReferenceIdeal.nD Cert.MixingReferenceIdeal.τ Cert.MixingReferenceIdeal.sig) → Buf (Elt Ideal) ℓ) (g' : Dev Cert.MixingReferenceIdeal.nD → PrngReg), Pre_MixingIdeal m →
    (∀ c : Dev Cert.MixingIdeal.nD,
      m' ((c.tc : Thread Cert.MixingReferenceIdeal.nD Cert.MixingReferenceIdeal.τ).loc Cert.MixingReferenceIdeal.main_arg0) = m ((c.tc : Thread Cert.MixingIdeal.nD Cert.MixingIdeal.τ).loc Cert.MixingIdeal.main_arg0)
      ∧ m' ((c.tc : Thread Cert.MixingReferenceIdeal.nD Cert.MixingReferenceIdeal.τ).loc Cert.MixingReferenceIdeal.main_arg1) = m ((c.tc : Thread Cert.MixingIdeal.nD Cert.MixingIdeal.τ).loc Cert.MixingIdeal.main_arg1)
      ∧ m' ((c.tc : Thread Cert.MixingReferenceIdeal.nD Cert.MixingReferenceIdeal.τ).loc Cert.MixingReferenceIdeal.main_arg2) = m ((c.tc : Thread Cert.MixingIdeal.nD Cert.MixingIdeal.τ).loc Cert.MixingIdeal.main_arg2)
      ∧ m' ((c.tc : Thread Cert.MixingReferenceIdeal.nD Cert.MixingReferenceIdeal.τ).loc Cert.MixingReferenceIdeal.main_arg3) = m ((c.tc : Thread Cert.MixingIdeal.nD Cert.MixingIdeal.τ).loc Cert.MixingIdeal.main_arg3)
      ∧ m' ((c.tc : Thread Cert.MixingReferenceIdeal.nD Cert.MixingReferenceIdeal.τ).loc Cert.MixingReferenceIdeal.main_arg4) = m ((c.tc : Thread Cert.MixingIdeal.nD Cert.MixingIdeal.τ).loc Cert.MixingIdeal.main_arg4)) →
    ∃ (v0 : (c : Dev Cert.MixingIdeal.nD) → Buf (Elt Ideal) ((c.tc : Thread Cert.MixingIdeal.nD Cert.MixingIdeal.τ).loc Cert.MixingIdeal.main_v3)),
      θ_run (Cert.MixingIdeal.defs (F := Ideal)) (onTc (τ := Cert.MixingIdeal.τ) (Cert.MixingIdeal.main (F := Ideal))) ⟨m, fun _ => 0, g⟩ (fun r => ∀ c : Dev Cert.MixingIdeal.nD,
          r.2.mem ((c.tc : Thread Cert.MixingIdeal.nD Cert.MixingIdeal.τ).loc Cert.MixingIdeal.main_v3) = v0 c
          ∧ r.2.mem ((c.tc : Thread Cert.MixingIdeal.nD Cert.MixingIdeal.τ).loc Cert.MixingIdeal.main_arg0) = m ((c.tc : Thread Cert.MixingIdeal.nD Cert.MixingIdeal.τ).loc Cert.MixingIdeal.main_arg0)
          ∧ r.2.mem ((c.tc : Thread Cert.MixingIdeal.nD Cert.MixingIdeal.τ).loc Cert.MixingIdeal.main_arg1) = m ((c.tc : Thread Cert.MixingIdeal.nD Cert.MixingIdeal.τ).loc Cert.MixingIdeal.main_arg1)
          ∧ r.2.mem ((c.tc : Thread Cert.MixingIdeal.nD Cert.MixingIdeal.τ).loc Cert.MixingIdeal.main_arg2) = m ((c.tc : Thread Cert.MixingIdeal.nD Cert.MixingIdeal.τ).loc Cert.MixingIdeal.main_arg2)
          ∧ r.2.mem ((c.tc : Thread Cert.MixingIdeal.nD Cert.MixingIdeal.τ).loc Cert.MixingIdeal.main_arg3) = m ((c.tc : Thread Cert.MixingIdeal.nD Cert.MixingIdeal.τ).loc Cert.MixingIdeal.main_arg3)
          ∧ r.2.mem ((c.tc : Thread Cert.MixingIdeal.nD Cert.MixingIdeal.τ).loc Cert.MixingIdeal.main_arg4) = m ((c.tc : Thread Cert.MixingIdeal.nD Cert.MixingIdeal.τ).loc Cert.MixingIdeal.main_arg4))
      ∧ θ_run (Cert.MixingReferenceIdeal.defs (F := Ideal)) (onTc (τ := Cert.MixingReferenceIdeal.τ) (Cert.MixingReferenceIdeal.main (F := Ideal))) ⟨m', fun _ => 0, g'⟩ (fun r => ∀ c : Dev Cert.MixingReferenceIdeal.nD,
          r.2.mem ((c.tc : Thread Cert.MixingReferenceIdeal.nD Cert.MixingReferenceIdeal.τ).loc Cert.MixingReferenceIdeal.main_v23) = v0 c
          ∧ r.2.mem ((c.tc : Thread Cert.MixingReferenceIdeal.nD Cert.MixingReferenceIdeal.τ).loc Cert.MixingReferenceIdeal.main_arg0) = m' ((c.tc : Thread Cert.MixingReferenceIdeal.nD Cert.MixingReferenceIdeal.τ).loc Cert.MixingReferenceIdeal.main_arg0)
          ∧ r.2.mem ((c.tc : Thread Cert.MixingReferenceIdeal.nD Cert.MixingReferenceIdeal.τ).loc Cert.MixingReferenceIdeal.main_arg1) = m' ((c.tc : Thread Cert.MixingReferenceIdeal.nD Cert.MixingReferenceIdeal.τ).loc Cert.MixingReferenceIdeal.main_arg1)
          ∧ r.2.mem ((c.tc : Thread Cert.MixingReferenceIdeal.nD Cert.MixingReferenceIdeal.τ).loc Cert.MixingReferenceIdeal.main_arg2) = m' ((c.tc : Thread Cert.MixingReferenceIdeal.nD Cert.MixingReferenceIdeal.τ).loc Cert.MixingReferenceIdeal.main_arg2)
          ∧ r.2.mem ((c.tc : Thread Cert.MixingReferenceIdeal.nD Cert.MixingReferenceIdeal.τ).loc Cert.MixingReferenceIdeal.main_arg3) = m' ((c.tc : Thread Cert.MixingReferenceIdeal.nD Cert.MixingReferenceIdeal.τ).loc Cert.MixingReferenceIdeal.main_arg3)
          ∧ r.2.mem ((c.tc : Thread Cert.MixingReferenceIdeal.nD Cert.MixingReferenceIdeal.τ).loc Cert.MixingReferenceIdeal.main_arg4) = m' ((c.tc : Thread Cert.MixingReferenceIdeal.nD Cert.MixingReferenceIdeal.τ).loc Cert.MixingReferenceIdeal.main_arg4))

def Claim : Prop :=
  ∃ (hScan : Cert.Scan.Facts) (hScanIdeal : Cert.ScanIdeal.Facts) (hScanReferenceIdeal : Cert.ScanReferenceIdeal.Facts) (hFront : Cert.Front.Facts) (hFrontIdeal : Cert.FrontIdeal.Facts) (hFrontReferenceIdeal : Cert.FrontReferenceIdeal.Facts) (hMixing : Cert.Mixing.Facts) (hMixingIdeal : Cert.MixingIdeal.Facts) (hMixingReferenceIdeal : Cert.MixingReferenceIdeal.Facts) (hPre_admissible : Cert.Pre_admissible.Facts) (hPre_front_admissible : Cert.Pre_front_admissible.Facts),
    quiescent_Scan (hScan := hScan)
    ∧ quiescent_ScanIdeal (hScanIdeal := hScanIdeal)
    ∧ quiescent_ScanIdeal_pre_admissible (hScanIdeal := hScanIdeal) (hPre_admissible := hPre_admissible)
    ∧ quiescent_ScanReferenceIdeal (hScanReferenceIdeal := hScanReferenceIdeal)
    ∧ quiescent_ScanReferenceIdeal_pre_admissible (hScanReferenceIdeal := hScanReferenceIdeal) (hPre_admissible := hPre_admissible)
    ∧ quiescent_Front (hFront := hFront)
    ∧ quiescent_FrontIdeal (hFrontIdeal := hFrontIdeal)
    ∧ quiescent_FrontIdeal_pre_front_admissible (hFrontIdeal := hFrontIdeal) (hPre_front_admissible := hPre_front_admissible)
    ∧ quiescent_FrontReferenceIdeal (hFrontReferenceIdeal := hFrontReferenceIdeal)
    ∧ quiescent_FrontReferenceIdeal_pre_front_admissible (hFrontReferenceIdeal := hFrontReferenceIdeal) (hPre_front_admissible := hPre_front_admissible)
    ∧ quiescent_Mixing (hMixing := hMixing)
    ∧ quiescent_MixingIdeal (hMixingIdeal := hMixingIdeal)
    ∧ quiescent_MixingReferenceIdeal (hMixingReferenceIdeal := hMixingReferenceIdeal)
    ∧ preserves_Scan_ScanIdeal
    ∧ algebraic_ScanIdeal_ScanReferenceIdeal_pre_admissible (hScanIdeal := hScanIdeal) (hScanReferenceIdeal := hScanReferenceIdeal) (hPre_admissible := hPre_admissible)
    ∧ preserves_Front_FrontIdeal
    ∧ algebraic_FrontIdeal_FrontReferenceIdeal_pre_front_admissible (hFrontIdeal := hFrontIdeal) (hFrontReferenceIdeal := hFrontReferenceIdeal) (hPre_front_admissible := hPre_front_admissible)
    ∧ preserves_Mixing_MixingIdeal
    ∧ algebraic_MixingIdeal_MixingReferenceIdeal (hMixingIdeal := hMixingIdeal) (hMixingReferenceIdeal := hMixingReferenceIdeal)
-- ==== Pre_admissible.lean ====
abbrev S4x2 : Shape := ⟨2, ![4, 2]⟩
abbrev S2x4x1024x1024 : Shape := ⟨4, ![2, 4, 1024, 1024]⟩
abbrev S4x256x32x32 : Shape := ⟨4, ![4, 256, 32, 32]⟩
abbrev S256x512 : Shape := ⟨2, ![256, 512]⟩
abbrev S256 : Shape := ⟨1, ![256]⟩
abbrev S512x1024 : Shape := ⟨2, ![512, 1024]⟩
abbrev S1024x16 : Shape := ⟨2, ![1024, 16]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S4x2 : S_.BroadcastsInDim S4x2 (![] : Fin 0 → Fin S4x2.rank)
  reducesTo_S4x2_S_d0_1 : S4x2.ReducesTo [0, 1] S_
  bcast_S_S2x4x1024x1024 : S_.BroadcastsInDim S2x4x1024x1024 (![] : Fin 0 → Fin S2x4x1024x1024.rank)
  reducesTo_S2x4x1024x1024_S_d0_1_2_3 : S2x4x1024x1024.ReducesTo [0, 1, 2, 3] S_
  bcast_S_S256x512 : S_.BroadcastsInDim S256x512 (![] : Fin 0 → Fin S256x512.rank)
  reducesTo_S256x512_S_d0_1 : S256x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part3 {F : FTy → Type} [FloatOps F] (main_arg17 : FVec F S1024x16 .f32) (main_v47 : IVec S_ 1) (main_v50 : IVec S512x1024 1) : IVec S_ 1 :=
  let main_c_19 : IVec S_ 1 := constantI S_ 1 1#1
  let main_v51 : IVec S_ 1 := (fun x v => Host.reduce IntOp.andi x v reducesTo_S512x1024_S_d0_1 h_S_) main_v50 main_c_19
  let main_v52 : IVec S_ 1 := andi main_v47 main_v51
  let main_v53 : FVec F S1024x16 .f32 := Host.absf main_arg17
  let main_cst_20 : FVec F S_ .f32 := constant S_ .f32 0x7F800000#32
  let main_v54 : FVec F S1024x16 .f32 := broadcastInDim S1024x16 ![] bcast_S_S1024x16 main_cst_20
  let main_v55 : IVec S1024x16 1 := cmpf .olt main_v53 main_v54
  let main_c_21 : IVec S_ 1 := constantI S_ 1 1#1
  let main_v56 : IVec S_ 1 := (fun x v => Host.reduce IntOp.andi x v reducesTo_S1024x16_S_d0_1 h_S_) main_v55 main_c_21
  let main_v57 : IVec S_ 1 := andi main_v52 main_v56
  main_v57

def fn_part2 {F : FTy → Type} [FloatOps F] (main_arg10 : FVec F S512x1024 .f32) (main_arg13 : FVec F S1024x16 .f32) (main_arg14 : FVec F S512x1024 .f32) (main_arg17 : FVec F S1024x16 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S512x1024 .f32 := Host.absf main_arg10
  let main_cst_14 : FVec F S_ .f32 := constant S_ .f32 0x7F800000#32
  let main_v39 : FVec F S512x1024 .f32 := broadcastInDim S512x1024 ![] bcast_S_S512x1024 main_cst_14
  let main_v40 : IVec S512x1024 1 := cmpf .olt main_v38 main_v39
  let main_c_15 : IVec S_ 1 := constantI S_ 1 1#1
  let main_v41 : IVec S_ 1 := (fun x v => Host.reduce IntOp.andi x v reducesTo_S512x1024_S_d0_1 h_S_) main_v40 main_c_15
  let main_v42 : IVec S_ 1 := andi main_v37 main_v41
  let main_v43 : FVec F S1024x16 .f32 := Host.absf main_arg13
  let main_cst_16 : FVec F S_ .f32 := constant S_ .f32 0x7F800000#32
  let main_v44 : FVec F S1024x16 .f32 := broadcastInDim S1024x16 ![] bcast_S_S1024x16 main_cst_16
  let main_v45 : IVec S1024x16 1 := cmpf .olt main_v43 main_v44
  let main_c_17 : IVec S_ 1 := constantI S_ 1 1#1
  let main_v46 : IVec S_ 1 := (fun x v => Host.reduce IntOp.andi x v reducesTo_S1024x16_S_d0_1 h_S_) main_v45 main_c_17
  let main_v47 : IVec S_ 1 := andi main_v42 main_v46
  let main_v48 : FVec F S512x1024 .f32 := Host.absf main_arg14
  let main_cst_18 : FVec F S_ .f32 := constant S_ .f32 0x7F800000#32
  let main_v49 : FVec F S512x1024 .f32 := broadcastInDim S512x1024 ![] bcast_S_S512x1024 main_cst_18
  let main_v50 : IVec S512x1024 1 := cmpf .olt main_v48 main_v49
  fn_part3 (F := F) main_arg17 main_v47 main_v50

def fn_part1 {F : FTy → Type} [FloatOps F] (main_arg6 : FVec F S256 .f32) (main_arg7 : FVec F S256 .f32) (main_arg8 : FVec F S256 .f32) (main_arg9 : FVec F S256 .f32) (main_arg10 : FVec F S512x1024 .f32) (main_arg13 : FVec F S1024x16 .f32) (main_arg14 : FVec F S512x1024 .f32) (main_arg17 : FVec F S1024x16 .f32) (main_v12 : IVec S_ 1) (main_v15 : IVec S256x512 1) (main_c_5 : IVec S_ 1) : IVec S_ 1 :=
  let main_v16 : IVec S_ 1 := (fun x v => Host.reduce IntOp.andi x v reducesTo_S256x512_S_d0_1 h_S_) main_v15 main_c_5
  let main_v17 : IVec S_ 1 := andi main_v12 main_v16
  let main_v18 : FVec F S256 .f32 := Host.absf main_arg6
  let main_cst_6 : FVec F S_ .f32 := constant S_ .f32 0x7F800000#32
  let main_v19 : FVec F S256 .f32 := broadcastInDim S256 ![] bcast_S_S256 main_cst_6
  let main_v20 : IVec S256 1 := cmpf .olt main_v18 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v17 main_v21
  let main_v23 : FVec F S256 .f32 := Host.absf main_arg7
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg8
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256 .f32 := Host.absf main_arg9
  fn_part2 (F := F) main_arg10 main_arg13 main_arg14 main_arg17 main_v32 main_v33

def fn {F : FTy → Type} [FloatOps F] (main_arg0 : FVec F S4x2 .f32) (main_arg1 : FVec F S2x4x1024x1024 .f32) (main_arg2 : FVec F S2x4x1024x1024 .f32) (main_arg3 : FVec F S4x256x32x32 .f32) (main_arg4 : FVec F S4x256x32x32 .f32) (main_arg5 : FVec F S256x512 .f32) (main_arg6 : FVec F S256 .f32) (main_arg7 : FVec F S256 .f32) (main_arg8 : FVec F S256 .f32) (main_arg9 : FVec F S256 .f32) (main_arg10 : FVec F S512x1024 .f32) (main_arg11 : FVec F S1024x16 .f32) (main_arg12 : FVec F S1024x16 .f32) (main_arg13 : FVec F S1024x16 .f32) (main_arg14 : FVec F S512x1024 .f32) (main_arg15 : FVec F S1024x16 .f32) (main_arg16 : FVec F S1024x16 .f32) (main_arg17 : FVec F S1024x16 .f32) (main_arg18 : FVec F S_ .f32) : IVec S_ 1 :=
  let main_cst : FVec F S_ .f32 := constant S_ .f32 0x00000000#32
  let main_v0 : FVec F S256 .f32 := broadcastInDim S256 ![] bcast_S_S256 main_cst
  let main_v1 : IVec S256 1 := cmpf .oge main_arg9 main_v0
  let main_c : IVec S_ 1 := constantI S_ 1 1#1
  let main_v2 : IVec S_ 1 := (fun x v => Host.reduce IntOp.andi x v reducesTo_S256_S_d0 h_S_) main_v1 main_c
  let main_v3 : FVec F S4x2 .f32 := Host.absf main_arg0
  let main_cst_0 : FVec F S_ .f32 := constant S_ .f32 0x7F800000#32
  let main_v4 : FVec F S4x2 .f32 := broadcastInDim S4x2 ![] bcast_S_S4x2 main_cst_0
  let main_v5 : IVec S4x2 1 := cmpf .olt main_v3 main_v4
  let main_c_1 : IVec S_ 1 := constantI S_ 1 1#1
  let main_v6 : IVec S_ 1 := (fun x v => Host.reduce IntOp.andi x v reducesTo_S4x2_S_d0_1 h_S_) main_v5 main_c_1
  let main_v7 : IVec S_ 1 := andi main_v2 main_v6
  let main_v8 : FVec F S2x4x1024x1024 .f32 := Host.absf main_arg2
  let main_cst_2 : FVec F S_ .f32 := constant S_ .f32 0x7F800000#32
  let main_v9 : FVec F S2x4x1024x1024 .f32 := broadcastInDim S2x4x1024x1024 ![] bcast_S_S2x4x1024x1024 main_cst_2
  let main_v10 : IVec S2x4x1024x1024 1 := cmpf .olt main_v8 main_v9
  let main_c_3 : IVec S_ 1 := constantI S_ 1 1#1
  let main_v11 : IVec S_ 1 := (fun x v => Host.reduce IntOp.andi x v reducesTo_S2x4x1024x1024_S_d0_1_2_3 h_S_) main_v10 main_c_3
  let main_v12 : IVec S_ 1 := andi main_v7 main_v11
  let main_v13 : FVec F S256x512 .f32 := Host.absf main_arg5
  let main_cst_4 : FVec F S_ .f32 := constant S_ .f32 0x7F800000#32
  let main_v14 : FVec F S256x512 .f32 := broadcastInDim S256x512 ![] bcast_S_S256x512 main_cst_4
  let main_v15 : IVec S256x512 1 := cmpf .olt main_v13 main_v14
  let main_c_5 : IVec S_ 1 := constantI S_ 1 1#1
  fn_part1 (F := F) main_arg6 main_arg7 main_arg8 main_arg9 main_arg10 main_arg13 main_arg14 main_arg17 main_v12 main_v15 main_c_5
-- ==== Pre_front_admissible.lean ====
abbrev S4x256x32x32 : Shape := ⟨4, ![4, 256, 32, 32]⟩
abbrev S512x256 : Shape := ⟨2, ![512, 256]⟩
abbrev S512 : Shape := ⟨1, ![512]⟩
abbrev S2048x512 : Shape := ⟨2, ![2048, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn_part1 {F : FTy → Type} [FloatOps F] (main_arg6 : FVec F S512 .f32) (main_v12 : IVec S_ 1) (main_v15 : IVec S512 1) (main_c_5 : IVec S_ 1) : IVec S_ 1 :=
  let main_v16 : IVec S_ 1 := (fun x v => Host.reduce IntOp.andi x v reducesTo_S512_S_d0 h_S_) main_v15 main_c_5
  let main_v17 : IVec S_ 1 := andi main_v12 main_v16
  let main_v18 : FVec F S512 .f32 := Host.absf main_arg6
  let main_cst_6 : FVec F S_ .f32 := constant S_ .f32 0x7F800000#32
  let main_v19 : FVec F S512 .f32 := broadcastInDim S512 ![] bcast_S_S512 main_cst_6
  let main_v20 : IVec S512 1 := cmpf .olt main_v18 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v17 main_v21
  main_v22

def fn {F : FTy → Type} [FloatOps F] (main_arg0 : FVec F S4x256x32x32 .f32) (main_arg1 : FVec F S4x256x32x32 .f32) (main_arg2 : FVec F S512x256 .f32) (main_arg3 : FVec F S512 .f32) (main_arg4 : FVec F S512 .f32) (main_arg5 : FVec F S512 .f32) (main_arg6 : FVec F S512 .f32) (main_arg7 : FVec F S2048x512 .f32) (main_arg8 : FVec F S512 .f32) (main_arg9 : FVec F S512 .f32) (main_arg10 : FVec F S2048x512 .f32) (main_arg11 : FVec F S512 .f32) (main_arg12 : FVec F S512 .f32) : IVec S_ 1 :=
  let main_cst : FVec F S_ .f32 := constant S_ .f32 0x00000000#32
  let main_v0 : FVec F S512 .f32 := broadcastInDim S512 ![] bcast_S_S512 main_cst
  let main_v1 : IVec S512 1 := cmpf .oge main_arg6 main_v0
  let main_c : IVec S_ 1 := constantI S_ 1 1#1
  let main_v2 : IVec S_ 1 := (fun x v => Host.reduce IntOp.andi x v reducesTo_S512_S_d0 h_S_) main_v1 main_c
  let main_v3 : FVec F S512 .f32 := Host.absf main_arg3
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_c_1 : IVec S_ 1 := constantI S_ 1 1#1
  let main_v6 : IVec S_ 1 := (fun x v => Host.reduce IntOp.andi x v reducesTo_S512_S_d0 h_S_) main_v5 main_c_1
  let main_v7 : IVec S_ 1 := andi main_v2 main_v6
  let main_v8 : FVec F S512 .f32 := Host.absf main_arg4
  let main_cst_2 : FVec F S_ .f32 := constant S_ .f32 0x7F800000#32
  let main_v9 : FVec F S512 .f32 := broadcastInDim S512 ![] bcast_S_S512 main_cst_2
  let main_v10 : IVec S512 1 := cmpf .olt main_v8 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v7 main_v11
  let main_v13 : FVec F S512 .f32 := Host.absf main_arg5
  let main_cst_4 : FVec F S_ .f32 := constant S_ .f32 0x7F800000#32
  let main_v14 : FVec F S512 .f32 := broadcastInDim S512 ![] bcast_S_S512 main_cst_4
  let main_v15 : IVec S512 1 := cmpf .olt main_v13 main_v14
  let main_c_5 : IVec S_ 1 := constantI S_ 1 1#1
  fn_part1 (F := F) main_arg6 main_v12 main_v15 main_c_5
-- ==== Scan.lean ====
abbrev S4x2 : Shape := ⟨2, ![4, 2]⟩
abbrev S2x4x1024x1024 : Shape := ⟨4, ![2, 4, 1024, 1024]⟩
abbrev S4x256x32x32 : Shape := ⟨4, ![4, 256, 32, 32]⟩
abbrev S256x512 : Shape := ⟨2, ![256, 512]⟩
abbrev S256 : Shape := ⟨1, ![256]⟩
abbrev S512x1024 : Shape := ⟨2, ![512, 1024]⟩
abbrev S1024x16 : Shape := ⟨2, ![1024, 16]⟩
abbrev S_ : Shape := ⟨0, ![]⟩
abbrev S4x256x1024 : Shape := ⟨3, ![4, 256, 1024]⟩
abbrev S1x4x256x1024 : Shape := ⟨4, ![1, 4, 256, 1024]⟩
abbrev S2x4x256x1024 : Shape := ⟨4, ![2, 4, 256, 1024]⟩
abbrev S1x512x1024 : Shape := ⟨3, ![1, 512, 1024]⟩
abbrev S2x512x1024 : Shape := ⟨3, ![2, 512, 1024]⟩
abbrev S16x1024 : Shape := ⟨2, ![16, 1024]⟩
abbrev S32x1024 : Shape := ⟨2, ![32, 1024]⟩
abbrev S1x32x1024 : Shape := ⟨3, ![1, 32, 1024]⟩
abbrev S2x32x1024 : Shape := ⟨3, ![2, 32, 1024]⟩
abbrev S1x1 : Shape := ⟨2, ![1, 1]⟩
abbrev S256x1 : Shape := ⟨2, ![256, 1]⟩
abbrev S1x1x1024x512 : Shape := ⟨4, ![1, 1, 1024, 512]⟩
abbrev S1x32x512 : Shape := ⟨3, ![1, 32, 512]⟩
abbrev S1x512x512 : Shape := ⟨3, ![1, 512, 512]⟩
abbrev S1x1x256x1024 : Shape := ⟨4, ![1, 1, 256, 1024]⟩
abbrev S1024x512 : Shape := ⟨2, ![1024, 512]⟩
abbrev S32x512 : Shape := ⟨2, ![32, 512]⟩
abbrev S1x1x8x512 : Shape := ⟨4, ![1, 1, 8, 512]⟩
abbrev S8x512 : Shape := ⟨2, ![8, 512]⟩
abbrev S1x512 : Shape := ⟨2, ![1, 512]⟩
abbrev S512 : Shape := ⟨1, ![512]⟩
abbrev S512x512 : Shape := ⟨2, ![512, 512]⟩
abbrev S256x1024 : Shape := ⟨2, ![256, 1024]⟩

abbrev nBuf : Space → Nat
  | .hbm => 66
  | .vmem => 29
  | .smem => 1
  | _ => 0

abbrev bufTy : (tb : Table) → Fin (tcTables nBuf tb) → BufTy
  | .hbm, ⟨0, _⟩ => ⟨S4x2, .f32⟩
  | .hbm, ⟨1, _⟩ => ⟨S2x4x1024x1024, .f32⟩
  | .hbm, ⟨2, _⟩ => ⟨S2x4x1024x1024, .f32⟩
  | .hbm, ⟨3, _⟩ => ⟨S4x256x32x32, .f32⟩
  | .hbm, ⟨4, _⟩ => ⟨S4x256x32x32, .f32⟩
  | .hbm, ⟨5, _⟩ => ⟨S256x512, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S512x1024, .f32⟩
  | .hbm, ⟨11, _⟩ => ⟨S1024x16, .f32⟩
  | .hbm, ⟨12, _⟩ => ⟨S1024x16, .f32⟩
  | .hbm, ⟨13, _⟩ => ⟨S1024x16, .f32⟩
  | .hbm, ⟨14, _⟩ => ⟨S512x1024, .f32⟩
  | .hbm, ⟨15, _⟩ => ⟨S1024x16, .f32⟩
  | .hbm, ⟨16, _⟩ => ⟨S1024x16, .f32⟩
  | .hbm, ⟨17, _⟩ => ⟨S1024x16, .f32⟩
  | .hbm, ⟨18, _⟩ => ⟨S_, .f32⟩
  | .hbm, ⟨19, _⟩ => ⟨S4x256x1024, .f32⟩
  | .hbm, ⟨20, _⟩ => ⟨S4x256x1024, .f32⟩
  | .hbm, ⟨21, _⟩ => ⟨S1x4x256x1024, .f32⟩
  | .hbm, ⟨22, _⟩ => ⟨S1x4x256x1024, .f32⟩
  | .hbm, ⟨23, _⟩ => ⟨S2x4x256x1024, .f32⟩
  | .hbm, ⟨24, _⟩ => ⟨S1x512x1024, .f32⟩
  | .hbm, ⟨25, _⟩ => ⟨S1x512x1024, .f32⟩
  | .hbm, ⟨26, _⟩ => ⟨S2x512x1024, .f32⟩
  | .hbm, ⟨27, _⟩ => ⟨S16x1024, .f32⟩
  | .hbm, ⟨28, _⟩ => ⟨S16x1024, .f32⟩
  | .hbm, ⟨29, _⟩ => ⟨S32x1024, .f32⟩
  | .hbm, ⟨30, _⟩ => ⟨S16x1024, .f32⟩
  | .hbm, ⟨31, _⟩ => ⟨S16x1024, .f32⟩
  | .hbm, ⟨32, _⟩ => ⟨S32x1024, .f32⟩
  | .hbm, ⟨33, _⟩ => ⟨S1x32x1024, .f32⟩
  | .hbm, ⟨34, _⟩ => ⟨S1x32x1024, .f32⟩
  | .hbm, ⟨35, _⟩ => ⟨S2x32x1024, .f32⟩
  | .hbm, ⟨36, _⟩ => ⟨S16x1024, .f32⟩
  | .hbm, ⟨37, _⟩ => ⟨S16x1024, .f32⟩
  | .hbm, ⟨38, _⟩ => ⟨S32x1024, .f32⟩
  | .hbm, ⟨39, _⟩ => ⟨S16x1024, .f32⟩
  | .hbm, ⟨40, _⟩ => ⟨S16x1024, .f32⟩
  | .hbm, ⟨41, _⟩ => ⟨S32x1024, .f32⟩
  | .hbm, ⟨42, _⟩ => ⟨S1x32x1024, .f32⟩
  | .hbm, ⟨43, _⟩ => ⟨S1x32x1024, .f32⟩
  | .hbm, ⟨44, _⟩ => ⟨S2x32x1024, .f32⟩
  | .hbm, ⟨45, _⟩ => ⟨S16x1024, .f32⟩
  | .hbm, ⟨46, _⟩ => ⟨S16x1024, .f32⟩
  | .hbm, ⟨47, _⟩ => ⟨S32x1024, .f32⟩
  | .hbm, ⟨48, _⟩ => ⟨S16x1024, .f32⟩
  | .hbm, ⟨49, _⟩ => ⟨S16x1024, .f32⟩
  | .hbm, ⟨50, _⟩ => ⟨S32x1024, .f32⟩
  | .hbm, ⟨51, _⟩ => ⟨S1x32x1024, .f32⟩
  | .hbm, ⟨52, _⟩ => ⟨S1x32x1024, .f32⟩
  | .hbm, ⟨53, _⟩ => ⟨S2x32x1024, .f32⟩
  | .hbm, ⟨54, _⟩ => ⟨S1x1, .f32⟩
  | .hbm, ⟨55, _⟩ => ⟨S256x1, .f32⟩
  | .hbm, ⟨56, _⟩ => ⟨S256x1, .f32⟩
  | .hbm, ⟨57, _⟩ => ⟨S256x1, .f32⟩
  | .hbm, ⟨58, _⟩ => ⟨S256x1, .f32⟩
  | .hbm, ⟨59, _⟩ => ⟨S2x4x256x1024, .f32⟩
  | .hbm, ⟨60, _⟩ => ⟨S1x4x256x1024, .f32⟩
  | .hbm, ⟨61, _⟩ => ⟨S4x256x1024, .f32⟩
  | .hbm, ⟨62, _⟩ => ⟨S4x256x32x32, .f32⟩
  | .hbm, ⟨63, _⟩ => ⟨S1x4x256x1024, .f32⟩
  | .hbm, ⟨64, _⟩ => ⟨S4x256x1024, .f32⟩
  | .hbm, ⟨65, _⟩ => ⟨S4x256x32x32, .f32⟩
  | .local _ .vmem, ⟨0, _⟩ => ⟨S1x1x1024x512, .f32⟩
  | .local _ .vmem, ⟨1, _⟩ => ⟨S1x1x1024x512, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x32x512, .f32⟩
  | .local _ .vmem, ⟨5, _⟩ => ⟨S1x32x512, .f32⟩
  | .local _ .vmem, ⟨6, _⟩ => ⟨S1x32x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .f32⟩
  | .local _ .vmem, ⟨10, _⟩ => ⟨S1x1, .f32⟩
  | .local _ .vmem, ⟨11, _⟩ => ⟨S1x512x512, .f32⟩
  | .local _ .vmem, ⟨12, _⟩ => ⟨S1x512x512, .f32⟩
  | .local _ .vmem, ⟨13, _⟩ => ⟨S256x512, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S1x1x256x1024, .f32⟩
  | .local _ .vmem, ⟨19, _⟩ => ⟨S1x1x256x1024, .f32⟩
  | .local _ .vmem, ⟨20, _⟩ => ⟨S1x1x256x1024, .f32⟩
  | .local _ .vmem, ⟨21, _⟩ => ⟨S1x1x256x1024, .f32⟩
  | .local _ .vmem, ⟨22, _⟩ => ⟨S1024x512, .f32⟩
  | .local _ .vmem, ⟨23, _⟩ => ⟨S1024x512, .f32⟩
  | .local _ .vmem, ⟨24, _⟩ => ⟨S512x1024, .f32⟩
  | .local _ .vmem, ⟨25, _⟩ => ⟨S32x512, .f32⟩
  | .local _ .vmem, ⟨26, _⟩ => ⟨S32x512, .f32⟩
  | .local _ .vmem, ⟨27, _⟩ => ⟨S32x512, .f32⟩
  | .local _ .vmem, ⟨28, _⟩ => ⟨S32x512, .f32⟩
  | .local _ .smem, ⟨0, _⟩ => ⟨S4x2, .f32⟩
  | _, _ => ⟨S4x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_1 : BitVec 32 := 0#32
  let v4 : BitVec 1 := Scalar.cmpi .slt arg0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi arg0 c2_i32_0
  let c0_i32_4 : BitVec 32 := 0#32
  let v14 : BitVec 1 := Scalar.cmpi .ne v13 c0_i32_4
  let v15 : BitVec 1 := Scalar.andi v12 v14
  let v1 : BitVec 32 := Scalar.divsi arg0 c2_i32_0
  let c1_i32 : BitVec 32 := 1#32
  let v16 : BitVec 32 := Scalar.subi v1 c1_i32
  let v17 : BitVec 32 := Scalar.select v15 v16 v1
  let c4_i32 : BitVec 32 := 4#32
  let v18 : BitVec 32 := Scalar.remsi v17 c4_i32
  let v31 : Index := Scalar.indexCast v18
  let c0_11 : Index := 0#32
  ![v31.toNat, 0]
def k0_off2 (i : grid0.Coords) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_1 : BitVec 32 := 0#32
  let v4 : BitVec 1 := Scalar.cmpi .slt arg0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi arg0 c2_i32_0
  let c0_i32_4 : BitVec 32 := 0#32
  let v14 : BitVec 1 := Scalar.cmpi .ne v13 c0_i32_4
  let v15 : BitVec 1 := Scalar.andi v12 v14
  let v1 : BitVec 32 := Scalar.divsi arg0 c2_i32_0
  let c1_i32 : BitVec 32 := 1#32
  let v16 : BitVec 32 := Scalar.subi v1 c1_i32
  let v17 : BitVec 32 := Scalar.select v15 v16 v1
  let c4_i32 : BitVec 32 := 4#32
  let v18 : BitVec 32 := Scalar.remsi v17 c4_i32
  let v33 : Index := Scalar.indexCast v18
  let c1 : Index := 1#32
  ![v33.toNat, 1]
@[reducible] def k0_t1_loop : Scf.Loop 32 :=
  let c0_i32_23 : BitVec 32 := 0#32
  let c128_i32 : BitVec 32 := 128#32
  let v56 : BitVec 32 := Scalar.addi c0_i32_23 c128_i32
  let c1_i32_24 : BitVec 32 := 1#32
  ⟨c0_i32_23, v56, c1_i32_24⟩
def k0_mult1 (k0_t1 : Fin k0_t1_loop.trips) : BitVec 32 :=
  let c0_i32_23 : BitVec 32 := 0#32
  let c1_i32_24 : BitVec 32 := 1#32
  let arg23 : BitVec 32 := Scf.iv c0_i32_23 c1_i32_24 k0_t1
  let c8_i32 : BitVec 32 := 8#32
  let v78 : BitVec 32 := Scalar.muli arg23 c8_i32
  v78
def k0_mult2 (k0_t1 : Fin k0_t1_loop.trips) : BitVec 32 :=
  let c1016_i32 : BitVec 32 := 1016#32
  let c0_i32_23 : BitVec 32 := 0#32
  let c1_i32_24 : BitVec 32 := 1#32
  let arg23 : BitVec 32 := Scf.iv c0_i32_23 c1_i32_24 k0_t1
  let c8_i32_53 : BitVec 32 := 8#32
  let v80 : BitVec 32 := Scalar.muli arg23 c8_i32_53
  let v81 : BitVec 32 := Scalar.subi c1016_i32 v80
  v81
def k0_off3 (k0_t1 : Fin k0_t1_loop.trips) : Fin 4 → Nat :=
  let c0_54 : Index := 0#32
  let c0_55 : Index := 0#32
  let c0_i32_23 : BitVec 32 := 0#32
  let c1_i32_24 : BitVec 32 := 1#32
  let arg23 : BitVec 32 := Scf.iv c0_i32_23 c1_i32_24 k0_t1
  let c8_i32 : BitVec 32 := 8#32
  let v78 : BitVec 32 := Scalar.muli arg23 c8_i32
  let v79 : BitVec 32 := v78
  let v83 : Index := Scalar.indexCast v79
  let c0_56 : Index := 0#32
  ![0, 0, v83.toNat, 0]
def k0_off4 (k0_t1 : Fin k0_t1_loop.trips) : Fin 4 → Nat :=
  let c0_57 : Index := 0#32
  let c0_58 : Index := 0#32
  let c1016_i32 : BitVec 32 := 1016#32
  let c0_i32_23 : BitVec 32 := 0#32
  let c1_i32_24 : BitVec 32 := 1#32
  let arg23 : BitVec 32 := Scf.iv c0_i32_23 c1_i32_24 k0_t1
  let c8_i32_53 : BitVec 32 := 8#32
  let v80 : BitVec 32 := Scalar.muli arg23 c8_i32_53
  let v81 : BitVec 32 := Scalar.subi c1016_i32 v80
  let v82 : BitVec 32 := v81
  let v86 : Index := Scalar.indexCast v82
  let c0_59 : Index := 0#32
  ![0, 0, v86.toNat, 0]
def k0_off5 (k0_t1 : Fin k0_t1_loop.trips) : Fin 2 → Nat :=
  let c0_i32_23 : BitVec 32 := 0#32
  let c1_i32_24 : BitVec 32 := 1#32
  let arg23 : BitVec 32 := Scf.iv c0_i32_23 c1_i32_24 k0_t1
  let c8_i32 : BitVec 32 := 8#32
  let v78 : BitVec 32 := Scalar.muli arg23 c8_i32
  let v79 : BitVec 32 := v78
  let v298 : Index := Scalar.indexCast v79
  let c0_108 : Index := 0#32
  ![v298.toNat, 0]
def k0_off6 (k0_t1 : Fin k0_t1_loop.trips) : Fin 2 → Nat :=
  let c1016_i32 : BitVec 32 := 1016#32
  let c0_i32_23 : BitVec 32 := 0#32
  let c1_i32_24 : BitVec 32 := 1#32
  let arg23 : BitVec 32 := Scf.iv c0_i32_23 c1_i32_24 k0_t1
  let c8_i32_53 : BitVec 32 := 8#32
  let v80 : BitVec 32 := Scalar.muli arg23 c8_i32_53
  let v81 : BitVec 32 := Scalar.subi c1016_i32 v80
  let v82 : BitVec 32 := v81
  let v303 : Index := Scalar.indexCast v82
  let c0_109 : Index := 0#32
  ![v303.toNat, 0]
def k0_cond2 (i : grid0.Coords) : BitVec 1 :=
  let arg0 : BitVec 32 := BitVec.ofNat 32 (i 0).val
  let c2_i32 : BitVec 32 := 2#32
  let v0 : BitVec 32 := Scalar.remsi arg0 c2_i32
  let c1_i32_40 : BitVec 32 := 1#32
  let v69 : BitVec 1 := Scalar.cmpi .eq v0 c1_i32_40
  let v70 : BitVec 32 := Scalar.extui v69
  let c0_i32_41 : BitVec 32 := 0#32
  let v71 : BitVec 1 := Scalar.cmpi .ne v70 c0_i32_41
  v71

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let v34 : BitVec 32 := Scalar.divsi arg0 c2_i32_10
  let c0_i32_11 : BitVec 32 := 0#32
  let v35 : BitVec 1 := Scalar.cmpi .sgt arg0 c0_i32_11
  let v36 : BitVec 32 := Scalar.extui v35
  let c0_i32_12 : BitVec 32 := 0#32
  let v37 : BitVec 1 := Scalar.cmpi .slt arg0 c0_i32_12
  let v38 : BitVec 32 := Scalar.extui v37
  let v39 : BitVec 32 := Scalar.subi v36 v38
  let c0_i32_13 : BitVec 32 := 0#32
  let v40 : BitVec 1 := Scalar.cmpi .sgt c2_i32_10 c0_i32_13
  let v41 : BitVec 32 := Scalar.extui v40
  let c0_i32_14 : BitVec 32 := 0#32
  let v42 : BitVec 1 := Scalar.cmpi .slt c2_i32_10 c0_i32_14
  let v43 : BitVec 32 := Scalar.extui v42
  let v44 : BitVec 32 := Scalar.subi v41 v43
  let v45 : BitVec 1 := Scalar.cmpi .ne v39 v44
  let v46 : BitVec 32 := Scalar.remsi arg0 c2_i32_10
  let c0_i32_15 : BitVec 32 := 0#32
  let v47 : BitVec 1 := Scalar.cmpi .ne v46 c0_i32_15
  let v48 : BitVec 1 := Scalar.andi v45 v47
  let c1_i32_16 : BitVec 32 := 1#32
  let v49 : BitVec 32 := Scalar.subi v34 c1_i32_16
  let v50 : BitVec 32 := Scalar.select v48 v49 v34
  let c4_i32_17 : BitVec 32 := 4#32
  let c0_i32_18 : BitVec 32 := 0#32
  let v51 : BitVec 1 := Scalar.cmpi .eq c4_i32_17 c0_i32_18
  let c1_i32_19 : BitVec 32 := 1#32
  let v52 : BitVec 32 := Scalar.select v51 c1_i32_19 c4_i32_17
  let v53 : BitVec 32 := Scalar.remsi v50 v52
  let c0_i32_20 : BitVec 32 := 0#32
  let v54 : BitVec 1 := Scalar.cmpi .ne v53 c0_i32_20
  let c0_i32_21 : BitVec 32 := 0#32
  let v55 : BitVec 1 := Scalar.cmpi .slt v53 c0_i32_21
  let c0_i32_22 : BitVec 32 := 0#32
  let v56 : BitVec 1 := Scalar.cmpi .slt v52 c0_i32_22
  let v57 : BitVec 1 := Scalar.xori v55 v56
  let v58 : BitVec 1 := Scalar.andi v57 v54
  let v59 : BitVec 32 := Scalar.addi v53 v52
  let v60 : BitVec 32 := Scalar.select v58 v59 v53
  let c2_i32_23 : BitVec 32 := 2#32
  let c0_i32_24 : BitVec 32 := 0#32
  let v61 : BitVec 1 := Scalar.cmpi .eq c2_i32_23 c0_i32_24
  let c1_i32_25 : BitVec 32 := 1#32
  let v62 : BitVec 32 := Scalar.select v61 c1_i32_25 c2_i32_23
  let v63 : BitVec 32 := Scalar.remsi arg0 v62
  let c0_i32_26 : BitVec 32 := 0#32
  let v64 : BitVec 1 := Scalar.cmpi .ne v63 c0_i32_26
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let v68 : BitVec 1 := Scalar.andi v67 v64
  let v69 : BitVec 32 := Scalar.addi v63 v62
  let v70 : BitVec 32 := Scalar.select v68 v69 v63
  let c0_i32_29 : BitVec 32 := 0#32
  let c0_i32_30 : BitVec 32 := 0#32
  ![v33.toNat, v60.toNat, c0_i32_29.toNat, v70.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let v34 : BitVec 32 := Scalar.divsi arg0 c2_i32_10
  let c0_i32_11 : BitVec 32 := 0#32
  let v35 : BitVec 1 := Scalar.cmpi .sgt arg0 c0_i32_11
  let v36 : BitVec 32 := Scalar.extui v35
  let c0_i32_12 : BitVec 32 := 0#32
  let v37 : BitVec 1 := Scalar.cmpi .slt arg0 c0_i32_12
  let v38 : BitVec 32 := Scalar.extui v37
  let v39 : BitVec 32 := Scalar.subi v36 v38
  let c0_i32_13 : BitVec 32 := 0#32
  let v40 : BitVec 1 := Scalar.cmpi .sgt c2_i32_10 c0_i32_13
  let v41 : BitVec 32 := Scalar.extui v40
  let c0_i32_14 : BitVec 32 := 0#32
  let v42 : BitVec 1 := Scalar.cmpi .slt c2_i32_10 c0_i32_14
  let v43 : BitVec 32 := Scalar.extui v42
  let v44 : BitVec 32 := Scalar.subi v41 v43
  let v45 : BitVec 1 := Scalar.cmpi .ne v39 v44
  let v46 : BitVec 32 := Scalar.remsi arg0 c2_i32_10
  let c0_i32_15 : BitVec 32 := 0#32
  let v47 : BitVec 1 := Scalar.cmpi .ne v46 c0_i32_15
  let v48 : BitVec 1 := Scalar.andi v45 v47
  let c1_i32_16 : BitVec 32 := 1#32
  let v49 : BitVec 32 := Scalar.subi v34 c1_i32_16
  let v50 : BitVec 32 := Scalar.select v48 v49 v34
  let c4_i32_17 : BitVec 32 := 4#32
  let c0_i32_18 : BitVec 32 := 0#32
  let v51 : BitVec 1 := Scalar.cmpi .eq c4_i32_17 c0_i32_18
  let c1_i32_19 : BitVec 32 := 1#32
  let v52 : BitVec 32 := Scalar.select v51 c1_i32_19 c4_i32_17
  let v53 : BitVec 32 := Scalar.remsi v50 v52
  let c0_i32_20 : BitVec 32 := 0#32
  let v54 : BitVec 1 := Scalar.cmpi .ne v53 c0_i32_20
  let c0_i32_21 : BitVec 32 := 0#32
  let v55 : BitVec 1 := Scalar.cmpi .slt v53 c0_i32_21
  let c0_i32_22 : BitVec 32 := 0#32
  let v56 : BitVec 1 := Scalar.cmpi .slt v52 c0_i32_22
  let v57 : BitVec 1 := Scalar.xori v55 v56
  let v58 : BitVec 1 := Scalar.andi v57 v54
  let v59 : BitVec 32 := Scalar.addi v53 v52
  let v60 : BitVec 32 := Scalar.select v58 v59 v53
  let c2_i32_23 : BitVec 32 := 2#32
  let c0_i32_24 : BitVec 32 := 0#32
  let v61 : BitVec 1 := Scalar.cmpi .eq c2_i32_23 c0_i32_24
  let c1_i32_25 : BitVec 32 := 1#32
  let v62 : BitVec 32 := Scalar.select v61 c1_i32_25 c2_i32_23
  let v63 : BitVec 32 := Scalar.remsi arg0 v62
  let c0_i32_26 : BitVec 32 := 0#32
  let v64 : BitVec 1 := Scalar.cmpi .ne v63 c0_i32_26
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let v68 : BitVec 1 := Scalar.andi v67 v64
  let v69 : BitVec 32 := Scalar.addi v63 v62
  let v70 : BitVec 32 := Scalar.select v68 v69 v63
  let c0_i32_29 : BitVec 32 := 0#32
  let c0_i32_30 : BitVec 32 := 0#32
  ![v33.toNat, v60.toNat, c0_i32_29.toNat, v70.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let c0_i32_11 : BitVec 32 := 0#32
  let v34 : BitVec 1 := Scalar.cmpi .eq c2_i32_10 c0_i32_11
  let c1_i32_12 : BitVec 32 := 1#32
  let v35 : BitVec 32 := Scalar.select v34 c1_i32_12 c2_i32_10
  let v36 : BitVec 32 := Scalar.remsi arg0 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c0_i32_16 : BitVec 32 := 0#32
  let c0_i32_17 : BitVec 32 := 0#32
  ![v33.toNat, c0_i32_16.toNat, v43.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let c0_i32_11 : BitVec 32 := 0#32
  let v34 : BitVec 1 := Scalar.cmpi .eq c2_i32_10 c0_i32_11
  let c1_i32_12 : BitVec 32 := 1#32
  let v35 : BitVec 32 := Scalar.select v34 c1_i32_12 c2_i32_10
  let v36 : BitVec 32 := Scalar.remsi arg0 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c0_i32_16 : BitVec 32 := 0#32
  let c0_i32_17 : BitVec 32 := 0#32
  ![v33.toNat, c0_i32_16.toNat, v43.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let c0_i32_11 : BitVec 32 := 0#32
  let v34 : BitVec 1 := Scalar.cmpi .eq c2_i32_10 c0_i32_11
  let c1_i32_12 : BitVec 32 := 1#32
  let v35 : BitVec 32 := Scalar.select v34 c1_i32_12 c2_i32_10
  let v36 : BitVec 32 := Scalar.remsi arg0 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c0_i32_16 : BitVec 32 := 0#32
  let c0_i32_17 : BitVec 32 := 0#32
  ![v33.toNat, c0_i32_16.toNat, v43.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let c0_i32_11 : BitVec 32 := 0#32
  let v34 : BitVec 1 := Scalar.cmpi .eq c2_i32_10 c0_i32_11
  let c1_i32_12 : BitVec 32 := 1#32
  let v35 : BitVec 32 := Scalar.select v34 c1_i32_12 c2_i32_10
  let v36 : BitVec 32 := Scalar.remsi arg0 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c0_i32_16 : BitVec 32 := 0#32
  let c0_i32_17 : BitVec 32 := 0#32
  ![v33.toNat, c0_i32_16.toNat, v43.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let v34 : BitVec 32 := Scalar.divsi arg0 c2_i32_10
  let c0_i32_11 : BitVec 32 := 0#32
  let v35 : BitVec 1 := Scalar.cmpi .sgt arg0 c0_i32_11
  let v36 : BitVec 32 := Scalar.extui v35
  let c0_i32_12 : BitVec 32 := 0#32
  let v37 : BitVec 1 := Scalar.cmpi .slt arg0 c0_i32_12
  let v38 : BitVec 32 := Scalar.extui v37
  let v39 : BitVec 32 := Scalar.subi v36 v38
  let c0_i32_13 : BitVec 32 := 0#32
  let v40 : BitVec 1 := Scalar.cmpi .sgt c2_i32_10 c0_i32_13
  let v41 : BitVec 32 := Scalar.extui v40
  let c0_i32_14 : BitVec 32 := 0#32
  let v42 : BitVec 1 := Scalar.cmpi .slt c2_i32_10 c0_i32_14
  let v43 : BitVec 32 := Scalar.extui v42
  let v44 : BitVec 32 := Scalar.subi v41 v43
  let v45 : BitVec 1 := Scalar.cmpi .ne v39 v44
  let v46 : BitVec 32 := Scalar.remsi arg0 c2_i32_10
  let c0_i32_15 : BitVec 32 := 0#32
  let v47 : BitVec 1 := Scalar.cmpi .ne v46 c0_i32_15
  let v48 : BitVec 1 := Scalar.andi v45 v47
  let c1_i32_16 : BitVec 32 := 1#32
  let v49 : BitVec 32 := Scalar.subi v34 c1_i32_16
  let v50 : BitVec 32 := Scalar.select v48 v49 v34
  let c4_i32_17 : BitVec 32 := 4#32
  let c0_i32_18 : BitVec 32 := 0#32
  let v51 : BitVec 1 := Scalar.cmpi .eq c4_i32_17 c0_i32_18
  let c1_i32_19 : BitVec 32 := 1#32
  let v52 : BitVec 32 := Scalar.select v51 c1_i32_19 c4_i32_17
  let v53 : BitVec 32 := Scalar.remsi v50 v52
  let c0_i32_20 : BitVec 32 := 0#32
  let v54 : BitVec 1 := Scalar.cmpi .ne v53 c0_i32_20
  let c0_i32_21 : BitVec 32 := 0#32
  let v55 : BitVec 1 := Scalar.cmpi .slt v53 c0_i32_21
  let c0_i32_22 : BitVec 32 := 0#32
  let v56 : BitVec 1 := Scalar.cmpi .slt v52 c0_i32_22
  let v57 : BitVec 1 := Scalar.xori v55 v56
  let v58 : BitVec 1 := Scalar.andi v57 v54
  let v59 : BitVec 32 := Scalar.addi v53 v52
  let v60 : BitVec 32 := Scalar.select v58 v59 v53
  let c0_i32_23 : BitVec 32 := 0#32
  let c0_i32_24 : BitVec 32 := 0#32
  let c0_i32_25 : BitVec 32 := 0#32
  ![v33.toNat, v60.toNat, c0_i32_23.toNat, c0_i32_24.toNat]

def cc0_transform_14 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.divsi v16 c4_i32
  let c0_i32_4 : BitVec 32 := 0#32
  let v18 : BitVec 1 := Scalar.cmpi .sgt v16 c0_i32_4
  let v19 : BitVec 32 := Scalar.extui v18
  let c0_i32_5 : BitVec 32 := 0#32
  let v20 : BitVec 1 := Scalar.cmpi .slt v16 c0_i32_5
  let v21 : BitVec 32 := Scalar.extui v20
  let v22 : BitVec 32 := Scalar.subi v19 v21
  let c0_i32_6 : BitVec 32 := 0#32
  let v23 : BitVec 1 := Scalar.cmpi .sgt c4_i32 c0_i32_6
  let v24 : BitVec 32 := Scalar.extui v23
  let c0_i32_7 : BitVec 32 := 0#32
  let v25 : BitVec 1 := Scalar.cmpi .slt c4_i32 c0_i32_7
  let v26 : BitVec 32 := Scalar.extui v25
  let v27 : BitVec 32 := Scalar.subi v24 v26
  let v28 : BitVec 1 := Scalar.cmpi .ne v22 v27
  let v29 : BitVec 32 := Scalar.remsi v16 c4_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c2_i32_10 : BitVec 32 := 2#32
  let v34 : BitVec 32 := Scalar.divsi arg0 c2_i32_10
  let c0_i32_11 : BitVec 32 := 0#32
  let v35 : BitVec 1 := Scalar.cmpi .sgt arg0 c0_i32_11
  let v36 : BitVec 32 := Scalar.extui v35
  let c0_i32_12 : BitVec 32 := 0#32
  let v37 : BitVec 1 := Scalar.cmpi .slt arg0 c0_i32_12
  let v38 : BitVec 32 := Scalar.extui v37
  let v39 : BitVec 32 := Scalar.subi v36 v38
  let c0_i32_13 : BitVec 32 := 0#32
  let v40 : BitVec 1 := Scalar.cmpi .sgt c2_i32_10 c0_i32_13
  let v41 : BitVec 32 := Scalar.extui v40
  let c0_i32_14 : BitVec 32 := 0#32
  let v42 : BitVec 1 := Scalar.cmpi .slt c2_i32_10 c0_i32_14
  let v43 : BitVec 32 := Scalar.extui v42
  let v44 : BitVec 32 := Scalar.subi v41 v43
  let v45 : BitVec 1 := Scalar.cmpi .ne v39 v44
  let v46 : BitVec 32 := Scalar.remsi arg0 c2_i32_10
  let c0_i32_15 : BitVec 32 := 0#32
  let v47 : BitVec 1 := Scalar.cmpi .ne v46 c0_i32_15
  let v48 : BitVec 1 := Scalar.andi v45 v47
  let c1_i32_16 : BitVec 32 := 1#32
  let v49 : BitVec 32 := Scalar.subi v34 c1_i32_16
  let v50 : BitVec 32 := Scalar.select v48 v49 v34
  let c4_i32_17 : BitVec 32 := 4#32
  let c0_i32_18 : BitVec 32 := 0#32
  let v51 : BitVec 1 := Scalar.cmpi .eq c4_i32_17 c0_i32_18
  let c1_i32_19 : BitVec 32 := 1#32
  let v52 : BitVec 32 := Scalar.select v51 c1_i32_19 c4_i32_17
  let v53 : BitVec 32 := Scalar.remsi v50 v52
  let c0_i32_20 : BitVec 32 := 0#32
  let v54 : BitVec 1 := Scalar.cmpi .ne v53 c0_i32_20
  let c0_i32_21 : BitVec 32 := 0#32
  let v55 : BitVec 1 := Scalar.cmpi .slt v53 c0_i32_21
  let c0_i32_22 : BitVec 32 := 0#32
  let v56 : BitVec 1 := Scalar.cmpi .slt v52 c0_i32_22
  let v57 : BitVec 1 := Scalar.xori v55 v56
  let v58 : BitVec 1 := Scalar.andi v57 v54
  let v59 : BitVec 32 := Scalar.addi v53 v52
  let v60 : BitVec 32 := Scalar.select v58 v59 v53
  let c0_i32_23 : BitVec 32 := 0#32
  let c0_i32_24 : BitVec 32 := 0#32
  let c0_i32_25 : BitVec 32 := 0#32
  ![v33.toNat, v60.toNat, c0_i32_23.toNat, c0_i32_24.toNat]

abbrev stage0_0 : Fin 1 → Memref sig .tc .smem S4x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ScanReferenceIdeal.lean ====
abbrev S4x2 : Shape := ⟨2, ![4, 2]⟩
abbrev S2x4x1024x1024 : Shape := ⟨4, ![2, 4, 1024, 1024]⟩
abbrev S4x256x32x32 : Shape := ⟨4, ![4, 256, 32, 32]⟩
abbrev S256x512 : Shape := ⟨2, ![256, 512]⟩
abbrev S256 : Shape := ⟨1, ![256]⟩
abbrev S512x1024 : Shape := ⟨2, ![512, 1024]⟩
abbrev S1024x16 : Shape := ⟨2, ![1024, 16]⟩
abbrev S_ : Shape := ⟨0, ![]⟩
abbrev S1x1024x16 : Shape := ⟨3, ![1, 1024, 16]⟩
abbrev S4x1024x16 : Shape := ⟨3, ![4, 1024, 16]⟩
abbrev S4x4x1024x1024 : Shape := ⟨4, ![4, 4, 1024, 1024]⟩
abbrev S1024x4x4x1024 : Shape := ⟨4, ![1024, 4, 4, 1024]⟩
abbrev S2x4x4x1024x16 : Shape := ⟨5, ![2, 4, 4, 1024, 16]⟩
abbrev S1024x1x4x4x1024 : Shape := ⟨5, ![1024, 1, 4, 4, 1024]⟩
abbrev S1024x2x4x4x1024 : Shape := ⟨5, ![1024, 2, 4, 4, 1024]⟩
abbrev S1x2x4x4x1024 : Shape := ⟨5, ![1, 2, 4, 4, 1024]⟩
abbrev S2x4x4x1024 : Shape := ⟨4, ![2, 4, 4, 1024]⟩
abbrev S4x1x1024x16 : Shape := ⟨4, ![4, 1, 1024, 16]⟩
abbrev S1x4x1x1024x16 : Shape := ⟨5, ![1, 4, 1, 1024, 16]⟩
abbrev S2x4x4x1024x1 : Shape := ⟨5, ![2, 4, 4, 1024, 1]⟩
abbrev S1x512x1024 : Shape := ⟨3, ![1, 512, 1024]⟩
abbrev S4x512x1024 : Shape := ⟨3, ![4, 512, 1024]⟩
abbrev S4x4x1024x512 : Shape := ⟨4, ![4, 4, 1024, 512]⟩
abbrev S4x1 : Shape := ⟨2, ![4, 1]⟩
abbrev S4 : Shape := ⟨1, ![4]⟩
abbrev S4x1x1 : Shape := ⟨3, ![4, 1, 1]⟩
abbrev S1x4x1024x512 : Shape := ⟨4, ![1, 4, 1024, 512]⟩
abbrev S4x1024x512 : Shape := ⟨3, ![4, 1024, 512]⟩
abbrev S256x4x1024 : Shape := ⟨3, ![256, 4, 1024]⟩
abbrev S4x256x1024 : Shape := ⟨3, ![4, 256, 1024]⟩
abbrev S256x1 : Shape := ⟨2, ![256, 1]⟩
abbrev S1x256x1 : Shape := ⟨3, ![1, 256, 1]⟩

abbrev nBuf : Space → Nat
  | .hbm => 209
  | .vmem => 0
  | .smem => 0
  | _ => 0

abbrev hbmTy0_0 (i : Nat) : BufTy := match i % 128 with
  | 0 => ⟨S4x2, .f32⟩
  | 1 => ⟨S2x4x1024x1024, .f32⟩
  | 2 => ⟨S2x4x1024x1024, .f32⟩
  | 3 => ⟨S4x256x32x32, .f32⟩
  | 4 => ⟨S4x256x32x32, .f32⟩
  | 5 => ⟨S256x512, .f32⟩
  | 6 => ⟨S256, .f32⟩
  | 7 => ⟨S256, .f32⟩
  | 8 => ⟨S256, .f32⟩
  | 9 => ⟨S256, .f32⟩
  | 10 => ⟨S512x1024, .f32⟩
  | 11 => ⟨S1024x16, .f32⟩
  | 12 => ⟨S1024x16, .f32⟩
  | 13 => ⟨S1024x16, .f32⟩
  | 14 => ⟨S512x1024, .f32⟩
  | 15 => ⟨S1024x16, .f32⟩
  | 16 => ⟨S1024x16, .f32⟩
  | 17 => ⟨S1024x16, .f32⟩
  | 18 => ⟨S_, .f32⟩
  | 19 => ⟨S1x1024x16, .f32⟩
  | 20 => ⟨S1x1024x16, .f32⟩
  | 21 => ⟨S1x1024x16, .f32⟩
  | 22 => ⟨S1x1024x16, .f32⟩
  | 23 => ⟨S4x1024x16, .f32⟩
  | 24 => ⟨S4x1024x16, .f32⟩
  | 25 => ⟨S4x1024x16, .f32⟩
  | 26 => ⟨S_, .f32⟩
  | 27 => ⟨S_, .f32⟩
  | 28 => ⟨S_, .f32⟩
  | 29 => ⟨S4x1024x16, .f32⟩
  | 30 => ⟨S4x1024x16, .f32⟩
  | 31 => ⟨S_, .f32⟩
  | 32 => ⟨S4x1024x16, .f32⟩
  | 33 => ⟨S4x1024x16, .f32⟩
  | 34 => ⟨S1x1024x16, .f32⟩
  | 35 => ⟨S1x1024x16, .f32⟩
  | 36 => ⟨S1x1024x16, .f32⟩
  | 37 => ⟨S1x1024x16, .f32⟩
  | 38 => ⟨S4x1024x16, .f32⟩
  | 39 => ⟨S1x1024x16, .f32⟩
  | 40 => ⟨S1x1024x16, .f32⟩
  | 41 => ⟨S1x1024x16, .f32⟩
  | 42 => ⟨S1x1024x16, .f32⟩
  | 43 => ⟨S4x1024x16, .f32⟩
  | 44 => ⟨S4x4x1024x1024, .f32⟩
  | 45 => ⟨S1024x4x4x1024, .f32⟩
  | 46 => ⟨S_, .f32⟩
  | 47 => ⟨S2x4x4x1024x16, .f32⟩
  | 48 => ⟨S1024x4x4x1024, .f32⟩
  | 49 => ⟨S1024x1x4x4x1024, .f32⟩
  | 50 => ⟨S1024x1x4x4x1024, .f32⟩
  | 51 => ⟨S1024x2x4x4x1024, .f32⟩
  | 52 => ⟨S_, .f32⟩
  | 53 => ⟨S1024x2x4x4x1024, .f32⟩
  | 54 => ⟨S_, .i32⟩
  | 55 => ⟨S1024x2x4x4x1024, .f32⟩
  | 56 => ⟨S4x1024x16, .f32⟩
  | 57 => ⟨S4x1024x16, .f32⟩
  | 58 => ⟨S4x1024x16, .f32⟩
  | 59 => ⟨S_, .i32⟩
  | 60 => ⟨S2x4x4x1024x16, .f32⟩
  | 61 => ⟨S1024x2x4x4x1024, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1x2x4x4x1024, .f32⟩
  | 69 => ⟨S2x4x4x1024, .f32⟩
  | 70 => ⟨S4x1x1024x16, .f32⟩
  | 71 => ⟨S1x4x1x1024x16, .f32⟩
  | 72 => ⟨S2x4x4x1024x16, .f32⟩
  | 73 => ⟨S2x4x4x1024x16, .f32⟩
  | 74 => ⟨S2x4x4x1024x1, .f32⟩
  | 75 => ⟨S4x1x1024x16, .f32⟩
  | 76 => ⟨S1x4x1x1024x16, .f32⟩
  | 77 => ⟨S2x4x4x1024x16, .f32⟩
  | 78 => ⟨S2x4x4x1024x16, .f32⟩
  | 79 => ⟨S2x4x4x1024x16, .f32⟩
  | 80 => ⟨S2x4x4x1024x16, .f32⟩
  | 81 => ⟨S_, .f32⟩
  | 82 => ⟨S_, .f32⟩
  | 83 => ⟨S_, .f32⟩
  | 84 => ⟨S2x4x4x1024x16, .f32⟩
  | 85 => ⟨S2x4x4x1024x16, .f32⟩
  | 86 => ⟨S_, .f32⟩
  | 87 => ⟨S2x4x4x1024x16, .f32⟩
  | 88 => ⟨S2x4x4x1024x16, .f32⟩
  | 89 => ⟨S4x1x1024x16, .f32⟩
  | 90 => ⟨S1x4x1x1024x16, .f32⟩
  | 91 => ⟨S2x4x4x1024x16, .f32⟩
  | 92 => ⟨S2x4x4x1024x16, .f32⟩
  | 93 => ⟨S_, .f32⟩
  | 94 => ⟨S2x4x4x1024, .f32⟩
  | 95 => ⟨S1x2x4x4x1024, .f32⟩
  | 96 => ⟨S_, .i32⟩
  | 97 => ⟨S_, .i32⟩
  | 98 => ⟨S_, .i32⟩
  | 99 => ⟨S_, .i32⟩
  | 100 => ⟨S1024x2x4x4x1024, .f32⟩
  | 101 => ⟨S_, .i32⟩
  | 102 => ⟨S_, .i32⟩
  | 103 => ⟨S1024x1x4x4x1024, .f32⟩
  | 104 => ⟨S1024x4x4x1024, .f32⟩
  | 105 => ⟨S1024x1x4x4x1024, .f32⟩
  | 106 => ⟨S1024x4x4x1024, .f32⟩
  | 107 => ⟨S1024x4x4x1024, .f32⟩
  | 108 => ⟨S1024x4x4x1024, .f32⟩
  | 109 => ⟨S4x4x1024x1024, .f32⟩
  | 110 => ⟨S_, .f32⟩
  | 111 => ⟨S4x4x1024x1024, .f32⟩
  | 112 => ⟨S4x4x1024x1024, .f32⟩
  | 113 => ⟨S4x4x1024x1024, .f32⟩
  | 114 => ⟨S4x4x1024x1024, .f32⟩
  | 115 => ⟨S1x512x1024, .f32⟩
  | 116 => ⟨S1x512x1024, .f32⟩
  | 117 => ⟨S1x512x1024, .f32⟩
  | 118 => ⟨S1x512x1024, .f32⟩
  | 119 => ⟨S4x512x1024, .f32⟩
  | 120 => ⟨S4x4x1024x512, .f32⟩
  | 121 => ⟨S4x1, .f32⟩
  | 122 => ⟨S4, .f32⟩
  | 123 => ⟨S4x1x1, .f32⟩
  | 124 => ⟨S4x1, .f32⟩
  | 125 => ⟨S4, .f32⟩
  | 126 => ⟨S4x1x1, .f32⟩
  | 127 => ⟨S1x4x1024x512, .f32⟩
  | _ => ⟨S4x2, .f32⟩

abbrev hbmTy0_1 (i : Nat) : BufTy := match i % 128 with
  | 0 => ⟨S4x1024x512, .f32⟩
  | 1 => ⟨S4x1024x512, .f32⟩
  | 2 => ⟨S4x1024x512, .f32⟩
  | 3 => ⟨S1x4x1024x512, .f32⟩
  | 4 => ⟨S4x1024x512, .f32⟩
  | 5 => ⟨S4x1024x512, .f32⟩
  | 6 => ⟨S4x1024x512, .f32⟩
  | 7 => ⟨S4x1024x512, .f32⟩
  | 8 => ⟨S256x4x1024, .f32⟩
  | 9 => ⟨S4x256x1024, .f32⟩
  | 10 => ⟨S256x1, .f32⟩
  | 11 => ⟨S1x256x1, .f32⟩
  | 12 => ⟨S4x256x1024, .f32⟩
  | 13 => ⟨S4x256x1024, .f32⟩
  | 14 => ⟨S256x1, .f32⟩
  | 15 => ⟨S_, .f32⟩
  | 16 => ⟨S256x1, .f32⟩
  | 17 => ⟨S256x1, .f32⟩
  | 18 => ⟨S256x1, .f32⟩
  | 19 => ⟨S1x256x1, .f32⟩
  | 20 => ⟨S4x256x1024, .f32⟩
  | 21 => ⟨S4x256x1024, .f32⟩
  | 22 => ⟨S256x1, .f32⟩
  | 23 => ⟨S1x256x1, .f32⟩
  | 24 => ⟨S4x256x1024, .f32⟩
  | 25 => ⟨S4x256x1024, .f32⟩
  | 26 => ⟨S256x1, .f32⟩
  | 27 => ⟨S1x256x1, .f32⟩
  | 28 => ⟨S4x256x1024, .f32⟩
  | 29 => ⟨S4x256x1024, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S4x256x32x32, .f32⟩
  | 37 => ⟨S4x256x32x32, .f32⟩
  | 38 => ⟨S4x256x32x32, .f32⟩
  | 39 => ⟨S4x256x32x32, .f32⟩
  | 40 => ⟨S1x4x1024x512, .f32⟩
  | 41 => ⟨S4x1024x512, .f32⟩
  | 42 => ⟨S4x1024x512, .f32⟩
  | 43 => ⟨S4x1024x512, .f32⟩
  | 44 => ⟨S1x4x1024x512, .f32⟩
  | 45 => ⟨S4x1024x512, .f32⟩
  | 46 => ⟨S4x1024x512, .f32⟩
  | 47 => ⟨S4x1024x512, .f32⟩
  | 48 => ⟨S4x1024x512, .f32⟩
  | 49 => ⟨S256x4x1024, .f32⟩
  | 50 => ⟨S4x256x1024, .f32⟩
  | 51 => ⟨S256x1, .f32⟩
  | 52 => ⟨S1x256x1, .f32⟩
  | 53 => ⟨S4x256x1024, .f32⟩
  | 54 => ⟨S4x256x1024, .f32⟩
  | 55 => ⟨S256x1, .f32⟩
  | 56 => ⟨S_, .f32⟩
  | 57 => ⟨S256x1, .f32⟩
  | 58 => ⟨S256x1, .f32⟩
  | 59 => ⟨S256x1, .f32⟩
  | 60 => ⟨S1x256x1, .f32⟩
  | 61 => ⟨S4x256x1024, .f32⟩
  | 62 => ⟨S4x256x1024, .f32⟩
  | 63 => ⟨S256x1, .f32⟩
  | 64 => ⟨S1x256x1, .f32⟩
  | 65 => ⟨S4x256x1024, .f32⟩
  | 66 => ⟨S4x256x1024, .f32⟩
  | 67 => ⟨S256x1, .f32⟩
  | 68 => ⟨S1x256x1, .f32⟩
  | 69 => ⟨S4x256x1024, .f32⟩
  | 70 => ⟨S4x256x1024, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S4x256x32x32, .f32⟩
  | 78 => ⟨S4x256x32x32, .f32⟩
  | 79 => ⟨S4x256x32x32, .f32⟩
  | 80 => ⟨S4x256x32x32, .f32⟩
  | _ => ⟨S4x2, .f32⟩

abbrev hbmTy (i : Nat) : BufTy := match i / 128 with
  | 0 => hbmTy0_0 i
  | 1 => hbmTy0_1 i
  | _ => ⟨S4x2, .f32⟩

abbrev bufTy : (tb : Table) → Fin (tcTables nBuf tb) → BufTy
  | .hbm, ⟨i, _⟩ => hbmTy i
  | _, _ => ⟨S4x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_c : Ref sig .tc := ⟨.hbm, 54, rfl⟩
abbrev main_v26_0 : Ref sig .tc := ⟨.hbm, 55, rfl⟩
abbrev main_v26_1 : Ref sig .tc := ⟨.hbm, 56, rfl⟩
abbrev main_v26_2 : Ref sig .tc := ⟨.hbm, 57, rfl⟩
abbrev main_v26_3 : Ref sig .tc := ⟨.hbm, 58, rfl⟩
abbrev main_v26_4 : Ref sig .tc := ⟨.hbm, 59, rfl⟩
abbrev main_v26_5 : Ref sig .tc := ⟨.hbm, 60, rfl⟩
abbrev main_v26_6 : Ref sig .tc := ⟨.hbm, 61, rfl⟩
abbrev main_while0c_c_16 : Ref sig .tc := ⟨.hbm, 62, rfl⟩
abbrev main_while0c_v126 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_call2_c_1 : Ref sig .tc := ⟨.hbm, 66, rfl⟩
abbrev main_while0b_call2_c_2 : Ref sig .tc := ⟨.hbm, 67, rfl⟩
abbrev main_while0b_call2_v0 : Ref sig .tc := ⟨.hbm, 68, rfl⟩
abbrev main_while0b_v126 : Ref sig .tc := ⟨.hbm, 69, rfl⟩
abbrev main_while0b_v127 : Ref sig .tc := ⟨.hbm, 70, rfl⟩
abbrev main_while0b_v128 : Ref sig .tc := ⟨.hbm, 71, rfl⟩
abbrev main_while0b_v129 : Ref sig .tc := ⟨.hbm, 72, rfl⟩
abbrev main_while0b_v130 : Ref sig .tc := ⟨.hbm, 73, rfl⟩
abbrev main_while0b_v131 : Ref sig .tc := ⟨.hbm, 74, rfl⟩
abbrev main_while0b_v132 : Ref sig .tc := ⟨.hbm, 75, rfl⟩
abbrev main_while0b_v133 : Ref sig .tc := ⟨.hbm, 76, rfl⟩
abbrev main_while0b_v134 : Ref sig .tc := ⟨.hbm, 77, rfl⟩
abbrev main_while0b_v135 : Ref sig .tc := ⟨.hbm, 78, rfl⟩
abbrev main_while0b_v136 : Ref sig .tc := ⟨.hbm, 79, rfl⟩
abbrev main_while0b_v137 : Ref sig .tc := ⟨.hbm, 80, rfl⟩
abbrev main_while0b_cst_16 : Ref sig .tc := ⟨.hbm, 81, rfl⟩
abbrev main_while0b_cst_17 : Ref sig .tc := ⟨.hbm, 82, rfl⟩
abbrev main_while0b_call3_v0 : Ref sig .tc := ⟨.hbm, 83, rfl⟩
abbrev main_while0b_call3_v1 : Ref sig .tc := ⟨.hbm, 84, rfl⟩
abbrev main_while0b_call3_v2 : Ref sig .tc := ⟨.hbm, 85, rfl⟩
abbrev main_while0b_call3_v3 : Ref sig .tc := ⟨.hbm, 86, rfl⟩
abbrev main_while0b_call3_v4 : Ref sig .tc := ⟨.hbm, 87, rfl⟩
abbrev main_while0b_v138 : Ref sig .tc := ⟨.hbm, 88, rfl⟩
abbrev main_while0b_v139 : Ref sig .tc := ⟨.hbm, 89, rfl⟩
abbrev main_while0b_v140 : Ref sig .tc := ⟨.hbm, 90, rfl⟩
abbrev main_while0b_v141 : Ref sig .tc := ⟨.hbm, 91, rfl⟩
abbrev main_while0b_v142 : Ref sig .tc := ⟨.hbm, 92, rfl⟩
abbrev main_while0b_cst_18 : Ref sig .tc := ⟨.hbm, 93, rfl⟩
abbrev main_while0b_v143 : Ref sig .tc := ⟨.hbm, 94, rfl⟩
abbrev main_while0b_call4_v0 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_c_2 : Ref sig .tc := ⟨.hbm, 99, rfl⟩
abbrev main_while0b_v144 : Ref sig .tc := ⟨.hbm, 100, rfl⟩
abbrev main_while0b_c_19 : Ref sig .tc := ⟨.hbm, 101, rfl⟩
abbrev main_while0b_v145 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_cst_3 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_cst_4 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_cst_5 : Ref sig .tc := ⟨.hbm, 160, rfl⟩
abbrev main_v82 : Ref sig .tc := ⟨.hbm, 161, rfl⟩
abbrev main_cst_6 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_7 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_cst_8 : Ref sig .tc := ⟨.hbm, 201, rfl⟩
abbrev main_v120 : Ref sig .tc := ⟨.hbm, 202, rfl⟩
abbrev main_cst_9 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩

abbrev nD : Nat := 1
abbrev τ : Topo := Topo.v7x

variable {F : FTy → Type} [FloatOps F]

abbrev main_while0_count : Scf.Loop 32 := ⟨0#32, 1024#32, 1#32⟩
-- ==== Front.lean ====
abbrev S4x256x32x32 : Shape := ⟨4, ![4, 256, 32, 32]⟩
abbrev S512x256 : Shape := ⟨2, ![512, 256]⟩
abbrev S512 : Shape := ⟨1, ![512]⟩
abbrev S2048x512 : Shape := ⟨2, ![2048, 512]⟩
abbrev S4x256x1024 : Shape := ⟨3, ![4, 256, 1024]⟩
abbrev S1x4x256x1024 : Shape := ⟨4, ![1, 4, 256, 1024]⟩
abbrev S2x4x256x1024 : Shape := ⟨4, ![2, 4, 256, 1024]⟩
abbrev S1x512 : Shape := ⟨2, ![1, 512]⟩
abbrev S2x512 : Shape := ⟨2, ![2, 512]⟩
abbrev S2x1x512 : Shape := ⟨3, ![2, 1, 512]⟩
abbrev S1x2048x512 : Shape := ⟨3, ![1, 2048, 512]⟩
abbrev S2x2048x512 : Shape := ⟨3, ![2, 2048, 512]⟩
abbrev S2x4x1024x1024 : Shape := ⟨4, ![2, 4, 1024, 1024]⟩
abbrev S4x1x1024 : Shape := ⟨3, ![4, 1, 1024]⟩
abbrev S1x1x256x1024 : Shape := ⟨4, ![1, 1, 256, 1024]⟩
abbrev S1x1x512 : Shape := ⟨3, ![1, 1, 512]⟩
abbrev S1x1x1024x1024 : Shape := ⟨4, ![1, 1, 1024, 1024]⟩
abbrev S256x1024 : Shape := ⟨2, ![256, 1024]⟩
abbrev S1024x512 : Shape := ⟨2, ![1024, 512]⟩
abbrev S1024 : Shape := ⟨1, ![1024]⟩
abbrev S1024x1 : Shape := ⟨2, ![1024, 1]⟩
abbrev S1024x2048 : Shape := ⟨2, ![1024, 2048]⟩
abbrev S1024x1024 : Shape := ⟨2, ![1024, 1024]⟩

abbrev nBuf : Space → Nat
  | .hbm => 36
  | .vmem => 19
  | .smem => 0
  | _ => 0

abbrev bufTy : (tb : Table) → Fin (tcTables nBuf tb) → BufTy
  | .hbm, ⟨0, _⟩ => ⟨S4x256x32x32, .f32⟩
  | .hbm, ⟨1, _⟩ => ⟨S4x256x32x32, .f32⟩
  | .hbm, ⟨2, _⟩ => ⟨S512x256, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S2048x512, .f32⟩
  | .hbm, ⟨8, _⟩ => ⟨S512, .f32⟩
  | .hbm, ⟨9, _⟩ => ⟨S512, .f32⟩
  | .hbm, ⟨10, _⟩ => ⟨S2048x512, .f32⟩
  | .hbm, ⟨11, _⟩ => ⟨S512, .f32⟩
  | .hbm, ⟨12, _⟩ => ⟨S512, .f32⟩
  | .hbm, ⟨13, _⟩ => ⟨S4x256x1024, .f32⟩
  | .hbm, ⟨14, _⟩ => ⟨S4x256x1024, .f32⟩
  | .hbm, ⟨15, _⟩ => ⟨S1x4x256x1024, .f32⟩
  | .hbm, ⟨16, _⟩ => ⟨S1x4x256x1024, .f32⟩
  | .hbm, ⟨17, _⟩ => ⟨S2x4x256x1024, .f32⟩
  | .hbm, ⟨18, _⟩ => ⟨S1x512, .f32⟩
  | .hbm, ⟨19, _⟩ => ⟨S1x512, .f32⟩
  | .hbm, ⟨20, _⟩ => ⟨S2x512, .f32⟩
  | .hbm, ⟨21, _⟩ => ⟨S2x1x512, .f32⟩
  | .hbm, ⟨22, _⟩ => ⟨S1x512, .f32⟩
  | .hbm, ⟨23, _⟩ => ⟨S1x512, .f32⟩
  | .hbm, ⟨24, _⟩ => ⟨S2x512, .f32⟩
  | .hbm, ⟨25, _⟩ => ⟨S2x1x512, .f32⟩
  | .hbm, ⟨26, _⟩ => ⟨S1x2048x512, .f32⟩
  | .hbm, ⟨27, _⟩ => ⟨S1x2048x512, .f32⟩
  | .hbm, ⟨28, _⟩ => ⟨S2x2048x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S2x4x1024x1024, .f32⟩
  | .hbm, ⟨34, _⟩ => ⟨S2x4x1024x1024, .f32⟩
  | .hbm, ⟨35, _⟩ => ⟨S4x1x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S512x256, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x2048x512, .f32⟩
  | .local _ .vmem, ⟨12, _⟩ => ⟨S1x2048x512, .f32⟩
  | .local _ .vmem, ⟨13, _⟩ => ⟨S1x1x1024x1024, .f32⟩
  | .local _ .vmem, ⟨14, _⟩ => ⟨S1x1x1024x1024, .f32⟩
  | .local _ .vmem, ⟨15, _⟩ => ⟨S1x1x1024x1024, .f32⟩
  | .local _ .vmem, ⟨16, _⟩ => ⟨S1x1x1024x1024, .f32⟩
  | .local _ .vmem, ⟨17, _⟩ => ⟨S1x1x512, .f32⟩
  | .local _ .vmem, ⟨18, _⟩ => ⟨S1x1x512, .f32⟩
  | _, _ => ⟨S4x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FrontReferenceIdeal.lean ====
abbrev S4x256x32x32 : Shape := ⟨4, ![4, 256, 32, 32]⟩
abbrev S512x256 : Shape := ⟨2, ![512, 256]⟩
abbrev S512 : Shape := ⟨1, ![512]⟩
abbrev S2048x512 : Shape := ⟨2, ![2048, 512]⟩
abbrev S512x4x32x32 : Shape := ⟨4, ![512, 4, 32, 32]⟩
abbrev S4x512x32x32 : Shape := ⟨4, ![4, 512, 32, 32]⟩
abbrev S512x1x1 : Shape := ⟨3, ![512, 1, 1]⟩
abbrev S1x512x1x1 : Shape := ⟨4, ![1, 512, 1, 1]⟩
abbrev S_ : Shape := ⟨0, ![]⟩
abbrev S4x1024x32x32 : Shape := ⟨4, ![4, 1024, 32, 32]⟩
abbrev S4x1024 : Shape := ⟨2, ![4, 1024]⟩
abbrev S4x512x1024 : Shape := ⟨3, ![4, 512, 1024]⟩
abbrev S4x1024x512 : Shape := ⟨3, ![4, 1024, 512]⟩
abbrev S4x1024x1 : Shape := ⟨3, ![4, 1024, 1]⟩
abbrev S1x1x512 : Shape := ⟨3, ![1, 1, 512]⟩
abbrev S512x2048 : Shape := ⟨2, ![512, 2048]⟩
abbrev S4x1024x2048 : Shape := ⟨3, ![4, 1024, 2048]⟩
abbrev S4x1024x1024 : Shape := ⟨3, ![4, 1024, 1024]⟩
abbrev S1x4x1024x1024 : Shape := ⟨4, ![1, 4, 1024, 1024]⟩
abbrev S2x4x1024x1024 : Shape := ⟨4, ![2, 4, 1024, 1024]⟩
abbrev S4x1x1024 : Shape := ⟨3, ![4, 1, 1024]⟩

abbrev nBuf : Space → Nat
  | .hbm => 164
  | .vmem => 0
  | .smem => 0
  | _ => 0

abbrev hbmTy0_0 (i : Nat) : BufTy := match i % 128 with
  | 0 => ⟨S4x256x32x32, .f32⟩
  | 1 => ⟨S4x256x32x32, .f32⟩
  | 2 => ⟨S512x256, .f32⟩
  | 3 => ⟨S512, .f32⟩
  | 4 => ⟨S512, .f32⟩
  | 5 => ⟨S512, .f32⟩
  | 6 => ⟨S512, .f32⟩
  | 7 => ⟨S2048x512, .f32⟩
  | 8 => ⟨S512, .f32⟩
  | 9 => ⟨S512, .f32⟩
  | 10 => ⟨S2048x512, .f32⟩
  | 11 => ⟨S512, .f32⟩
  | 12 => ⟨S512, .f32⟩
  | 13 => ⟨S512x4x32x32, .f32⟩
  | 14 => ⟨S4x512x32x32, .f32⟩
  | 15 => ⟨S512x1x1, .f32⟩
  | 16 => ⟨S1x512x1x1, .f32⟩
  | 17 => ⟨S4x512x32x32, .f32⟩
  | 18 => ⟨S4x512x32x32, .f32⟩
  | 19 => ⟨S512x1x1, .f32⟩
  | 20 => ⟨S_, .f32⟩
  | 21 => ⟨S512x1x1, .f32⟩
  | 22 => ⟨S512x1x1, .f32⟩
  | 23 => ⟨S512x1x1, .f32⟩
  | 24 => ⟨S1x512x1x1, .f32⟩
  | 25 => ⟨S4x512x32x32, .f32⟩
  | 26 => ⟨S4x512x32x32, .f32⟩
  | 27 => ⟨S512x1x1, .f32⟩
  | 28 => ⟨S1x512x1x1, .f32⟩
  | 29 => ⟨S4x512x32x32, .f32⟩
  | 30 => ⟨S4x512x32x32, .f32⟩
  | 31 => ⟨S512x1x1, .f32⟩
  | 32 => ⟨S1x512x1x1, .f32⟩
  | 33 => ⟨S4x512x32x32, .f32⟩
  | 34 => ⟨S4x512x32x32, .f32⟩
  | 35 => ⟨S_, .f32⟩
  | 36 => ⟨S4x512x32x32, .f32⟩
  | 37 => ⟨S4x512x32x32, .f32⟩
  | 38 => ⟨S512x4x32x32, .f32⟩
  | 39 => ⟨S4x512x32x32, .f32⟩
  | 40 => ⟨S512x1x1, .f32⟩
  | 41 => ⟨S1x512x1x1, .f32⟩
  | 42 => ⟨S4x512x32x32, .f32⟩
  | 43 => ⟨S4x512x32x32, .f32⟩
  | 44 => ⟨S512x1x1, .f32⟩
  | 45 => ⟨S_, .f32⟩
  | 46 => ⟨S512x1x1, .f32⟩
  | 47 => ⟨S512x1x1, .f32⟩
  | 48 => ⟨S512x1x1, .f32⟩
  | 49 => ⟨S1x512x1x1, .f32⟩
  | 50 => ⟨S4x512x32x32, .f32⟩
  | 51 => ⟨S4x512x32x32, .f32⟩
  | 52 => ⟨S512x1x1, .f32⟩
  | 53 => ⟨S1x512x1x1, .f32⟩
  | 54 => ⟨S4x512x32x32, .f32⟩
  | 55 => ⟨S4x512x32x32, .f32⟩
  | 56 => ⟨S512x1x1, .f32⟩
  | 57 => ⟨S1x512x1x1, .f32⟩
  | 58 => ⟨S4x512x32x32, .f32⟩
  | 59 => ⟨S4x512x32x32, .f32⟩
  | 60 => ⟨S_, .f32⟩
  | 61 => ⟨S4x512x32x32, .f32⟩
  | 62 => ⟨S4x512x32x32, .f32⟩
  | 63 => ⟨S4x1024x32x32, .f32⟩
  | 64 => ⟨S_, .f32⟩
  | 65 => ⟨S4x1024, .f32⟩
  | 66 => ⟨S_, .f32⟩
  | 67 => ⟨S4x1024, .f32⟩
  | 68 => ⟨S4x1024, .f32⟩
  | 69 => ⟨S4x512x1024, .f32⟩
  | 70 => ⟨S4x1024x512, .f32⟩
  | 71 => ⟨S_, .f32⟩
  | 72 => ⟨S4x1024, .f32⟩
  | 73 => ⟨S4x1024x1, .f32⟩
  | 74 => ⟨S_, .f32⟩
  | 75 => ⟨S4x1024x1, .f32⟩
  | 76 => ⟨S4x1024x1, .f32⟩
  | 77 => ⟨S4x1024x512, .f32⟩
  | 78 => ⟨S4x1024x512, .f32⟩
  | 79 => ⟨S4x1024x512, .f32⟩
  | 80 => ⟨S_, .f32⟩
  | 81 => ⟨S4x1024, .f32⟩
  | 82 => ⟨S4x1024x1, .f32⟩
  | 83 => ⟨S_, .f32⟩
  | 84 => ⟨S4x1024x1, .f32⟩
  | 85 => ⟨S4x1024x1, .f32⟩
  | 86 => ⟨S4x1024x512, .f32⟩
  | 87 => ⟨S4x1024x512, .f32⟩
  | 88 => ⟨S_, .f32⟩
  | 89 => ⟨S4x1024x1, .f32⟩
  | 90 => ⟨S4x1024x1, .f32⟩
  | 91 => ⟨S4x1024x1, .f32⟩
  | 92 => ⟨S4x1024x512, .f32⟩
  | 93 => ⟨S4x1024x512, .f32⟩
  | 94 => ⟨S1x1x512, .f32⟩
  | 95 => ⟨S4x1024x512, .f32⟩
  | 96 => ⟨S4x1024x512, .f32⟩
  | 97 => ⟨S1x1x512, .f32⟩
  | 98 => ⟨S4x1024x512, .f32⟩
  | 99 => ⟨S4x1024x512, .f32⟩
  | 100 => ⟨S512x2048, .f32⟩
  | 101 => ⟨S4x1024x2048, .f32⟩
  | 102 => ⟨S4x1024x1024, .f32⟩
  | 103 => ⟨S4x1024x1024, .f32⟩
  | 104 => ⟨S4x1024x1024, .f32⟩
  | 105 => ⟨S4x1024x1024, .f32⟩
  | 106 => ⟨S_, .f32⟩
  | 107 => ⟨S4x1024x1024, .f32⟩
  | 108 => ⟨S4x1024x1024, .f32⟩
  | 109 => ⟨S_, .f32⟩
  | 110 => ⟨S4x1024x1024, .f32⟩
  | 111 => ⟨S4x1024x1024, .f32⟩
  | 112 => ⟨S4x1024x1024, .f32⟩
  | 113 => ⟨S4x512x1024, .f32⟩
  | 114 => ⟨S4x1024x512, .f32⟩
  | 115 => ⟨S_, .f32⟩
  | 116 => ⟨S4x1024, .f32⟩
  | 117 => ⟨S4x1024x1, .f32⟩
  | 118 => ⟨S_, .f32⟩
  | 119 => ⟨S4x1024x1, .f32⟩
  | 120 => ⟨S4x1024x1, .f32⟩
  | 121 => ⟨S4x1024x512, .f32⟩
  | 122 => ⟨S4x1024x512, .f32⟩
  | 123 => ⟨S4x1024x512, .f32⟩
  | 124 => ⟨S_, .f32⟩
  | 125 => ⟨S4x1024, .f32⟩
  | 126 => ⟨S4x1024x1, .f32⟩
  | 127 => ⟨S_, .f32⟩
  | _ => ⟨S4x256x32x32, .f32⟩

abbrev hbmTy0_1 (i : Nat) : BufTy := match i % 128 with
  | 0 => ⟨S4x1024x1, .f32⟩
  | 1 => ⟨S4x1024x1, .f32⟩
  | 2 => ⟨S4x1024x512, .f32⟩
  | 3 => ⟨S4x1024x512, .f32⟩
  | 4 => ⟨S_, .f32⟩
  | 5 => ⟨S4x1024x1, .f32⟩
  | 6 => ⟨S4x1024x1, .f32⟩
  | 7 => ⟨S4x1024x1, .f32⟩
  | 8 => ⟨S4x1024x512, .f32⟩
  | 9 => ⟨S4x1024x512, .f32⟩
  | 10 => ⟨S1x1x512, .f32⟩
  | 11 => ⟨S4x1024x512, .f32⟩
  | 12 => ⟨S4x1024x512, .f32⟩
  | 13 => ⟨S1x1x512, .f32⟩
  | 14 => ⟨S4x1024x512, .f32⟩
  | 15 => ⟨S4x1024x512, .f32⟩
  | 16 => ⟨S512x2048, .f32⟩
  | 17 => ⟨S4x1024x2048, .f32⟩
  | 18 => ⟨S4x1024x1024, .f32⟩
  | 19 => ⟨S4x1024x1024, .f32⟩
  | 20 => ⟨S4x1024x1024, .f32⟩
  | 21 => ⟨S4x1024x1024, .f32⟩
  | 22 => ⟨S_, .f32⟩
  | 23 => ⟨S4x1024x1024, .f32⟩
  | 24 => ⟨S4x1024x1024, .f32⟩
  | 25 => ⟨S_, .f32⟩
  | 26 => ⟨S4x1024x1024, .f32⟩
  | 27 => ⟨S4x1024x1024, .f32⟩
  | 28 => ⟨S4x1024x1024, .f32⟩
  | 29 => ⟨S1x4x1024x1024, .f32⟩
  | 30 => ⟨S1x4x1024x1024, .f32⟩
  | 31 => ⟨S2x4x1024x1024, .f32⟩
  | 32 => ⟨S1x4x1024x1024, .f32⟩
  | 33 => ⟨S1x4x1024x1024, .f32⟩
  | 34 => ⟨S2x4x1024x1024, .f32⟩
  | 35 => ⟨S4x1x1024, .f32⟩
  | _ => ⟨S4x256x32x32, .f32⟩

abbrev hbmTy (i : Nat) : BufTy := match i / 128 with
  | 0 => hbmTy0_0 i
  | 1 => hbmTy0_1 i
  | _ => ⟨S4x256x32x32, .f32⟩

abbrev bufTy : (tb : Table) → Fin (tcTables nBuf tb) → BufTy
  | .hbm, ⟨i, _⟩ => hbmTy i
  | _, _ => ⟨S4x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_7 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_10 : Ref sig .tc := ⟨.hbm, 106, rfl⟩
abbrev main_v82 : Ref sig .tc := ⟨.hbm, 107, rfl⟩
abbrev main_v83 : Ref sig .tc := ⟨.hbm, 108, rfl⟩
abbrev main_cst_11 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_12 : Ref sig .tc := ⟨.hbm, 115, rfl⟩
abbrev main_v89 : Ref sig .tc := ⟨.hbm, 116, rfl⟩
abbrev main_v90 : Ref sig .tc := ⟨.hbm, 117, rfl⟩
abbrev main_cst_13 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_14 : Ref sig .tc := ⟨.hbm, 124, rfl⟩
abbrev main_v96 : Ref sig .tc := ⟨.hbm, 125, rfl⟩
abbrev main_v97 : Ref sig .tc := ⟨.hbm, 126, rfl⟩
abbrev main_cst_15 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_17 : Ref sig .tc := ⟨.hbm, 150, rfl⟩
abbrev main_v119 : Ref sig .tc := ⟨.hbm, 151, rfl⟩
abbrev main_v120 : Ref sig .tc := ⟨.hbm, 152, rfl⟩
abbrev main_cst_18 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩

abbrev nD : Nat := 1
abbrev τ : Topo := Topo.v7x

variable {F : FTy → Type} [FloatOps F]
-- ==== Mixing.lean ====
abbrev S4x1x1024 : Shape := ⟨3, ![4, 1, 1024]⟩
abbrev S128x1024 : Shape := ⟨2, ![128, 1024]⟩
abbrev S128 : Shape := ⟨1, ![128]⟩
abbrev S2x128 : Shape := ⟨2, ![2, 128]⟩
abbrev S2 : Shape := ⟨1, ![2]⟩
abbrev S4x1024 : Shape := ⟨2, ![4, 1024]⟩
abbrev S1x128 : Shape := ⟨2, ![1, 128]⟩
abbrev S1x2 : Shape := ⟨2, ![1, 2]⟩
abbrev S4x2 : Shape := ⟨2, ![4, 2]⟩
abbrev S4x128 : Shape := ⟨2, ![4, 128]⟩
abbrev S4 : Shape := ⟨1, ![4]⟩
abbrev S4x1 : Shape := ⟨2, ![4, 1]⟩

abbrev nBuf : Space → Nat
  | .hbm => 9
  | .vmem => 6
  | .smem => 0
  | _ => 0

abbrev bufTy : (tb : Table) → Fin (tcTables nBuf tb) → BufTy
  | .hbm, ⟨0, _⟩ => ⟨S4x1x1024, .f32⟩
  | .hbm, ⟨1, _⟩ => ⟨S128x1024, .f32⟩
  | .hbm, ⟨2, _⟩ => ⟨S128, .f32⟩
  | .hbm, ⟨3, _⟩ => ⟨S2x128, .f32⟩
  | .hbm, ⟨4, _⟩ => ⟨S2, .f32⟩
  | .hbm, ⟨5, _⟩ => ⟨S4x1024, .f32⟩
  | .hbm, ⟨6, _⟩ => ⟨S1x128, .f32⟩
  | .hbm, ⟨7, _⟩ => ⟨S1x2, .f32⟩
  | .hbm, ⟨8, _⟩ => ⟨S4x2, .f32⟩
  | .local _ .vmem, ⟨0, _⟩ => ⟨S4x1024, .f32⟩
  | .local _ .vmem, ⟨1, _⟩ => ⟨S128x1024, .f32⟩
  | .local _ .vmem, ⟨2, _⟩ => ⟨S1x128, .f32⟩
  | .local _ .vmem, ⟨3, _⟩ => ⟨S2x128, .f32⟩
  | .local _ .vmem, ⟨4, _⟩ => ⟨S1x2, .f32⟩
  | .local _ .vmem, ⟨5, _⟩ => ⟨S4x2, .f32⟩
  | _, _ => ⟨S4x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MixingReferenceIdeal.lean ====
abbrev S4x1x1024 : Shape := ⟨3, ![4, 1, 1024]⟩
abbrev S128x1024 : Shape := ⟨2, ![128, 1024]⟩
abbrev S128 : Shape := ⟨1, ![128]⟩
abbrev S2x128 : Shape := ⟨2, ![2, 128]⟩
abbrev S2 : Shape := ⟨1, ![2]⟩
abbrev S4x1024 : Shape := ⟨2, ![4, 1024]⟩
abbrev S1024x128 : Shape := ⟨2, ![1024, 128]⟩
abbrev S4x128 : Shape := ⟨2, ![4, 128]⟩
abbrev S1x128 : Shape := ⟨2, ![1, 128]⟩
abbrev S_ : Shape := ⟨0, ![]⟩
abbrev S128x2 : Shape := ⟨2, ![128, 2]⟩
abbrev S4x2 : Shape := ⟨2, ![4, 2]⟩
abbrev S1x2 : Shape := ⟨2, ![1, 2]⟩
abbrev S4 : Shape := ⟨1, ![4]⟩
abbrev S4x1 : Shape := ⟨2, ![4, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x1x1024, .f32⟩
  | .hbm, ⟨1, _⟩ => ⟨S128x1024, .f32⟩
  | .hbm, ⟨2, _⟩ => ⟨S128, .f32⟩
  | .hbm, ⟨3, _⟩ => ⟨S2x128, .f32⟩
  | .hbm, ⟨4, _⟩ => ⟨S2, .f32⟩
  | .hbm, ⟨5, _⟩ => ⟨S4x1024, .f32⟩
  | .hbm, ⟨6, _⟩ => ⟨S1024x128, .f32⟩
  | .hbm, ⟨7, _⟩ => ⟨S4x128, .f32⟩
  | .hbm, ⟨8, _⟩ => ⟨S1x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S128x2, .f32⟩
  | .hbm, ⟨15, _⟩ => ⟨S4x2, .f32⟩
  | .hbm, ⟨16, _⟩ => ⟨S1x2, .f32⟩
  | .hbm, ⟨17, _⟩ => ⟨S4x2, .f32⟩
  | .hbm, ⟨18, _⟩ => ⟨S4x2, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4x1, .f32⟩
  | .hbm, ⟨25, _⟩ => ⟨S4x2, .f32⟩
  | .hbm, ⟨26, _⟩ => ⟨S4x2, .f32⟩
  | .hbm, ⟨27, _⟩ => ⟨S4x2, .f32⟩
  | .hbm, ⟨28, _⟩ => ⟨S_, .f32⟩
  | .hbm, ⟨29, _⟩ => ⟨S4, .f32⟩
  | .hbm, ⟨30, _⟩ => ⟨S4x1, .f32⟩
  | .hbm, ⟨31, _⟩ => ⟨S4x2, .f32⟩
  | .hbm, ⟨32, _⟩ => ⟨S4x2, .f32⟩
  | _, _ => ⟨S4x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.ScanShared.lean ====
/- What the two runs of the launch's body share. The outputs' contents are left open here: only the frame is proved. -/
module

public import proofs.«01_k».proof.Proof.Gen.Scan.Frame
public import proofs.«01_k».proof.Proof.Gen.Scan.Skeleton
public import proofs.«01_k».proof.Proof.Gen.Scan.Loops
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Scan.Hand

open Cert.Scan Cert.Scan.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The buffers the lines after the region WRITE, as references: results computed from contents the run does not name
    (an operand the body wrote by its own DMA, or a forgotten output), so nothing is stated of them either. -/
def T0 : Finset (Ref sig .tc) := {main_v41, main_v42, main_v43, main_v44, main_v45, main_v46}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Scan`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 8 rfl).trans ((hA c 8).trans (V_main_arg5 m c)),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c),
      ((h c).2 main_arg17 (Finset.mem_sdiff.mpr ⟨Pipeline.mem_restRefs_of main_arg17 (by decide) (by decide), by decide⟩)).trans (V_main_arg17 m c),
      ((h c).2 main_arg18 (Finset.mem_sdiff.mpr ⟨Pipeline.mem_restRefs_of main_arg18 (by decide) (by decide), by decide⟩)).trans (V_main_arg18 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.remsi (BitVec.ofNat 32 (i 0).val) 2#32) 0#32)) 0#32) = 1#1
/-- It holds at the points ≡ 0 (mod 2) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S4x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256x1024 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1024x512 .f32 := Memref.whole cc0_scratch0
abbrev scM0_1 : Memref sig .tc .vmem S1024x512 .f32 := Memref.whole cc0_scratch1
abbrev scM0_2 : Memref sig .tc .vmem S512x1024 .f32 := Memref.whole cc0_scratch2
abbrev scM0_3 : Memref sig .tc .vmem S32x512 .f32 := Memref.whole cc0_scratch3
abbrev scM0_4 : Memref sig .tc .vmem S32x512 .f32 := Memref.whole cc0_scratch4
abbrev scM0_5 : Memref sig .tc .vmem S32x512 .f32 := Memref.whole cc0_scratch5
abbrev scM0_6 : Memref sig .tc .vmem S32x512 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Scan.Hand

end
-- ==== Proof.ScanRunA.lean ====
/- One run of the body, at the first half of the channels. -/
module

public import proofs.«01_k».proof.Proof.ScanShared

@[expose] public section

-- membership in a rectangle of production extents (`View.cover_of_tiled`): the elaborator's structural look
-- recurses once per coordinate of the long axes
set_option maxRecDepth 16384

noncomputable section

namespace Cert.Scan.Hand

open Cert.Scan Cert.Scan.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0, 2, … 14: 8 of 16): on whole staging memrefs — the inputs' at their contents,
    the FORGOTTEN outputs' (14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (hc0 : cond0_0 i) (hc1 : ¬cond0_1 i)
    (x0 : Vec F S4x2 .f32) (x1 : Vec F S1x1x1024x512 .f32) (x2 : Vec F S1x1x1024x512 .f32) (x3 : Vec F S1x32x512 .f32) (x4 : Vec F S1x32x512 .f32) (x5 : Vec F S1x32x512 .f32) (x6 : Vec F S1x1 .f32) (x7 : Vec F S1x512x512 .f32) (x8 : Vec F S256x512 .f32) (x9 : Vec F S256x1 .f32) (x10 : Vec F S256x1 .f32) (x11 : Vec F S256x1 .f32) (x12 : Vec F S256x1 .f32) (x13 : Vec F S1x1x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mamba_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mamba_scan_eq_skeleton]; unfold cc0_mamba_scan_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Scan.Hand

end
-- ==== Proof.ScanRunB.lean ====
/- One run of the body, at the second half of the channels. -/
module

public import proofs.«01_k».proof.Proof.ScanRunA

@[expose] public section

-- membership in a rectangle of production extents (`View.cover_of_tiled`): the elaborator's structural look
-- recurses once per coordinate of the long axes
set_option maxRecDepth 16384

noncomputable section

namespace Cert.Scan.Hand

open Cert.Scan Cert.Scan.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken: points 1, 3, … 15: 8 of 16): on whole staging memrefs — the inputs' at their contents,
    the FORGOTTEN outputs' (14) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (hc0 : ¬cond0_0 i) (hc1 : cond0_1 i)
    (x0 : Vec F S4x2 .f32) (x1 : Vec F S1x1x1024x512 .f32) (x2 : Vec F S1x1x1024x512 .f32) (x3 : Vec F S1x32x512 .f32) (x4 : Vec F S1x32x512 .f32) (x5 : Vec F S1x32x512 .f32) (x6 : Vec F S1x1 .f32) (x7 : Vec F S1x512x512 .f32) (x8 : Vec F S256x512 .f32) (x9 : Vec F S256x1 .f32) (x10 : Vec F S256x1 .f32) (x11 : Vec F S256x1 .f32) (x12 : Vec F S256x1 .f32) (x13 : Vec F S1x1x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mamba_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mamba_scan_eq_skeleton]; unfold cc0_mamba_scan_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Scan.Hand

end
-- ==== Proof.ScanFrame.lean ====
/- The frame of the launch: what the carried scratch buffers hold from point to point, the body, the run. -/
module

public import proofs.«01_k».proof.Proof.ScanRunB
public import Idealize.ShloMosaic.Lib.Claim

@[expose] public section

-- membership in a rectangle of production extents (`View.cover_of_tiled`): the elaborator's structural look
-- recurses once per coordinate of the long axes
set_option maxRecDepth 16384

noncomputable section

namespace Cert.Scan.Hand

open Cert.Scan Cert.Scan.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (14): nothing reads what the kernel leaves in them, so nothing
    of it is named (Lib/Pipeline/Dat.lean `Dat.toRForget`). -/
def forgets0 : Fin 15 → Bool := fun w => w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms0_14 t) fullShare d))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, HS0, HS1, HS2, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, HS0, HS1, HS2, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 14) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (fun c => (dats m 0 c).toRForget forgets0) (A_eq m) (run_main m ρ)

/-- Every run ends, with every counter at zero and the arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Scan.Hand

end
-- ==== Proof.Num.lean ====
module

public import Idealize.ShloMosaic.Lib.Pointwise

@[expose] public section

noncomputable section

namespace Cert.Num

open Idealize.ShloMosaic

/-- One state of the recurrence, over the extended reals: the decay `a`, the input weight `b`, the inputs `x 0`, `x 1`, …;
    the state is clipped after every step. -/
def hs (a b : EReal) (x : ℕ → EReal) : ℕ → EReal
  | 0 => 0
  | n + 1 => min (Ideal.ofBits .f32 0x41200000#32) (max (Ideal.ofBits .f32 0xC1200000#32) (hs a b x n * a + x n * b))

theorem hs_succ (a b : EReal) (x : ℕ → EReal) (n : ℕ) :
    hs a b x (n + 1) = min (Ideal.ofBits .f32 0x41200000#32) (max (Ideal.ofBits .f32 0xC1200000#32) (hs a b x n * a + x n * b)) := rfl

/-- The decay of a state from its logarithm. -/
def dec (a : EReal) : EReal :=
  min (Ideal.ofBits .f32 0xBC23D70A#32) (max (Ideal.ofBits .f32 0xC1200000#32) (-(Ideal.exp a)))

/-- The residual block as the launch computes it: the normalisation folded into one scale and one shift. -/
def kform (xo gt g b m v : EReal) (rw ft : Fin 512 → EReal) : EReal :=
  xo + Ideal.logistic gt *
    ((∑ d, rw d * ft d) * (g * Ideal.rsqrt (v + Ideal.ofBits .f32 0x3727C5AC#32))
      + (b - m * (g * Ideal.rsqrt (v + Ideal.ofBits .f32 0x3727C5AC#32))))

/-- The residual block as written: subtract the mean, divide by the deviation, scale, shift. -/
def rform (xo gt g b m v : EReal) (rw ft : Fin 512 → EReal) : EReal :=
  xo + Ideal.div 1 (1 + Ideal.exp (-gt)) *
    (Ideal.div ((∑ d, rw d * ft d) - m) (Ideal.sqrt (v + Ideal.ofBits .f32 0x3727C5AC#32)) * g + b)

/-- One feature at one place: two read-outs, each halved, gated, projected, and weighted. -/
def fref (l0 l1 : EReal) (gs w y0 y1 : Fin 1024 → EReal) : EReal :=
  l0 * (∑ i, Ideal.ofBits .f32 0x3F000000#32 * y0 i * gs i * w i) + l1 * ∑ i, Ideal.ofBits .f32 0x3F000000#32 * y1 i * gs i * w i

end Cert.Num
end
-- ==== Proof.Alg.lean ====
module

public import proofs.«01_k».proof.Proof.Num

@[expose] public section

noncomputable section

namespace Cert.Num

open Idealize.ShloMosaic

/-- An extended real that is a real number. -/
def IsReal (x : EReal) : Prop := ∃ r : ℝ, x = (r : EReal)

theorem half_eq : Ideal.ofBits .f32 0x3F000000#32 = ((1 / 2 : ℝ) : EReal) := by
  simp [Ideal.ofBits, Ideal.ieee, -EReal.coe_mul]; norm_num

theorem ten_real : IsReal (Ideal.ofBits .f32 0x41200000#32) := by
  refine ⟨10, ?_⟩
  simp [Ideal.ofBits, Ideal.ieee, -EReal.coe_mul]; norm_num

theorem negTen_real : IsReal (Ideal.ofBits .f32 0xC1200000#32) := by
  refine ⟨-10, ?_⟩
  simp [Ideal.ofBits, Ideal.ieee, -EReal.coe_mul]; norm_num

theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- Clipping between two reals gives a real, whatever is clipped. -/
theorem clip_real {lo hi : EReal} (hl : IsReal lo) (hh : IsReal hi) (z : EReal) : IsReal (min hi (max lo z)) := by
  obtain ⟨l, rfl⟩ := hl
  obtain ⟨h, rfl⟩ := hh
  have h1 : min (h : EReal) (max (l : EReal) z) ≠ ⊤ := ne_of_lt (lt_of_le_of_lt (min_le_left _ _) (EReal.coe_lt_top h))
  have h2 : min (h : EReal) (max (l : EReal) z) ≠ ⊥ :=
    ne_of_gt (lt_min (EReal.bot_lt_coe h) (lt_of_lt_of_le (EReal.bot_lt_coe l) (le_max_left _ _)))
  exact ⟨_, (EReal.coe_toReal h1 h2).symm⟩

/-- Every state is a real number: it is clipped. -/
theorem hs_real (a b : EReal) (x : ℕ → EReal) : ∀ n, IsReal (hs a b x n)
  | 0 => ⟨0, rfl⟩
  | _ + 1 => clip_real negTen_real ten_real _

/-- The state after `n` steps reads the first `n` inputs only. -/
theorem hs_congr (a b : EReal) (x y : ℕ → EReal) : ∀ n, (∀ k, k < n → x k = y k) → hs a b x n = hs a b y n
  | 0, _ => rfl
  | n + 1, h => by
    rw [hs_succ, hs_succ, hs_congr a b x y n (fun k hk => h k (Nat.lt_succ_of_lt hk)), h n (Nat.lt_succ_self n)]

/-- Column `q` of half `h` of the channels. -/
def half2 (h : ℕ) (hh : h < 2) (q : Fin 512) : Fin 1024 := ⟨512 * h + q.val, by omega⟩

/-- One half of the channels' share of a feature, as the launch computes it: thirty-two rows of states, the weights and the
    factor one half inside the read-out. -/
def kpart (l0 l1 : EReal) (w gs : Fin 1024 → EReal) (C hf hb : Fin 32 → Fin 1024 → EReal) (lo : Fin 512 → Fin 1024) : EReal :=
  ∑ q : Fin 512, w (lo q) *
    ((∑ r : Fin 32, hf r (lo q) * ((C r (lo q) * if r.val < 16 then l0 else l1) * Ideal.ofBits .f32 0x3F000000#32)
      + ∑ r : Fin 32, hb r (lo q) * ((C r (lo q) * if r.val < 16 then l0 else l1) * Ideal.ofBits .f32 0x3F000000#32)) * gs (lo q))

theorem sum32 {M : Type} [AddCommMonoid M] (f : Fin 32 → M) :
    ∑ r, f r = ∑ k : Fin 16, f (Fin.castAdd 16 k) + ∑ k : Fin 16, f (Fin.natAdd 16 k) := Fin.sum_univ_add (a := 16) (b := 16) f

theorem sum1024 {M : Type} [AddCommMonoid M] (f : Fin 1024 → M) :
    ∑ i, f i = ∑ q : Fin 512, f (half2 0 (by decide) q) + ∑ q : Fin 512, f (half2 1 (by decide) q) := by
  rw [show ∑ i, f i = _ from Fin.sum_univ_add (a := 512) (b := 512) f]
  congr 1

/-- The reals' identity behind a feature: the weights and the one half come out of the sums over the states. -/
theorem term_real (l0 l1 w gs : ℝ) (C f0 f1 g0 g1 : Fin 16 → ℝ) :
    w * ((∑ k, f0 k * (C k * l0 * (1 / 2)) + ∑ k, f1 k * (C k * l1 * (1 / 2))
        + (∑ k, g0 k * (C k * l0 * (1 / 2)) + ∑ k, g1 k * (C k * l1 * (1 / 2)))) * gs)
      = l0 * (1 / 2 * (∑ k, f0 k * C k + ∑ k, g0 k * C k) * gs * w) + l1 * (1 / 2 * (∑ k, f1 k * C k + ∑ k, g1 k * C k) * gs * w) := by
  have e : ∀ (f : Fin 16 → ℝ) (l : ℝ), ∑ k, f k * (C k * l * (1 / 2)) = (∑ k, f k * C k) * (l * (1 / 2)) := fun f l => by
    rw [Finset.sum_mul]
    exact Finset.sum_congr rfl fun k _ => by ring
  rw [e, e, e, e]
  ring

theorem exists_fun1 {α : Type} (f : α → EReal) (h : ∀ a, IsReal (f a)) : ∃ f' : α → ℝ, f = fun a => (f' a : EReal) := by
  choose f' hf using h
  exact ⟨f', funext hf⟩

theorem exists_fun2 {α β : Type} (f : α → β → EReal) (h : ∀ a b, IsReal (f a b)) :
    ∃ f' : α → β → ℝ, f = fun a b => (f' a b : EReal) := by
  choose f' hf using h
  exact ⟨f', funext fun a => funext fun b => hf a b⟩

/-- A feature as written is the sum of its two halves as the launch computes them, and it is a real number. -/
theorem feature (l0 l1 : EReal) (gs w : Fin 1024 → EReal) (C f0 f1 g0 g1 : Fin 16 → Fin 1024 → EReal)
    (CC hf hb : Fin 32 → Fin 1024 → EReal) (y0 y1 : Fin 1024 → EReal)
    (rl0 : IsReal l0) (rl1 : IsReal l1) (rgs : ∀ i, IsReal (gs i)) (rw' : ∀ i, IsReal (w i)) (rC : ∀ k i, IsReal (C k i))
    (rf0 : ∀ k i, IsReal (f0 k i)) (rf1 : ∀ k i, IsReal (f1 k i)) (rg0 : ∀ k i, IsReal (g0 k i)) (rg1 : ∀ k i, IsReal (g1 k i))
    (hC0 : ∀ k, CC (Fin.castAdd 16 k) = C k) (hC1 : ∀ k, CC (Fin.natAdd 16 k) = C k)
    (hf0 : ∀ k, hf (Fin.castAdd 16 k) = f0 k) (hf1 : ∀ k, hf (Fin.natAdd 16 k) = f1 k)
    (hb0 : ∀ k, hb (Fin.castAdd 16 k) = g0 k) (hb1 : ∀ k, hb (Fin.natAdd 16 k) = g1 k)
    (hy0 : ∀ i, y0 i = ∑ k, f0 k i * C k i + ∑ k, g0 k i * C k i)
    (hy1 : ∀ i, y1 i = ∑ k, f1 k i * C k i + ∑ k, g1 k i * C k i) :
    kpart l0 l1 w gs CC hf hb (half2 0 (by decide)) + kpart l0 l1 w gs CC hf hb (half2 1 (by decide)) = fref l0 l1 gs w y0 y1
      ∧ IsReal (fref l0 l1 gs w y0 y1) := by
  obtain rfl : y0 = fun i => ∑ k, f0 k i * C k i + ∑ k, g0 k i * C k i := funext hy0
  obtain rfl : y1 = fun i => ∑ k, f1 k i * C k i + ∑ k, g1 k i * C k i := funext hy1
  obtain ⟨l0', rfl⟩ := rl0
  obtain ⟨l1', rfl⟩ := rl1
  obtain ⟨gs', rfl⟩ := exists_fun1 gs rgs
  obtain ⟨w', rfl⟩ := exists_fun1 w rw'
  obtain ⟨C', rfl⟩ := exists_fun2 C rC
  obtain ⟨f0', rfl⟩ := exists_fun2 f0 rf0
  obtain ⟨f1', rfl⟩ := exists_fun2 f1 rf1
  obtain ⟨g0', rfl⟩ := exists_fun2 g0 rg0
  obtain ⟨g1', rfl⟩ := exists_fun2 g1 rg1
  have lt : ∀ k : Fin 16, (Fin.castAdd 16 k).val < 16 := fun k => k.isLt
  have ge : ∀ k : Fin 16, ¬ (Fin.natAdd 16 k).val < 16 := fun k => by simp
  unfold kpart fref
  simp only [sum32, hC0, hC1, hf0, hf1, hb0, hb1, if_pos (lt _), if_neg (ge _), half_eq]
  simp only [← EReal.coe_mul, ← coe_sum, ← EReal.coe_add]
  refine ⟨congrArg _ ?_, ⟨_, rfl⟩⟩
  simp only [term_real]
  rw [← sum1024 (fun i => l0' * (1 / 2 * (∑ k, f0' k i * C' k i + ∑ k, g0' k i * C' k i) * gs' i * w' i)
    + l1' * (1 / 2 * (∑ k, f1' k i * C' k i + ∑ k, g1' k i * C' k i) * gs' i * w' i)), Finset.sum_add_distrib, Finset.mul_sum, Finset.mul_sum]

/-- The normalisation folded into a scale and a shift is the normalisation as written. -/
theorem kform_eq (xo gt g b m v : EReal) (rw ft : Fin 512 → EReal) (rr : ∀ d, IsReal (rw d)) (rf : ∀ d, IsReal (ft d))
    (rg : IsReal g) (rb : IsReal b) (rm : IsReal m) (rv : IsReal v) (hv : 0 ≤ v) : kform xo gt g b m v rw ft = rform xo gt g b m v rw ft := by
  obtain ⟨rw', rfl⟩ := exists_fun1 rw rr
  obtain ⟨ft', rfl⟩ := exists_fun1 ft rf
  obtain ⟨g, rfl⟩ := rg
  obtain ⟨b, rfl⟩ := rb
  obtain ⟨m, rfl⟩ := rm
  obtain ⟨v, rfl⟩ := rv
  obtain ⟨e, he, hE⟩ := eps_pos
  have hv' : 0 ≤ v := by exact_mod_cast hv
  have hp : 0 < v + e := by linarith
  have hs : Real.sqrt (v + e) ≠ 0 := (Real.sqrt_pos.2 hp).ne'
  unfold kform rform
  refine congrArg₂ (· + ·) rfl (congrArg₂ (· * ·) rfl ?_)
  simp only [hE, ← EReal.coe_mul, ← coe_sum, ← EReal.coe_add, ← EReal.coe_sub]
  have h1 : Ideal.rsqrt ((v + e : ℝ) : EReal) = (((Real.sqrt (v + e))⁻¹ : ℝ) : EReal) := by
    show (if v + e < 0 then ⊥ else if v + e = 0 then ⊤ else (((Real.sqrt (v + e))⁻¹ : ℝ) : EReal)) = _
    rw [if_neg (not_lt.2 hp.le), if_neg hp.ne']
  have h2 : Ideal.sqrt ((v + e : ℝ) : EReal) = ((Real.sqrt (v + e) : ℝ) : EReal) := by
    show (if v + e < 0 then ⊥ else ((Real.sqrt (v + e) : ℝ) : EReal)) = _
    rw [if_neg (not_lt.2 hp.le)]
  have h3 : ∀ z : ℝ, Ideal.div (z : EReal) ((Real.sqrt (v + e) : ℝ) : EReal) = ((z * (Real.sqrt (v + e))⁻¹ : ℝ) : EReal) := fun z => by
    rw [Ideal.div, if_neg (by exact_mod_cast hs), EReal.coe_mul, EReal.coe_inv]
  rw [h1, h2, h3]
  simp only [← EReal.coe_mul, ← EReal.coe_add, ← EReal.coe_sub]
  refine congrArg _ ?_
  ring

end Cert.Num
end
-- ==== Proof.FrontNum.lean ====
module

public import proofs.«01_k».proof.Proof.Alg

@[expose] public section

noncomputable section

namespace Cert.Num

open Idealize.ShloMosaic

/-- The reduced channel as the launch computes it: the normalisation folded into one scale and one shift, then cut at zero. -/
def kact (y g b m v : EReal) : EReal :=
  max (y * (g * Ideal.rsqrt (v + Ideal.ofBits .f32 0x3727C5AC#32))
    + (b - m * (g * Ideal.rsqrt (v + Ideal.ofBits .f32 0x3727C5AC#32)))) 0

/-- The reduced channel as written: subtract the mean, divide by the deviation, scale, shift, cut at zero. -/
def ract (y g b m v : EReal) : EReal :=
  max (Ideal.div (y - m) (Ideal.sqrt (v + Ideal.ofBits .f32 0x3727C5AC#32)) * g + b) 0

/-- The mean of a row of 512 channels. -/
def mean512 (f : Fin 512 → EReal) : EReal := Ideal.div (∑ c, f c) (Ideal.ofBits .f32 0x44000000#32)

/-- The mean of the squared distances to the mean. -/
def var512 (f : Fin 512 → EReal) : EReal := mean512 fun c => (f c - mean512 f) * (f c - mean512 f)

/-- The layer norm as the launch computes it: multiplied by the reciprocal root. -/
def kxn (f lg lb : Fin 512 → EReal) (c : Fin 512) : EReal :=
  (f c - mean512 f) * Ideal.rsqrt (var512 f + Ideal.ofBits .f32 0x3727C5AC#32) * lg c + lb c

/-- The layer norm as written: divided by the root. -/
def rxn (f lg lb : Fin 512 → EReal) (c : Fin 512) : EReal :=
  Ideal.div (f c - mean512 f) (Ideal.sqrt (var512 f + Ideal.ofBits .f32 0x3727C5AC#32)) * lg c + lb c

/-- One entry of the projection of a normalised row, by the launch. -/
def kproj (f lg lb w : Fin 512 → EReal) : EReal := ∑ c, kxn f lg lb c * w c

/-- One entry of the projection of a normalised row, as written. -/
def rproj (f lg lb w : Fin 512 → EReal) : EReal := ∑ c, rxn f lg lb c * w c

/-- A gate value times its logistic. -/
def silu (z : EReal) : EReal := z * Ideal.div 1 (1 + Ideal.exp (-z))

theorem rsqrt_pos {p : ℝ} (hp : 0 < p) : Ideal.rsqrt (p : EReal) = (((Real.sqrt p)⁻¹ : ℝ) : EReal) := by
  show (if p < 0 then ⊥ else if p = 0 then ⊤ else (((Real.sqrt p)⁻¹ : ℝ) : EReal)) = _
  rw [if_neg (not_lt.2 hp.le), if_neg hp.ne']

theorem div_sqrt_pos {p : ℝ} (hp : 0 < p) (z : EReal) : Ideal.div z (Ideal.sqrt (p : EReal)) = z * (((Real.sqrt p)⁻¹ : ℝ) : EReal) := by
  have hs : Real.sqrt p ≠ 0 := (Real.sqrt_pos.2 hp).ne'
  have h2 : Ideal.sqrt (p : EReal) = ((Real.sqrt p : ℝ) : EReal) := by
    show (if p < 0 then ⊥ else ((Real.sqrt p : ℝ) : EReal)) = _
    rw [if_neg (not_lt.2 hp.le)]
  rw [h2, Ideal.div, if_neg (by exact_mod_cast hs), EReal.coe_inv]

/-- For a row that is not negative on average, multiplying by the reciprocal root is dividing by the root. -/
theorem mul_rsqrt_eq {a : EReal} (ha : 0 ≤ a) (z : EReal) :
    z * Ideal.rsqrt (a + Ideal.ofBits .f32 0x3727C5AC#32) = Ideal.div z (Ideal.sqrt (a + Ideal.ofBits .f32 0x3727C5AC#32)) := by
  obtain ⟨e, he, hE⟩ := eps_pos
  rw [hE]
  induction a with
  | bot => exact absurd ha (by simp)
  | top =>
    rw [EReal.top_add_coe]
    show z * 0 = Ideal.div z ⊤
    rw [Ideal.div, if_neg EReal.top_ne_zero, EReal.inv_top]
  | coe a =>
    have ha' : 0 ≤ a := by exact_mod_cast ha
    have hp : 0 < a + e := by linarith
    rw [← EReal.coe_add, rsqrt_pos hp, div_sqrt_pos hp]

theorem w512 : Ideal.ofBits .f32 0x44000000#32 = ((512 : ℝ) : EReal) := by
  simp [Ideal.ofBits, Ideal.ieee, -EReal.coe_mul]; norm_num

theorem sq_nonneg' (d : EReal) : 0 ≤ d * d := by
  induction d with
  | bot => simp
  | top => simp
  | coe d => rw [← EReal.coe_mul]; exact_mod_cast mul_self_nonneg d

theorem var512_nonneg (f : Fin 512 → EReal) : 0 ≤ var512 f := by
  unfold var512
  generalize mean512 f = mu
  unfold mean512
  rw [w512, Ideal.div, if_neg (by norm_num : ((512 : ℝ) : EReal) ≠ 0), ← EReal.coe_inv]
  refine EReal.mul_nonneg ?_ ?_
  · exact Finset.sum_nonneg fun c _ => sq_nonneg' _
  · exact_mod_cast (by norm_num : (0 : ℝ) ≤ (512 : ℝ)⁻¹)

theorem kxn_eq (f lg lb : Fin 512 → EReal) : kxn f lg lb = rxn f lg lb := funext fun c => by
  unfold kxn rxn
  rw [mul_rsqrt_eq (var512_nonneg f)]

theorem kproj_eq (f lg lb w : Fin 512 → EReal) : kproj f lg lb w = rproj f lg lb w := by
  unfold kproj rproj
  rw [kxn_eq]

/-- The folded normalisation is the normalisation as written, whatever is normalised. -/
theorem kact_eq (y g b m v : EReal) (rg : IsReal g) (rb : IsReal b) (rm : IsReal m) (rv : IsReal v) (hv : 0 ≤ v) :
    kact y g b m v = ract y g b m v := by
  obtain ⟨g, rfl⟩ := rg
  obtain ⟨b, rfl⟩ := rb
  obtain ⟨m, rfl⟩ := rm
  obtain ⟨v, rfl⟩ := rv
  obtain ⟨e, he, hE⟩ := eps_pos
  have hv' : 0 ≤ v := by exact_mod_cast hv
  have hp : 0 < v + e := by linarith
  have hi : 0 < (Real.sqrt (v + e))⁻¹ := inv_pos.2 (Real.sqrt_pos.2 hp)
  unfold kact ract
  refine congrArg (max · 0) ?_
  rw [hE, ← EReal.coe_add, rsqrt_pos hp, div_sqrt_pos hp]
  generalize (Real.sqrt (v + e))⁻¹ = r at hi
  have key : ∀ z : EReal, z = ⊤ ∨ z = ⊥ → z * (((g * r : ℝ) : EReal)) + ((b - m * (g * r) : ℝ) : EReal) = z * (r : EReal) * (g : EReal) + (b : EReal) := fun z hz => by
    rcases lt_trichotomy g 0 with hg | hg | hg
    · have hgr : g * r < 0 := mul_neg_of_neg_of_pos hg hi
      rcases hz with rfl | rfl
      · rw [EReal.top_mul_coe_of_neg hgr, EReal.top_mul_coe_of_pos hi, EReal.top_mul_coe_of_neg hg, EReal.bot_add, EReal.bot_add]
      · rw [EReal.bot_mul_coe_of_neg hgr, EReal.bot_mul_coe_of_pos hi, EReal.bot_mul_coe_of_neg hg, EReal.top_add_coe, EReal.top_add_coe]
    · subst hg
      simp
    · have hgr : 0 < g * r := mul_pos hg hi
      rcases hz with rfl | rfl
      · rw [EReal.top_mul_coe_of_pos hgr, EReal.top_mul_coe_of_pos hi, EReal.top_mul_coe_of_pos hg, EReal.top_add_coe, EReal.top_add_coe]
      · rw [EReal.bot_mul_coe_of_pos hgr, EReal.bot_mul_coe_of_pos hi, EReal.bot_mul_coe_of_pos hg, EReal.bot_add, EReal.bot_add]
  rw [← EReal.coe_mul, ← EReal.coe_mul, ← EReal.coe_sub]
  induction y with
  | bot => rw [key ⊥ (Or.inr rfl), EReal.bot_sub]
  | top => rw [key ⊤ (Or.inl rfl), EReal.top_sub_coe]
  | coe y =>
    simp only [← EReal.coe_mul, ← EReal.coe_add, ← EReal.coe_sub]
    refine congrArg _ ?_
    ring

end Cert.Num
end
-- ==== Proof.FrontKer.lean ====
module

public import proofs.«01_k».proof.Proof.Gen.FrontIdeal.Value
public import proofs.«01_k».proof.Proof.FrontNum
public import Idealize.ShloMosaic.Lib.Pointwise
public import Idealize.ShloMosaic.Lib.Pipeline.ValueKit
public import Idealize.ShloMosaic.Lib.StableHlo.ReadAt

@[expose] public section

set_option maxRecDepth 16384

noncomputable section

namespace Cert.FrontIdeal.Hand

open Cert.FrontIdeal Cert.FrontIdeal.Gen Cert.Num
open Idealize.ShloMosaic Idealize.ShloMosaic.TcCoe
open Idealize.ShloMosaic.Pipeline (Dat Cfg Window)

section
variable (v0 : FVec Ideal S1x1x256x1024 .f32) (v2 : FVec Ideal S512x256 .f32) (v4 v6 v12 v14 : FVec Ideal S1x512 .f32)

/-- A reduced channel of a block: product with the weights, normalised, cut at zero. -/
def bact (l : Fin 1024) (o : Fin 512) : EReal :=
  kact (∑ k : Fin 256, v2 (ix2 o k) * v0 (ix4 0 0 k l)) (v4 (ix2 0 o)) (v12 (ix2 0 o)) (v14 (ix2 0 o)) (v6 (ix2 0 o))

theorem pay4_at (l : Fin 1024) (o : Fin 512) : k0_pay4 (F := Ideal) v0 v2 v4 v6 v12 v14 (ix2 l o) = bact v0 v2 v4 v6 v12 v14 l o := by
  have e : ∀ k : Fin 256, v2 (ix2 o k) * v0 (ix4 0 0 k l) = v0 (ix4 0 0 k l) * v2 (ix2 o k) := fun k => mul_comm _ _
  unfold bact
  simp only [e]
  clear e
  pointwise [k0_pay4, kact]

theorem pay6_at (l : Fin 1024) : k0_pay6 (F := Ideal) v0 v2 v4 v6 v12 v14 (ix2 l 0) = ∑ o : Fin 512, k0_pay4 (F := Ideal) v0 v2 v4 v6 v12 v14 (ix2 l o) := by
  pointwise [k0_pay6, k0_pay4]

theorem pay5_at (o : Fin 512) : k0_pay5 (F := Ideal) v0 v2 v4 v6 v12 v14 (ix3 0 0 o)
    = Ideal.div (∑ l : Fin 1024, k0_pay4 (F := Ideal) v0 v2 v4 v6 v12 v14 (ix2 l o)) (Ideal.ofBits .f32 0x44800000#32) := by
  pointwise [k0_pay5, k0_pay4]
end

section
variable (y : FVec Ideal S1024x512 .f32) (z : FVec Ideal S1024x1 .f32) (lg lb : FVec Ideal S1x1x512 .f32) (w : FVec Ideal S1x2048x512 .f32)

theorem pay1_at (hz : ∀ l, z (ix2 l 0) = ∑ o : Fin 512, y (ix2 l o)) (l : Fin 1024) (j : Fin 2048) :
    k0_pay1 (F := Ideal) y z (Scalar.ofBits .f32 0x44000000#32) lg lb w (ix2 l j)
      = kproj (fun o => y (ix2 l o)) (fun o => lg (ix3 0 0 o)) (fun o => lb (ix3 0 0 o)) (fun o => w (ix3 0 j o)) := by
  unfold kproj kxn var512 mean512
  simp only [← hz]
  pointwise [k0_pay1]

theorem pay2_at (l i : Fin 1024) :
    k0_pay2 (F := Ideal) y z (Scalar.ofBits .f32 0x44000000#32) lg lb w (ix4 0 0 l i) = k0_pay1 (F := Ideal) y z (Scalar.ofBits .f32 0x44000000#32) lg lb w (ix2 l ⟨i.val, (by omega)⟩) := by
  unfold k0_pay2
  generalize k0_pay1 (F := Ideal) y z (Scalar.ofBits .f32 0x44000000#32) lg lb w = p
  pointwise []

theorem pay3_at (l i : Fin 1024) :
    k0_pay3 (F := Ideal) y z (Scalar.ofBits .f32 0x44000000#32) lg lb w (ix4 0 0 l i) = silu (k0_pay1 (F := Ideal) y z (Scalar.ofBits .f32 0x44000000#32) lg lb w (ix2 l ⟨1024 + i.val, (by omega)⟩)) := by
  unfold k0_pay3
  generalize k0_pay1 (F := Ideal) y z (Scalar.ofBits .f32 0x44000000#32) lg lb w = p
  pointwise [silu]
  rfl
end

variable (m : (ℓ : Loc nD τ sig) → Buf (Elt Ideal) ℓ) (c : Dev nD)

/-- The stream a point works on. -/
def sOf (t : Fin cfg0.N) : Fin 2 := ⟨t.val / 4, (by have : t.val < 8 := t.isLt; omega)⟩
/-- The sequence a point works on. -/
def bOf (t : Fin cfg0.N) : Fin 4 := ⟨t.val % 4, Nat.mod_lt _ (by decide)⟩

theorem V_v4 (s : Fin 2) (b : Fin 4) (o : Fin 256) (l : Fin 1024) :
    (V m c main_v4 : FVec Ideal S2x4x256x1024 .f32) (ix4 s b o l)
      = if s.val = 0 then m ((c.tc : Thread nD τ).loc main_arg0) (ix4 b o ⟨l.val / 32, (by omega)⟩ ⟨l.val % 32, (by omega)⟩) else m ((c.tc : Thread nD τ).loc main_arg1) (ix4 b o ⟨l.val / 32, (by omega)⟩ ⟨l.val % 32, (by omega)⟩) := by
  unfold V
  after_reads_at
  try after_reads_at
  fin_vals s with hs
  all_goals simp [hs]

theorem V_v8 (s : Fin 2) (o : Fin 512) : (V m c main_v8 : FVec Ideal S2x1x512 .f32) (ix3 s 0 o)
    = if s.val = 0 then m ((c.tc : Thread nD τ).loc main_arg8) (ix1 o) else m ((c.tc : Thread nD τ).loc main_arg11) (ix1 o) := by
  unfold V
  after_reads_at
  try after_reads_at
  fin_vals s with hs
  all_goals simp [hs]

theorem V_v12 (s : Fin 2) (o : Fin 512) : (V m c main_v12 : FVec Ideal S2x1x512 .f32) (ix3 s 0 o)
    = if s.val = 0 then m ((c.tc : Thread nD τ).loc main_arg9) (ix1 o) else m ((c.tc : Thread nD τ).loc main_arg12) (ix1 o) := by
  unfold V
  after_reads_at
  try after_reads_at
  fin_vals s with hs
  all_goals simp [hs]

theorem V_v15 (s : Fin 2) (j : Fin 2048) (o : Fin 512) : (V m c main_v15 : FVec Ideal S2x2048x512 .f32) (ix3 s j o)
    = if s.val = 0 then m ((c.tc : Thread nD τ).loc main_arg7) (ix2 j o) else m ((c.tc : Thread nD τ).loc main_arg10) (ix2 j o) := by
  unfold V
  after_reads_at
  try after_reads_at
  fin_vals s with hs
  all_goals simp [hs]

theorem V_v16 (o : Fin 512) : (V m c main_v16 : FVec Ideal S1x512 .f32) (ix2 0 o) = m ((c.tc : Thread nD τ).loc main_arg3) (ix1 o) := by
  unfold V
  after_reads_at
  try after_reads_at
  all_goals rfl

theorem V_v17 (o : Fin 512) : (V m c main_v17 : FVec Ideal S1x512 .f32) (ix2 0 o) = m ((c.tc : Thread nD τ).loc main_arg4) (ix1 o) := by
  unfold V
  after_reads_at
  try after_reads_at
  all_goals rfl

theorem V_v18 (o : Fin 512) : (V m c main_v18 : FVec Ideal S1x512 .f32) (ix2 0 o) = m ((c.tc : Thread nD τ).loc main_arg5) (ix1 o) := by
  unfold V
  after_reads_at
  try after_reads_at
  all_goals rfl

theorem V_v19 (o : Fin 512) : (V m c main_v19 : FVec Ideal S1x512 .f32) (ix2 0 o) = m ((c.tc : Thread nD τ).loc main_arg6) (ix1 o) := by
  unfold V
  after_reads_at
  try after_reads_at
  all_goals rfl

theorem idx : ∀ t : Fin cfg0.N, (cfg0.win 0).index t = ![t.val / 4, t.val % 4, 0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0]
    ∧ (cfg0.win 6).index t = ![t.val / 4, 0, 0] ∧ (cfg0.win 7).index t = ![t.val / 4, 0, 0] ∧ (cfg0.win 8).index t = ![t.val / 4, 0, 0]
    ∧ (cfg0.win 9).index t = ![t.val / 4, t.val % 4, 0, 0] ∧ (cfg0.win 10).index t = ![t.val / 4, t.val % 4, 0, 0]
    ∧ (cfg0.win 11).index t = ![t.val % 4, 0, t.val / 4] := by decide +kernel

theorem in0 (t : Fin cfg0.N) (k : Fin 256) (l : Fin 1024) : iblk m c 0 t (ix4 0 0 k l)
    = if (sOf t).val = 0 then m ((c.tc : Thread nD τ).loc main_arg0) (ix4 (bOf t) k ⟨l.val / 32, (by omega)⟩ ⟨l.val % 32, (by omega)⟩) else m ((c.tc : Thread nD τ).loc main_arg1) (ix4 (bOf t) k ⟨l.val / 32, (by omega)⟩ ⟨l.val % 32, (by omega)⟩) := by
  refine Eq.trans ?_ (V_v4 m c (sOf t) (bOf t) k l)
  blk_ext [iblk, idx t, sOf, bOf]

theorem in1 (t : Fin cfg0.N) (o : Fin 512) (k : Fin 256) : iblk m c 1 t (ix2 o k) = m ((c.tc : Thread nD τ).loc main_arg2) (ix2 o k) := by
  refine Eq.trans ?_ (congrFun (V_main_arg2 m c) _)
  blk_ext [iblk, idx t]

theorem in2 (t : Fin cfg0.N) (o : Fin 512) : iblk m c 2 t (ix2 0 o) = m ((c.tc : Thread nD τ).loc main_arg3) (ix1 o) := by
  refine Eq.trans ?_ (V_v16 m c o)
  blk_ext [iblk, idx t]

theorem in3 (t : Fin cfg0.N) (o : Fin 512) : iblk m c 3 t (ix2 0 o) = m ((c.tc : Thread nD τ).loc main_arg4) (ix1 o) := by
  refine Eq.trans ?_ (V_v17 m c o)
  blk_ext [iblk, idx t]

theorem in4 (t : Fin cfg0.N) (o : Fin 512) : iblk m c 4 t (ix2 0 o) = m ((c.tc : Thread nD τ).loc main_arg5) (ix1 o) := by
  refine Eq.trans ?_ (V_v18 m c o)
  blk_ext [iblk, idx t]

theorem in5 (t : Fin cfg0.N) (o : Fin 512) : iblk m c 5 t (ix2 0 o) = m ((c.tc : Thread nD τ).loc main_arg6) (ix1 o) := by
  refine Eq.trans ?_ (V_v19 m c o)
  blk_ext [iblk, idx t]

theorem in6 (t : Fin cfg0.N) (o : Fin 512) : iblk m c 6 t (ix3 0 0 o)
    = if (sOf t).val = 0 then m ((c.tc : Thread nD τ).loc main_arg8) (ix1 o) else m ((c.tc : Thread nD τ).loc main_arg11) (ix1 o) := by
  refine Eq.trans ?_ (V_v8 m c (sOf t) o)
  blk_ext [iblk, idx t, sOf]

theorem in7 (t : Fin cfg0.N) (o : Fin 512) : iblk m c 7 t (ix3 0 0 o)
    = if (sOf t).val = 0 then m ((c.tc : Thread nD τ).loc main_arg9) (ix1 o) else m ((c.tc : Thread nD τ).loc main_arg12) (ix1 o) := by
  refine Eq.trans ?_ (V_v12 m c (sOf t) o)
  blk_ext [iblk, idx t, sOf]

theorem in8 (t : Fin cfg0.N) (j : Fin 2048) (o : Fin 512) : iblk m c 8 t (ix3 0 j o)
    = if (sOf t).val = 0 then m ((c.tc : Thread nD τ).loc main_arg7) (ix2 j o) else m ((c.tc : Thread nD τ).loc main_arg10) (ix2 j o) := by
  refine Eq.trans ?_ (V_v15 m c (sOf t) j o)
  blk_ext [iblk, idx t, sOf]

end Cert.FrontIdeal.Hand
end
-- ==== Proof.FrontRef.lean ====
module

public import proofs.«01_k».proof.Proof.Gen.FrontReferenceIdeal.Read
public import proofs.«01_k».proof.Proof.FrontNum
public import Idealize.ShloMosaic.Lib.Pointwise
public import Idealize.ShloMosaic.Lib.StableHlo.ReadAt

@[expose] public section

set_option maxRecDepth 16384

noncomputable section

namespace Cert.FrontReferenceIdeal.Hand

open Cert.FrontReferenceIdeal Cert.FrontReferenceIdeal.Gen Cert.FrontReferenceIdeal.Read Cert.Num
open Idealize.ShloMosaic Idealize.ShloMosaic.TcCoe

/-- The reduced channels of a stream: channel `o` at a place, from the stream's input, the weights and the channel's statistics. -/
def act (x : FVec Ideal S4x256x32x32 .f32) (w : FVec Ideal S512x256 .f32) (g b m v : FVec Ideal S512 .f32) (n : Fin 4) (o : Fin 512) (p q : Fin 32) : EReal :=
  ract (∑ k : Fin 256, w (ix2 o k) * x (ix4 n k p q)) (g (ix1 o)) (b (ix1 o)) (m (ix1 o)) (v (ix1 o))

theorem act0 (x0 : FVec Ideal S4x256x32x32 .f32) (x2 : FVec Ideal S512x256 .f32) (x3 x4 x5 x6 : FVec Ideal S512 .f32) (n : Fin 4) (o : Fin 512) (p q : Fin 32) :
    val_main_v22 (F := Ideal) x0 x2 x3 x4 x5 x6 (ix4 n o p q) = act x0 x2 x3 x4 x5 x6 n o p q := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, act, ract]

theorem act1 (x1 : FVec Ideal S4x256x32x32 .f32) (x2 : FVec Ideal S512x256 .f32) (x3 x4 x5 x6 : FVec Ideal S512 .f32) (n : Fin 4) (o : Fin 512) (p q : Fin 32) :
    val_main_v45 (F := Ideal) x1 x2 x3 x4 x5 x6 (ix4 n o p q) = act x1 x2 x3 x4 x5 x6 n o p q := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst_1, val_main_cst_2, act, ract]

/-- The pooled channels: the mean of a channel over the places. -/
theorem pool_at (x0 x1 : FVec Ideal S4x256x32x32 .f32) (x2 : FVec Ideal S512x256 .f32) (x3 x4 x5 x6 : FVec Ideal S512 .f32) (n : Fin 4) (j : Fin 1024) :
    val_main_v130 (F := Ideal) x0 x1 x2 x3 x4 x5 x6 (ix3 n 0 j)
      = Ideal.div (∑ p : Fin 32, ∑ q : Fin 32, if h : j.val < 512 then act x0 x2 x3 x4 x5 x6 n ⟨j.val, h⟩ p q else act x1 x2 x3 x4 x5 x6 n ⟨j.val - 512, (by omega)⟩ p q) (Ideal.ofBits .f32 0x44800000#32) := by
  have e0 := fun n o p q => (act0 x0 x2 x3 x4 x5 x6 n o p q).symm
  have e1 := fun n o p q => (act1 x1 x2 x3 x4 x5 x6 n o p q).symm
  simp only [e0, e1]
  clear e0 e1
  unfold val_main_v130 val_main_v49 val_main_v48 val_main_cst_4 val_main_v47 val_main_cst_3 val_main_v46
  generalize val_main_v22 (F := Ideal) x0 x2 x3 x4 x5 x6 = y
  generalize val_main_v45 (F := Ideal) x1 x2 x3 x4 x5 x6 = z
  pointwise []

/-- One entry of the first stream's projection: place `l` is row `l / 32`, column `l % 32`. -/
theorem proj0 (x0 : FVec Ideal S4x256x32x32 .f32) (x2 : FVec Ideal S512x256 .f32) (x3 x4 x5 x6 : FVec Ideal S512 .f32) (x7 : FVec Ideal S2048x512 .f32) (x8 x9 : FVec Ideal S512 .f32) (n : Fin 4) (l : Fin 1024) (j : Fin 2048) :
    val_main_v77 (F := Ideal) x0 x2 x3 x4 x5 x6 x7 x8 x9 (ix3 n l j)
      = rproj (fun o => act x0 x2 x3 x4 x5 x6 n o ⟨l.val / 32, (by omega)⟩ ⟨l.val % 32, (by omega)⟩) (fun o => x8 (ix1 o)) (fun o => x9 (ix1 o)) (fun o => x7 (ix2 j o)) := by
  simp only [← act0]
  simp only [val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_5, val_main_cst_6, val_main_cst_7, val_main_cst_8, val_main_cst_9]
  generalize val_main_v22 (F := Ideal) x0 x2 x3 x4 x5 x6 = y
  pointwise [rproj, rxn, var512, mean512]

theorem proj1 (x1 : FVec Ideal S4x256x32x32 .f32) (x2 : FVec Ideal S512x256 .f32) (x3 x4 x5 x6 : FVec Ideal S512 .f32) (x10 : FVec Ideal S2048x512 .f32) (x11 x12 : FVec Ideal S512 .f32) (n : Fin 4) (l : Fin 1024) (j : Fin 2048) :
    val_main_v114 (F := Ideal) x1 x2 x3 x4 x5 x6 x10 x11 x12 (ix3 n l j)
      = rproj (fun o => act x1 x2 x3 x4 x5 x6 n o ⟨l.val / 32, (by omega)⟩ ⟨l.val % 32, (by omega)⟩) (fun o => x11 (ix1 o)) (fun o => x12 (ix1 o)) (fun o => x10 (ix2 j o)) := by
  simp only [← act1]
  simp only [val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_cst_12, val_main_cst_13, val_main_cst_14, val_main_cst_15, val_main_cst_16]
  generalize val_main_v45 (F := Ideal) x1 x2 x3 x4 x5 x6 = y
  pointwise [rproj, rxn, var512, mean512]

/-- The first result: the first 1024 columns of each stream's projection. -/
theorem xssm_at (x0 x1 : FVec Ideal S4x256x32x32 .f32) (x2 : FVec Ideal S512x256 .f32) (x3 x4 x5 x6 : FVec Ideal S512 .f32) (x7 : FVec Ideal S2048x512 .f32) (x8 x9 : FVec Ideal S512 .f32) (x10 : FVec Ideal S2048x512 .f32) (x11 x12 : FVec Ideal S512 .f32) (s : Fin 2) (n : Fin 4) (l i : Fin 1024) :
    val_main_v126 (F := Ideal) x0 x1 x2 x3 x4 x5 x6 x7 x8 x9 x10 x11 x12 (ix4 s n l i)
      = if s.val = 0 then val_main_v77 (F := Ideal) x0 x2 x3 x4 x5 x6 x7 x8 x9 (ix3 n l ⟨i.val, (by omega)⟩)
        else val_main_v114 (F := Ideal) x1 x2 x3 x4 x5 x6 x10 x11 x12 (ix3 n l ⟨i.val, (by omega)⟩) := by
  unfold val_main_v126 val_main_v124 val_main_v125 val_main_v78 val_main_v115
  generalize val_main_v77 (F := Ideal) x0 x2 x3 x4 x5 x6 x7 x8 x9 = y
  generalize val_main_v114 (F := Ideal) x1 x2 x3 x4 x5 x6 x10 x11 x12 = z
  fin_vals s with hs
  all_goals pointwise [hs]

/-- The second result: the gate columns times their logistic. -/
theorem gsil_at (x0 x1 : FVec Ideal S4x256x32x32 .f32) (x2 : FVec Ideal S512x256 .f32) (x3 x4 x5 x6 : FVec Ideal S512 .f32) (x7 : FVec Ideal S2048x512 .f32) (x8 x9 : FVec Ideal S512 .f32) (x10 : FVec Ideal S2048x512 .f32) (x11 x12 : FVec Ideal S512 .f32) (s : Fin 2) (n : Fin 4) (l i : Fin 1024) :
    val_main_v129 (F := Ideal) x0 x1 x2 x3 x4 x5 x6 x7 x8 x9 x10 x11 x12 (ix4 s n l i)
      = if s.val = 0 then silu (val_main_v77 (F := Ideal) x0 x2 x3 x4 x5 x6 x7 x8 x9 (ix3 n l ⟨1024 + i.val, (by omega)⟩))
        else silu (val_main_v114 (F := Ideal) x1 x2 x3 x4 x5 x6 x10 x11 x12 (ix3 n l ⟨1024 + i.val, (by omega)⟩)) := by
  unfold val_main_v129 val_main_v127 val_main_v128 val_main_v123 val_main_v122 val_main_v121 val_main_cst_18 val_main_v120 val_main_v119 val_main_cst_17 val_main_v118 val_main_v117 val_main_v116 val_main_v86 val_main_v85 val_main_v84 val_main_cst_11 val_main_v83 val_main_v82 val_main_cst_10 val_main_v81 val_main_v80 val_main_v79
  generalize val_main_v77 (F := Ideal) x0 x2 x3 x4 x5 x6 x7 x8 x9 = y
  generalize val_main_v114 (F := Ideal) x1 x2 x3 x4 x5 x6 x10 x11 x12 = z
  fin_vals s with hs
  all_goals pointwise [hs, silu]

end Cert.FrontReferenceIdeal.Hand
end
-- ==== Proof.FrontArr.lean ====
module

public import proofs.«01_k».proof.Proof.FrontKer
public import proofs.«01_k».proof.Proof.FrontRef

@[expose] public section

set_option maxRecDepth 16384

noncomputable section

namespace Cert.FrontIdeal.Hand

open Cert.FrontIdeal Cert.FrontIdeal.Gen Cert.Num
open Idealize.ShloMosaic Idealize.ShloMosaic.TcCoe
open Idealize.ShloMosaic.Pipeline (Dat Cfg Window)

variable (m : (ℓ : Loc nD τ sig) → Buf (Elt Ideal) ℓ) (c : Dev nD)

/-- A stream's input at a channel and a place. -/
def xs (s : Fin 2) (n : Fin 4) (k : Fin 256) (l : Fin 1024) : EReal :=
  if s.val = 0 then m ((c.tc : Thread nD τ).loc main_arg0) (ix4 n k ⟨l.val / 32, (by omega)⟩ ⟨l.val % 32, (by omega)⟩) else m ((c.tc : Thread nD τ).loc main_arg1) (ix4 n k ⟨l.val / 32, (by omega)⟩ ⟨l.val % 32, (by omega)⟩)
/-- The weights of the reduction. -/
def w2 (o : Fin 512) (k : Fin 256) : EReal := m ((c.tc : Thread nD τ).loc main_arg2) (ix2 o k)
/-- A stream's layer-norm scale. -/
def lgs (s : Fin 2) (o : Fin 512) : EReal := if s.val = 0 then m ((c.tc : Thread nD τ).loc main_arg8) (ix1 o) else m ((c.tc : Thread nD τ).loc main_arg11) (ix1 o)
/-- A stream's layer-norm shift. -/
def lbs (s : Fin 2) (o : Fin 512) : EReal := if s.val = 0 then m ((c.tc : Thread nD τ).loc main_arg9) (ix1 o) else m ((c.tc : Thread nD τ).loc main_arg12) (ix1 o)
/-- A stream's projection weights. -/
def ws (s : Fin 2) (j : Fin 2048) (o : Fin 512) : EReal := if s.val = 0 then m ((c.tc : Thread nD τ).loc main_arg7) (ix2 j o) else m ((c.tc : Thread nD τ).loc main_arg10) (ix2 j o)

/-- A stream's reduced channel at a place, as the launch computes it. -/
def kch (s : Fin 2) (n : Fin 4) (l : Fin 1024) (o : Fin 512) : EReal :=
  kact (∑ k : Fin 256, w2 m c o k * xs m c s n k l) (m ((c.tc : Thread nD τ).loc main_arg3) (ix1 o)) (m ((c.tc : Thread nD τ).loc main_arg4) (ix1 o)) (m ((c.tc : Thread nD τ).loc main_arg5) (ix1 o)) (m ((c.tc : Thread nD τ).loc main_arg6) (ix1 o))

/-- A stream's projection at a place and a column, as the launch computes it. -/
def kpr (s : Fin 2) (n : Fin 4) (l : Fin 1024) (j : Fin 2048) : EReal := kproj (kch m c s n l) (lgs m c s) (lbs m c s) (ws m c s j)

/-- The three outputs of the launch as arrays. -/
def arrX : FVec Ideal S2x4x1024x1024 .f32 := fun j => kpr m c (j 0) (j 1) (j 2) ⟨(j 3).val, lt_of_lt_of_le (j 3).isLt (by decide)⟩
def arrG : FVec Ideal S2x4x1024x1024 .f32 := fun j => silu (kpr m c (j 0) (j 1) (j 2) ⟨1024 + (j 3).val, (by have : (j 3).val < 1024 := (j 3).isLt; omega)⟩)
def arrP : FVec Ideal S4x1x1024 .f32 := fun j =>
  Ideal.div (∑ l : Fin 1024, kch m c ⟨(j 2).val / 512, (by have : (j 2).val < 1024 := (j 2).isLt; omega)⟩ (j 0) l ⟨(j 2).val % 512, Nat.mod_lt _ (by decide)⟩) (Ideal.ofBits .f32 0x44800000#32)

theorem pay7_at (t : Fin cfg0.N) (l : Fin 1024) (o : Fin 512) :
    k0_pay7 (F := Ideal) (iblk m c 0 t) (iblk m c 1 t) (iblk m c 2 t) (iblk m c 3 t) (iblk m c 4 t) (iblk m c 5 t) (iblk m c 6 t) (iblk m c 7 t) (iblk m c 8 t) (ix2 l o)
      = kch m c (sOf t) (bOf t) l o := by
  have z2 : (![0, 0] : Fin 2 → Nat) = fun _ => 0 := by decide
  have z4 : (![0, 0, 0, 0] : Fin 4 → Nat) = fun _ => 0 := by decide
  unfold k0_pay7
  rw [View.ld_unit_zero (S := S1x1x256x1024) z4, View.ld_unit_zero (S := S512x256) z2, View.ld_unit_zero (S := S1x512) z2, View.ld_unit_zero (S := S1x512) z2, View.ld_unit_zero (S := S1x512) z2, View.ld_unit_zero (S := S1x512) z2]
  rw [pay4_at]
  unfold bact kch xs w2
  simp only [in0, in1, in2, in3, in4, in5]

theorem pay8_at (t : Fin cfg0.N) (l : Fin 1024) :
    k0_pay8 (F := Ideal) (iblk m c 0 t) (iblk m c 1 t) (iblk m c 2 t) (iblk m c 3 t) (iblk m c 4 t) (iblk m c 5 t) (iblk m c 6 t) (iblk m c 7 t) (iblk m c 8 t) (ix2 l 0)
      = ∑ o : Fin 512, k0_pay7 (F := Ideal) (iblk m c 0 t) (iblk m c 1 t) (iblk m c 2 t) (iblk m c 3 t) (iblk m c 4 t) (iblk m c 5 t) (iblk m c 6 t) (iblk m c 7 t) (iblk m c 8 t) (ix2 l o) := by
  unfold k0_pay8 k0_pay7
  exact pay6_at _ _ _ _ _ _ l

/-- The projection of the point's block. -/
theorem proj_at (t : Fin cfg0.N) (l : Fin 1024) (j : Fin 2048) :
    k0_pay1 (F := Ideal) (k0_pay7 (F := Ideal) (iblk m c 0 t) (iblk m c 1 t) (iblk m c 2 t) (iblk m c 3 t) (iblk m c 4 t) (iblk m c 5 t) (iblk m c 6 t) (iblk m c 7 t) (iblk m c 8 t))
        (k0_pay8 (F := Ideal) (iblk m c 0 t) (iblk m c 1 t) (iblk m c 2 t) (iblk m c 3 t) (iblk m c 4 t) (iblk m c 5 t) (iblk m c 6 t) (iblk m c 7 t) (iblk m c 8 t))
        (Scalar.ofBits .f32 0x44000000#32) (iblk m c 6 t) (iblk m c 7 t) (iblk m c 8 t) (ix2 l j)
      = kpr m c (sOf t) (bOf t) l j := by
  rw [pay1_at _ _ _ _ _ (pay8_at m c t)]
  unfold kpr
  simp only [pay7_at, in6, in7, in8]
  rfl

theorem out9_at (t : Fin cfg0.N) (l i : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix4 0 0 l i)
      = kpr m c (sOf t) (bOf t) l ⟨i.val, (by omega)⟩ := by
  have z3 : (![0, 0, 0] : Fin 3 → Nat) = fun _ => 0 := by decide
  have z4 : (![0, 0, 0, 0] : Fin 4 → Nat) = fun _ => 0 := by decide
  unfold out0_9
  rw [View.canon_unit_zero z4, View.ld_unit_zero (S := S1x1x512) z3, View.ld_unit_zero (S := S1x1x512) z3, View.ld_unit_zero (S := S1x2048x512) z3]
  rw [pay2_at, proj_at]

theorem out10_at (t : Fin cfg0.N) (l i : Fin 1024) :
    out0_10 (F := Ideal) (iblk m c 0 t) (iblk m c 1 t) (iblk m c 2 t) (iblk m c 3 t) (iblk m c 4 t) (iblk m c 5 t) (iblk m c 6 t) (iblk m c 7 t) (iblk m c 8 t) (ix4 0 0 l i)
      = silu (kpr m c (sOf t) (bOf t) l ⟨1024 + i.val, (by omega)⟩) := by
  have z3 : (![0, 0, 0] : Fin 3 → Nat) = fun _ => 0 := by decide
  have z4 : (![0, 0, 0, 0] : Fin 4 → Nat) = fun _ => 0 := by decide
  unfold out0_10
  rw [View.canon_unit_zero z4, View.ld_unit_zero (S := S1x1x512) z3, View.ld_unit_zero (S := S1x1x512) z3, View.ld_unit_zero (S := S1x2048x512) z3]
  rw [pay3_at, proj_at]

theorem out11_at (t : Fin cfg0.N) (o : Fin 512) :
    out0_11 (F := Ideal) (iblk m c 0 t) (iblk m c 1 t) (iblk m c 2 t) (iblk m c 3 t) (iblk m c 4 t) (iblk m c 5 t) (iblk m c 6 t) (iblk m c 7 t) (iblk m c 8 t) (ix3 0 0 o)
      = Ideal.div (∑ l : Fin 1024, kch m c (sOf t) (bOf t) l o) (Ideal.ofBits .f32 0x44800000#32) := by
  have z3 : (![0, 0, 0] : Fin 3 → Nat) = fun _ => 0 := by decide
  have e := fun l => pay7_at m c t l o
  unfold k0_pay7 at e
  unfold out0_11
  rw [View.canon_unit_zero z3, pay5_at]
  simp only [e]

theorem covers9 : (cfg0.win 9).Covers := by decide +kernel
theorem covers10 : (cfg0.win 10).Covers := by decide +kernel
theorem covers11 : (cfg0.win 11).Covers := by decide +kernel

theorem emb9 (t : Fin cfg0.N) (l i : Fin 1024) : (win0_9.blk t).view.emb (ix4 0 0 l i) = ix4 (sOf t) (bOf t) l i := by
  have e : win0_9.index t = ![t.val / 4, t.val % 4, 0, 0] := (idx t).2.2.2.2.2.2.2.2.2.1
  blk_ext [e, sOf, bOf]
theorem emb10 (t : Fin cfg0.N) (l i : Fin 1024) : (win0_10.blk t).view.emb (ix4 0 0 l i) = ix4 (sOf t) (bOf t) l i := by
  have e : win0_10.index t = ![t.val / 4, t.val % 4, 0, 0] := (idx t).2.2.2.2.2.2.2.2.2.2.1
  blk_ext [e, sOf, bOf]
theorem emb11 (t : Fin cfg0.N) (o : Fin 512) : (win0_11.blk t).view.emb (ix3 0 0 o) = ix3 (bOf t) 0 ⟨512 * (sOf t).val + o.val, (by omega)⟩ := by
  have e : win0_11.index t = ![t.val % 4, 0, t.val / 4] := (idx t).2.2.2.2.2.2.2.2.2.2.2
  blk_ext [e, sOf, bOf]

theorem idx_eta4 (y : S1x1x1024x1024.Idx) : ∃ (l i : Fin 1024), y = ix4 0 0 l i :=
  ⟨y 2, y 3, funext fun a => by
    fin_cases a
    · exact Subsingleton.elim (α := Fin 1) _ _
    · exact Subsingleton.elim (α := Fin 1) _ _
    · rfl
    · rfl⟩

theorem idx_eta3 (y : S1x1x512.Idx) : ∃ (o : Fin 512), y = ix3 0 0 o :=
  ⟨y 2, funext fun a => by
    fin_cases a
    · exact Subsingleton.elim (α := Fin 1) _ _
    · exact Subsingleton.elim (α := Fin 1) _ _
    · rfl⟩

theorem arr9 : (dats (F := Ideal) m 0 c).arrAt 9 cfg0.N = arrX m c := by
  refine (dats m 0 c).arrAt_eq_of_covers 9 _ covers9 fun t hf y => ?_
  blk_simp
  rw [after0_9]
  obtain ⟨l, i, hy⟩ := idx_eta4 y
  refine (congrArg _ hy).trans ((out9_at m c t l i).trans ?_)
  exact (congrArg (arrX m c) ((congrArg (win0_9.blk t).view.emb hy).trans (emb9 t l i))).symm

theorem arr10 : (dats (F := Ideal) m 0 c).arrAt 10 cfg0.N = arrG m c := by
  refine (dats m 0 c).arrAt_eq_of_covers 10 _ covers10 fun t hf y => ?_
  blk_simp
  rw [after0_10]
  obtain ⟨l, i, hy⟩ := idx_eta4 y
  refine (congrArg _ hy).trans ((out10_at m c t l i).trans ?_)
  exact (congrArg (arrG m c) ((congrArg (win0_10.blk t).view.emb hy).trans (emb10 t l i))).symm

theorem arrP_at (s : Fin 2) (n : Fin 4) (o : Fin 512) (h : 512 * s.val + o.val < 1024) :
    arrP m c (ix3 n 0 ⟨512 * s.val + o.val, h⟩) = Ideal.div (∑ l : Fin 1024, kch m c s n l o) (Ideal.ofBits .f32 0x44800000#32) := by
  have e1 : (⟨(512 * s.val + o.val) / 512, (by omega)⟩ : Fin 2) = s := Fin.ext (by show (512 * s.val + o.val) / 512 = s.val; omega)
  have e2 : (⟨(512 * s.val + o.val) % 512, Nat.mod_lt _ (by decide)⟩ : Fin 512) = o := Fin.ext (by show (512 * s.val + o.val) % 512 = o.val; omega)
  exact congrArg₂ (fun s o => Ideal.div (∑ l : Fin 1024, kch m c s n l o) (Ideal.ofBits .f32 0x44800000#32)) e1 e2

theorem arr11 : (dats (F := Ideal) m 0 c).arrAt 11 cfg0.N = arrP m c := by
  refine (dats m 0 c).arrAt_eq_of_covers 11 _ covers11 fun t hf y => ?_
  blk_simp
  rw [after0_11]
  obtain ⟨o, hy⟩ := idx_eta3 y
  refine (congrArg _ hy).trans ((out11_at m c t o).trans ?_)
  exact ((congrArg (arrP m c) ((congrArg (win0_11.blk t).view.emb hy).trans (emb11 t o))).trans (arrP_at m c (sOf t) (bOf t) o _)).symm

/-- What the arguments must satisfy: the variance is not negative, and the statistics hold real numbers. -/
def Good : Prop :=
  (∀ o, (0 : EReal) ≤ m ((c.tc : Thread nD τ).loc main_arg6) (ix1 o)) ∧ (∀ o, IsReal (m ((c.tc : Thread nD τ).loc main_arg3) (ix1 o))) ∧ (∀ o, IsReal (m ((c.tc : Thread nD τ).loc main_arg4) (ix1 o))) ∧ (∀ o, IsReal (m ((c.tc : Thread nD τ).loc main_arg5) (ix1 o))) ∧ ∀ o, IsReal (m ((c.tc : Thread nD τ).loc main_arg6) (ix1 o))

open Cert.FrontReferenceIdeal.Hand (act act0 act1 pool_at proj0 proj1 xssm_at gsil_at)
open Cert.FrontReferenceIdeal.Read (val_main_v126 val_main_v129 val_main_v130)

/-- The reduced channel of the launch is the one as written. -/
theorem kch_eq (hg : Good m c) (s : Fin 2) (n : Fin 4) (l : Fin 1024) (o : Fin 512) :
    kch m c s n l o = if s.val = 0 then act (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n o ⟨l.val / 32, (by omega)⟩ ⟨l.val % 32, (by omega)⟩
      else act (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n o ⟨l.val / 32, (by omega)⟩ ⟨l.val % 32, (by omega)⟩ := by
  obtain ⟨h6, r3, r4, r5, r6⟩ := hg
  unfold kch xs w2 act
  rw [kact_eq _ _ _ _ _ (r3 o) (r4 o) (r5 o) (r6 o) (h6 o)]
  split <;> rfl

theorem kpr_eq (hg : Good m c) (s : Fin 2) (n : Fin 4) (l : Fin 1024) (j : Fin 2048) :
    kpr m c s n l j = if s.val = 0 then Cert.FrontReferenceIdeal.Read.val_main_v77 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix3 n l j)
      else Cert.FrontReferenceIdeal.Read.val_main_v114 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) (m ((c.tc : Thread nD τ).loc main_arg11)) (m ((c.tc : Thread nD τ).loc main_arg12)) (ix3 n l j) := by
  have e : kch m c s n l = _ := funext fun o => kch_eq m c hg s n l o
  unfold kpr
  rw [e, kproj_eq]
  refine Eq.trans ?_ (if_congr Iff.rfl (proj0 _ _ _ _ _ _ _ _ _ n l j).symm (proj1 _ _ _ _ _ _ _ _ _ n l j).symm)
  unfold lgs lbs ws
  by_cases h : s.val = 0
  · simp only [h, ↓reduceIte]
  · simp only [h, ↓reduceIte]

theorem first (hg : Good m c) : arrX m c = val_main_v126 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext j
  obtain ⟨s, n, l, i, rfl⟩ : ∃ (s : Fin 2) (n : Fin 4) (l i : Fin 1024), j = ix4 s n l i := ⟨j 0, j 1, j 2, j 3, eq_ix4 j⟩
  exact (kpr_eq m c hg s n l ⟨i.val, _⟩).trans (xssm_at _ _ _ _ _ _ _ _ _ _ _ _ _ s n l i).symm

theorem second (hg : Good m c) : arrG m c = val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext j
  obtain ⟨s, n, l, i, rfl⟩ : ∃ (s : Fin 2) (n : Fin 4) (l i : Fin 1024), j = ix4 s n l i := ⟨j 0, j 1, j 2, j 3, eq_ix4 j⟩
  refine (congrArg silu (kpr_eq m c hg s n l ⟨1024 + i.val, (by omega)⟩)).trans ((apply_ite silu _ _ _).trans ?_)
  exact (gsil_at _ _ _ _ _ _ _ _ _ _ _ _ _ s n l i).symm

/-- The 1024 places, row by row. -/
theorem sum_places (f : Fin 32 → Fin 32 → EReal) :
    ∑ l : Fin 1024, f ⟨l.val / 32, (by omega)⟩ ⟨l.val % 32, (by omega)⟩ = ∑ p : Fin 32, ∑ q : Fin 32, f p q := by
  rw [← Fintype.sum_prod_type' f]
  exact Fintype.sum_equiv (finProdFinEquiv (m := 32) (n := 32)).symm _ _ fun l => rfl

theorem third (hg : Good m c) : arrP m c = val_main_v130 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext j
  obtain ⟨n, z, u, rfl⟩ : ∃ (n : Fin 4) (z : Fin 1) (u : Fin 1024), j = ix3 n z u := ⟨j 0, j 1, j 2, funext fun a => by fin_cases a <;> rfl⟩
  obtain rfl : z = 0 := Subsingleton.elim _ _
  rw [pool_at]
  refine congrArg (Ideal.div · (Ideal.ofBits .f32 0x44800000#32)) ?_
  refine (Finset.sum_congr rfl fun l _ => kch_eq m c hg _ n l _).trans ?_
  refine Eq.trans ?_ (sum_places fun p q => if h : u.val < 512 then act (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n ⟨u.val, h⟩ p q else act (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n ⟨u.val - 512, (by omega)⟩ p q)
  refine Finset.sum_congr rfl fun l _ => ?_
  show (if u.val / 512 = 0 then act (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n ⟨u.val % 512, Nat.mod_lt _ (by decide)⟩ _ _ else act (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n ⟨u.val % 512, Nat.mod_lt _ (by decide)⟩ _ _) = _
  by_cases h : u.val < 512
  · rw [if_pos (by omega), dif_pos h]
    exact congrArg (fun o => act (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n o _ _) (Fin.ext (by show u.val % 512 = u.val; omega))
  · rw [if_neg (by omega), dif_neg h]
    exact congrArg (fun o => act (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) n o _ _) (Fin.ext (by show u.val % 512 = u.val - 512; omega))

end Cert.FrontIdeal.Hand
end
-- ==== Proof.MixVal.lean ====
module

public import proofs.«01_k».proof.Proof.Gen.MixingIdeal.Value
public import proofs.«01_k».proof.Proof.Gen.MixingReferenceIdeal.Read
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Mix

open Idealize.ShloMosaic Idealize.ShloMosaic.TcCoe

/-- One logit of the two-layer map. -/
def logit (p : Fin 1024 → EReal) (w1 : Fin 128 → Fin 1024 → EReal) (b1 : Fin 128 → EReal) (w2 : Fin 128 → EReal) (b2 : EReal) : EReal :=
  ∑ h : Fin 128, max ((∑ k : Fin 1024, p k * w1 h k) + b1 h) 0 * w2 h + b2

/-- The exponentials of two logits, each less their maximum, over their sum. -/
def soft (z : Fin 2 → EReal) (k : Fin 2) : EReal :=
  Ideal.div (Ideal.exp (z k - Finset.univ.fold max ⊥ z)) (∑ j : Fin 2, Ideal.exp (z j - Finset.univ.fold max ⊥ z))

theorem neg_inf : Ideal.ofBits .f32 0xFF800000#32 = ⊥ := by simp [Ideal.ofBits, Ideal.ieee]

section
open Cert.MixingIdeal Cert.MixingIdeal.Gen

theorem pay1_at (v0 : FVec Ideal S4x1024 .f32) (v2 : FVec Ideal S128x1024 .f32) (v4 : FVec Ideal S1x128 .f32) (v10 : FVec Ideal S2x128 .f32) (v12 : FVec Ideal S1x2 .f32) (b : Fin 4) (k : Fin 2) :
    k0_pay1 (F := Ideal) v0 v2 v4 v10 v12 (ix2 b k)
      = soft (fun j => logit (fun i => v0 (ix2 b i)) (fun h i => v2 (ix2 h i)) (fun h => v4 (ix2 0 h)) (fun h => v10 (ix2 j h)) (v12 (ix2 0 j))) k := by
  pointwise [k0_pay1, soft, logit]
  rw [show Ideal.ofBits FTy.f32 4286578688#32 = ⊥ from neg_inf]

end

section
open Cert.MixingReferenceIdeal Cert.MixingReferenceIdeal.Gen Cert.MixingReferenceIdeal.Read

theorem ref_at (x0 : FVec Ideal S4x1x1024 .f32) (x1 : FVec Ideal S128x1024 .f32) (x2 : FVec Ideal S128 .f32) (x3 : FVec Ideal S2x128 .f32) (x4 : FVec Ideal S2 .f32) (b : Fin 4) (k : Fin 2) :
    val_main_v23 (F := Ideal) x0 x1 x2 x3 x4 (ix2 b k)
      = soft (fun j => logit (fun i => x0 (ix3 b 0 i)) (fun h i => x1 (ix2 h i)) (fun h => x2 (ix1 h)) (fun h => x3 (ix2 j h)) (x4 (ix1 j))) k := by
  have z : ∀ (b : Fin 4) (j : Fin 2), val_main_v12 (F := Ideal) x0 x1 x2 x3 x4 (ix2 b j)
      = logit (fun i => x0 (ix3 b 0 i)) (fun h i => x1 (ix2 h i)) (fun h => x2 (ix1 h)) (fun h => x3 (ix2 j h)) (x4 (ix1 j)) := fun b j => by
    pointwise [val_main_v12, val_main_v11, val_main_v10, val_main_v9, val_main_v8, val_main_v7, val_main_v6, val_main_cst, val_main_v5, val_main_v4, val_main_v3, val_main_v2, val_main_v1, val_main_v0, logit]
  simp only [← z]
  unfold val_main_v23 val_main_v22 val_main_v21 val_main_v20 val_main_cst_2 val_main_v19 val_main_v18 val_main_v17 val_main_v16 val_main_v15 val_main_v14 val_main_cst_1 val_main_v13 val_main_cst_0
  generalize val_main_v12 (F := Ideal) x0 x1 x2 x3 x4 = y
  pointwise [soft]
  rw [show Ideal.ofBits FTy.f32 4286578688#32 = ⊥ from neg_inf, max_eq_right bot_le]

end

section
open Cert.MixingIdeal Cert.MixingIdeal.Gen
open Idealize.ShloMosaic.Pipeline (Dat Cfg Window)

variable (m : (ℓ : Loc nD τ sig) → Buf (Elt Ideal) ℓ) (c : Dev nD)

/-- What the launch leaves at an index. -/
def kout (b : Fin 4) (k : Fin 2) : EReal :=
  soft (fun j => logit (fun i => m ((c.tc : Thread nD τ).loc main_arg0) (ix3 b 0 i)) (fun h i => m ((c.tc : Thread nD τ).loc main_arg1) (ix2 h i))
    (fun h => m ((c.tc : Thread nD τ).loc main_arg2) (ix1 h)) (fun h => m ((c.tc : Thread nD τ).loc main_arg3) (ix2 j h)) (m ((c.tc : Thread nD τ).loc main_arg4) (ix1 j))) k

theorem V_v0 (b : Fin 4) (i : Fin 1024) : (V m c main_v0 : FVec Ideal S4x1024 .f32) (ix2 b i) = m ((c.tc : Thread nD τ).loc main_arg0) (ix3 b 0 i) := by
  unfold V
  after_reads_at
  try after_reads_at
  all_goals rfl

theorem V_v1 (h : Fin 128) : (V m c main_v1 : FVec Ideal S1x128 .f32) (ix2 0 h) = m ((c.tc : Thread nD τ).loc main_arg2) (ix1 h) := by
  unfold V
  after_reads_at
  try after_reads_at
  all_goals rfl

theorem V_v2 (j : Fin 2) : (V m c main_v2 : FVec Ideal S1x2 .f32) (ix2 0 j) = m ((c.tc : Thread nD τ).loc main_arg4) (ix1 j) := by
  unfold V
  after_reads_at
  try after_reads_at
  all_goals rfl

theorem idx : ∀ t : Fin cfg0.N, (cfg0.win 0).index t = ![0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0] := by decide +kernel

theorem in0 (t : Fin cfg0.N) (b : Fin 4) (i : Fin 1024) : iblk m c 0 t (ix2 b i) = m ((c.tc : Thread nD τ).loc main_arg0) (ix3 b 0 i) := by
  refine Eq.trans ?_ (V_v0 m c b i)
  blk_ext [iblk, idx t]
theorem in1 (t : Fin cfg0.N) (h : Fin 128) (i : Fin 1024) : iblk m c 1 t (ix2 h i) = m ((c.tc : Thread nD τ).loc main_arg1) (ix2 h i) := by
  refine Eq.trans ?_ (congrFun (V_main_arg1 m c) _)
  blk_ext [iblk, idx t]
theorem in2 (t : Fin cfg0.N) (h : Fin 128) : iblk m c 2 t (ix2 0 h) = m ((c.tc : Thread nD τ).loc main_arg2) (ix1 h) := by
  refine Eq.trans ?_ (V_v1 m c h)
  blk_ext [iblk, idx t]
theorem in3 (t : Fin cfg0.N) (j : Fin 2) (h : Fin 128) : iblk m c 3 t (ix2 j h) = m ((c.tc : Thread nD τ).loc main_arg3) (ix2 j h) := by
  refine Eq.trans ?_ (congrFun (V_main_arg3 m c) _)
  blk_ext [iblk, idx t]
theorem in4 (t : Fin cfg0.N) (j : Fin 2) : iblk m c 4 t (ix2 0 j) = m ((c.tc : Thread nD τ).loc main_arg4) (ix1 j) := by
  refine Eq.trans ?_ (V_v2 m c j)
  blk_ext [iblk, idx t]

/-- What the point leaves in the output window. -/
theorem out_at (t : Fin cfg0.N) (b : Fin 4) (k : Fin 2) :
    out0_5 (F := Ideal) (iblk m c 0 t) (iblk m c 1 t) (iblk m c 2 t) (iblk m c 3 t) (iblk m c 4 t) (ix2 b k) = kout m c b k := by
  unfold out0_5
  have z2 : (![0, 0] : Fin 2 → Nat) = fun _ => 0 := by decide
  rw [View.canon_unit_zero z2]
  rw [View.ld_unit_zero (S := S4x1024) z2, View.ld_unit_zero (S := S128x1024) z2, View.ld_unit_zero (S := S1x128) z2, View.ld_unit_zero (S := S2x128) z2, View.ld_unit_zero (S := S1x2) z2]
  rw [pay1_at]
  unfold kout
  simp only [in0, in1, in2, in3, in4]

theorem covers5 : (cfg0.win 5).Covers := by decide +kernel

/-- The launch's output as one array. -/
def arrOut : FVec Ideal S4x2 .f32 := fun j => kout m c (j 0) (j 1)

theorem emb5 (t : Fin cfg0.N) (b : Fin 4) (k : Fin 2) : (win0_5.blk t).view.emb (ix2 b k) = ix2 b k := by
  have e : win0_5.index t = ![0, 0] := (idx t).2.2.2.2.2
  blk_ext [e]

theorem arr5 : (dats (F := Ideal) m 0 c).arrAt 5 cfg0.N = arrOut m c := by
  refine (dats m 0 c).arrAt_eq_of_covers 5 _ covers5 fun t hf y => ?_
  blk_simp
  rw [after0_5]
  obtain ⟨b, k, hy⟩ : ∃ (b : Fin 4) (k : Fin 2), y = ix2 b k := ⟨y 0, y 1, funext fun a => by fin_cases a <;> rfl⟩
  refine (congrArg _ hy).trans ((out_at m c t b k).trans ?_)
  exact (congrArg (arrOut m c) ((congrArg (win0_5.blk t).view.emb hy).trans (emb5 t b k))).symm

/-- The launch's output is the reference's result. -/
theorem arrOut_eq : arrOut m c = Cert.MixingReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext j
  obtain ⟨b, k, rfl⟩ : ∃ (b : Fin 4) (k : Fin 2), j = ix2 b k := ⟨j 0, j 1, funext fun a => by fin_cases a <;> rfl⟩
  exact (ref_at _ _ _ _ _ b k).symm

end

end Cert.Mix
end
-- ==== Proof.PreFront.lean ====
module

public import proofs.«01_k».proof.Pre_front_admissible
public import Idealize.ShloMosaic.Lib.ReduceAll
public import proofs.«01_k».proof.Proof.Alg

@[expose] public section

set_option maxRecDepth 16384

noncomputable section

namespace Cert.Pre_front_admissible

open Cert.Num
open Idealize.ShloMosaic
open Facts

variable [Facts]

/-- Where "every element is smaller than infinity in absolute value" holds, every element is a real number. -/
theorem real_of_all {s : Shape} {axes : List (Fin s.rank)} (x : FVec Ideal s .f32) (hb : S_.BroadcastsInDim s (![] : Fin 0 → Fin s.rank))
    (hr : s.ReducesTo axes S_) (i0 : S_.Idx)
    (e : Host.reduce IntOp.andi (cmpf .olt (Host.absf x) (broadcastInDim s ![] hb (constant S_ .f32 0x7F800000#32))) (constantI S_ 1 1#1) hr h_S_ i0 = 1#1) (i : s.Idx) :
    IsReal (x i) := by
  have h := Host.reduce_andi_all _ _ _ _ _ e i
  have h' : BitVec.ofBool (decide (max (x i) (-(x i)) < Ideal.ofBits .f32 0x7F800000#32)) = 1#1 := by
    revert h
    pointwise
    exact id
  have top : Ideal.ofBits .f32 0x7F800000#32 = ⊤ := by simp [Ideal.ofBits, Ideal.ieee]
  rw [top] at h'
  have hlt : max (x i) (-(x i)) < ⊤ := by
    by_contra hn
    rw [decide_eq_false hn] at h'
    exact absurd h' (by decide)
  have h1 : x i ≠ ⊤ := ne_of_lt (lt_of_le_of_lt (le_max_left _ _) hlt)
  have h2 : x i ≠ ⊥ := fun e => by
    rw [e] at hlt
    exact absurd (lt_of_le_of_lt (le_max_right _ _) hlt) (by simp)
  exact ⟨_, (EReal.coe_toReal h1 h2).symm⟩

theorem nonneg_of_all (x : FVec Ideal S512 .f32) (i0 : S_.Idx)
    (e : Host.reduce IntOp.andi (cmpf .oge x (broadcastInDim S512 ![] bcast_S_S512 (constant S_ .f32 0x00000000#32))) (constantI S_ 1 1#1) reducesTo_S512_S_d0 h_S_ i0 = 1#1) (i : S512.Idx) :
    0 ≤ x i := by
  have h := Host.reduce_andi_all _ _ _ _ _ e i
  have h' : BitVec.ofBool (decide (0 ≤ x i)) = 1#1 := by
    revert h
    pointwise
    exact id
  by_contra hn
  rw [decide_eq_false hn] at h'
  exact absurd h' (by decide)

theorem and_at {x y : IVec S_ 1} {i : S_.Idx} (h : andi x y i = 1#1) : x i = 1#1 ∧ y i = 1#1 := IntOp.andi_eq_one.1 h

/-- What the precondition says: the variance is not negative, and the four statistics hold real numbers. -/
theorem decode (a0 a1 : FVec Ideal S4x256x32x32 .f32) (a2 : FVec Ideal S512x256 .f32) (a3 a4 a5 a6 : FVec Ideal S512 .f32) (a7 : FVec Ideal S2048x512 .f32)
    (a8 a9 : FVec Ideal S512 .f32) (a10 : FVec Ideal S2048x512 .f32) (a11 a12 : FVec Ideal S512 .f32)
    (h : fn (F := Ideal) a0 a1 a2 a3 a4 a5 a6 a7 a8 a9 a10 a11 a12 = fun _ => 1#1) :
    (∀ i, 0 ≤ a6 i) ∧ (∀ i, IsReal (a3 i)) ∧ (∀ i, IsReal (a4 i)) ∧ (∀ i, IsReal (a5 i)) ∧ ∀ i, IsReal (a6 i) := by
  have h := congrFun h ix0
  dsimp only [fn, fn_part1] at h
  obtain ⟨h, e6⟩ := and_at h
  obtain ⟨h, e5⟩ := and_at h
  obtain ⟨h, e4⟩ := and_at h
  obtain ⟨h, e3⟩ := and_at h
  exact ⟨nonneg_of_all a6 _ h, real_of_all a3 _ _ _ e3, real_of_all a4 _ _ _ e4, real_of_all a5 _ _ _ e5, real_of_all a6 _ _ _ e6⟩

end Cert.Pre_front_admissible
end
-- ==== Proof.Sem.lean ====
module

public import proofs.«01_k».proof.Proof.Gen.ScanIdeal.Skeleton
public import proofs.«01_k».proof.Proof.Gen.ScanIdeal.Loops
public import Idealize.ShloMosaic.Lib.Pointwise
public import Idealize.ShloMosaic.Lib.WritesUnit
public import Idealize.ShloMosaic.Lib.VecWindow

@[expose] public section

set_option maxRecDepth 16384

noncomputable section

namespace Cert.ScanIdeal.Hand

open Cert.ScanIdeal.Gen
open Idealize.ShloMosaic Idealize.ShloMosaic.TcCoe
open Idealize.SL Idealize.SL.RA Idealize.SL.BI

variable {F : FTy → Type} [FloatOps F]

/-- One step of the recurrence: the clipped sum of the decayed state and the driven input. -/
def stp (A B xb h : FVec F S32x512 .f32) : FVec F S32x512 .f32 :=
  minimumf (broadcast S32x512 (Scalar.ofBits .f32 0x41200000#32))
    (maximumf (broadcast S32x512 (Scalar.ofBits .f32 0xC1200000#32)) (addf (mulf h A) (mulf xb B)))

theorem slices_row : ∀ u : Fin 8, S8x512.Slices ![u.val, 0] S1x512 := by decide

/-- Row `u` of a tile of eight rows, repeated over the thirty-two state rows. -/
def rowb (t : FVec F S8x512 .f32) (u : Fin 8) : FVec F S32x512 .f32 :=
  broadcastTo S32x512 (shapeCast S1x512 (extractStridedSlice S1x512 ![u.val, 0] t (slices_row u)) shapeCasts_S1x512_S1x512) broadcasts_S1x512_S32x512

/-- `n` steps over the rows `o 0`, `o 1`, … of a tile. -/
def steps (A B : FVec F S32x512 .f32) (t : FVec F S8x512 .f32) (o : ℕ → Fin 8) (h : FVec F S32x512 .f32) : ℕ → FVec F S32x512 .f32
  | 0 => h
  | n + 1 => stp A B (rowb t (o n)) (steps A B t o h n)

/-- The rows of a tile from the first to the last. -/
def up (n : ℕ) : Fin 8 := ⟨n % 8, Nat.mod_lt _ (by decide)⟩
/-- The rows of a tile from the last to the first. -/
def down (n : ℕ) : Fin 8 := ⟨(7 - n) % 8, Nat.mod_lt _ (by decide)⟩

/-- The sum of the thirty-two state rows, each weighted by its read-out row. -/
def ysum (C h : FVec F S32x512 .f32) : FVec F S1x512 .f32 :=
  shapeCast S1x512 (multiReduction .add [0] S512 (mulf h C) 0x00000000#32 reduces_S32x512_S512 (.inl rfl) rfl) shapeCasts_S512_S1x512

/-- Eight rows one under the other. -/
def stack8 (y : ℕ → FVec F S1x512 .f32) : FVec F S8x512 .f32 :=
  concatenate S8x512 0 [⟨S1x512, y 0⟩, ⟨S1x512, y 1⟩, ⟨S1x512, y 2⟩, ⟨S1x512, y 3⟩, ⟨S1x512, y 4⟩, ⟨S1x512, y 5⟩, ⟨S1x512, y 6⟩, ⟨S1x512, y 7⟩]
    concatenates_S1x512_S1x512_S1x512_S1x512_S1x512_S1x512_S1x512_S1x512_S8x512_d0

theorem rowb_apply (t : FVec F S8x512 .f32) (u : Fin 8) (p : S32x512.Idx) : rowb t u p = t (ix2 u (p 1)) := by
  pointwise [rowb]

theorem stack8_apply (y : ℕ → FVec F S1x512 .f32) (p : S8x512.Idx) : stack8 y p = y (p 0).val (ix2 0 (p 1)) := by
  idx_vars p
  pointwise [stack8]
  fin_vals p0 with hk
  all_goals simp only [hk, Nat.reduceSub, Nat.reduceLT, ↓reduceDIte]
  all_goals rfl

theorem shapeCast_same {s : Shape} {α : Type} (x : s.Idx → α) (h : s.ShapeCasts s) : shapeCast s x h = x := by
  funext j
  unfold shapeCast
  congr 1
  exact Shape.reshapeEquiv_eq_of_rowMajor _ rfl

/-- What one trip leaves in the forward state: eight steps on. -/
theorem trip21 (𝒱 : Variants) (c : Dev nD) (bd : Option 𝒱.V) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (v32 : Elt F .f32) (v34 : Elt F .f32) (v37 : IVec S32x512 1) (X_arg2 : BufTy.Contents (Elt F) arg2.view.ty) (X_arg5 : BufTy.Contents (Elt F) arg5.view.ty) (X_arg19 : BufTy.Contents (Elt F) arg19.view.ty) (X_arg20 : BufTy.Contents (Elt F) arg20.view.ty) (k : Fin k0_t1_loop.trips) (f16 : BufTy.Contents (Elt F) arg16.view.ty) (f17 : BufTy.Contents (Elt F) arg17.view.ty) (f21 : BufTy.Contents (Elt F) arg21.view.ty) (f22 : BufTy.Contents (Elt F) arg22.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 k).2.2.1 f16 f17 f21 f22 = [⟨(Rect.unit (s := S32x512) ![0, 0] S32x512.size inb_S32x512_S32x512_0_0), shapeCast S32x512 (steps (arg19.view.readAt (Elt F) (Rect.unit (s := S32x512) ![0, 0] S32x512.size inb_S32x512_S32x512_0_0).toLoadRect X_arg19) (k0_pay3 (arg5.view.readAt (Elt F) (Rect.unit (s := S1x32x512) ![0, 0, 0] S1x32x512.size inb_S1x32x512_S1x32x512_0_0_0).toLoadRect X_arg5)) (k0_pay4 (arg2.view.readAt (Elt F) (Rect.unit (s := S1x1x1024x512) (k0_off3 k) S1x1x8x512.size (k0_off3_inb k)).toLoadRect X_arg2)) up (arg21.view.readAt (Elt F) (Rect.unit (s := S32x512) ![0, 0] S32x512.size inb_S32x512_S32x512_0_0).toLoadRect f21) 8) shapeCasts_S32x512_S32x512⟩] := by
  unfold trip_k0_t1
  rfl

/-- What one trip leaves in the backward state: eight steps on. -/
theorem trip22 (𝒱 : Variants) (c : Dev nD) (bd : Option 𝒱.V) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (v32 : Elt F .f32) (v34 : Elt F .f32) (v37 : IVec S32x512 1) (X_arg2 : BufTy.Contents (Elt F) arg2.view.ty) (X_arg5 : BufTy.Contents (Elt F) arg5.view.ty) (X_arg19 : BufTy.Contents (Elt F) arg19.view.ty) (X_arg20 : BufTy.Contents (Elt F) arg20.view.ty) (k : Fin k0_t1_loop.trips) (f16 : BufTy.Contents (Elt F) arg16.view.ty) (f17 : BufTy.Contents (Elt F) arg17.view.ty) (f21 : BufTy.Contents (Elt F) arg21.view.ty) (f22 : BufTy.Contents (Elt F) arg22.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 k).2.2.2.1 f16 f17 f21 f22 = [⟨(Rect.unit (s := S32x512) ![0, 0] S32x512.size inb_S32x512_S32x512_0_0), shapeCast S32x512 (steps (arg19.view.readAt (Elt F) (Rect.unit (s := S32x512) ![0, 0] S32x512.size inb_S32x512_S32x512_0_0).toLoadRect X_arg19) (k0_pay3 (arg5.view.readAt (Elt F) (Rect.unit (s := S1x32x512) ![0, 0, 0] S1x32x512.size inb_S1x32x512_S1x32x512_0_0_0).toLoadRect X_arg5)) (k0_pay5 (arg2.view.readAt (Elt F) (Rect.unit (s := S1x1x1024x512) (k0_off4 k) S1x1x8x512.size (k0_off4_inb k)).toLoadRect X_arg2)) down (arg22.view.readAt (Elt F) (Rect.unit (s := S32x512) ![0, 0] S32x512.size inb_S32x512_S32x512_0_0).toLoadRect f22) 8) shapeCasts_S32x512_S32x512⟩] := by
  unfold trip_k0_t1
  rfl

/-- The eight rows one trip leaves in the forward read-out. -/
theorem trip16 (𝒱 : Variants) (c : Dev nD) (bd : Option 𝒱.V) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (v32 : Elt F .f32) (v34 : Elt F .f32) (v37 : IVec S32x512 1) (X_arg2 : BufTy.Contents (Elt F) arg2.view.ty) (X_arg5 : BufTy.Contents (Elt F) arg5.view.ty) (X_arg19 : BufTy.Contents (Elt F) arg19.view.ty) (X_arg20 : BufTy.Contents (Elt F) arg20.view.ty) (k : Fin k0_t1_loop.trips) (f16 : BufTy.Contents (Elt F) arg16.view.ty) (f17 : BufTy.Contents (Elt F) arg17.view.ty) (f21 : BufTy.Contents (Elt F) arg21.view.ty) (f22 : BufTy.Contents (Elt F) arg22.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 k).1 f16 f17 f21 f22 = [⟨Rect.unit (s := S1024x512) (k0_off5 k) S8x512.size (k0_off5_inb k), shapeCast S8x512 (stack8 fun u => ysum (arg20.view.readAt (Elt F) (Rect.unit (s := S32x512) ![0, 0] S32x512.size inb_S32x512_S32x512_0_0).toLoadRect X_arg20) (steps (arg19.view.readAt (Elt F) (Rect.unit (s := S32x512) ![0, 0] S32x512.size inb_S32x512_S32x512_0_0).toLoadRect X_arg19) (k0_pay3 (arg5.view.readAt (Elt F) (Rect.unit (s := S1x32x512) ![0, 0, 0] S1x32x512.size inb_S1x32x512_S1x32x512_0_0_0).toLoadRect X_arg5)) (k0_pay4 (arg2.view.readAt (Elt F) (Rect.unit (s := S1x1x1024x512) (k0_off3 k) S1x1x8x512.size (k0_off3_inb k)).toLoadRect X_arg2)) up (arg21.view.readAt (Elt F) (Rect.unit (s := S32x512) ![0, 0] S32x512.size inb_S32x512_S32x512_0_0).toLoadRect f21) (u + 1))) shapeCasts_S8x512_S8x512⟩] := by
  unfold trip_k0_t1
  rfl

/-- The eight rows one trip leaves in the backward read-out. -/
theorem trip17 (𝒱 : Variants) (c : Dev nD) (bd : Option 𝒱.V) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (v32 : Elt F .f32) (v34 : Elt F .f32) (v37 : IVec S32x512 1) (X_arg2 : BufTy.Contents (Elt F) arg2.view.ty) (X_arg5 : BufTy.Contents (Elt F) arg5.view.ty) (X_arg19 : BufTy.Contents (Elt F) arg19.view.ty) (X_arg20 : BufTy.Contents (Elt F) arg20.view.ty) (k : Fin k0_t1_loop.trips) (f16 : BufTy.Contents (Elt F) arg16.view.ty) (f17 : BufTy.Contents (Elt F) arg17.view.ty) (f21 : BufTy.Contents (Elt F) arg21.view.ty) (f22 : BufTy.Contents (Elt F) arg22.view.ty) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 k).2.1 f16 f17 f21 f22 = [⟨Rect.unit (s := S1024x512) (k0_off6 k) S8x512.size (k0_off6_inb k), shapeCast S8x512 (stack8 fun u => ysum (arg20.view.readAt (Elt F) (Rect.unit (s := S32x512) ![0, 0] S32x512.size inb_S32x512_S32x512_0_0).toLoadRect X_arg20) (steps (arg19.view.readAt (Elt F) (Rect.unit (s := S32x512) ![0, 0] S32x512.size inb_S32x512_S32x512_0_0).toLoadRect X_arg19) (k0_pay3 (arg5.view.readAt (Elt F) (Rect.unit (s := S1x32x512) ![0, 0, 0] S1x32x512.size inb_S1x32x512_S1x32x512_0_0_0).toLoadRect X_arg5)) (k0_pay5 (arg2.view.readAt (Elt F) (Rect.unit (s := S1x1x1024x512) (k0_off4 k) S1x1x8x512.size (k0_off4_inb k)).toLoadRect X_arg2)) down (arg22.view.readAt (Elt F) (Rect.unit (s := S32x512) ![0, 0] S32x512.size inb_S32x512_S32x512_0_0).toLoadRect f22) (8 - u))) shapeCasts_S8x512_S8x512⟩] := by
  unfold trip_k0_t1
  rfl

end Cert.ScanIdeal.Hand

end
-- ==== Proof.LoopSem.lean ====
module

public import proofs.«01_k».proof.Proof.Sem

@[expose] public section

set_option maxRecDepth 16384

noncomputable section

namespace Cert.ScanIdeal.Hand

open Cert.ScanIdeal.Gen
open Idealize.ShloMosaic Idealize.ShloMosaic.TcCoe
open Idealize.SL Idealize.SL.RA Idealize.SL.BI

variable {F : FTy → Type} [FloatOps F]

/-- The input of time `l`, repeated over the thirty-two state rows. -/
def xrow (x : FVec F S1x1x1024x512 .f32) (l : ℕ) : FVec F S32x512 .f32 := fun p => x (ix4 0 0 ⟨l % 1024, Nat.mod_lt _ (by decide)⟩ (p 1))

/-- The forward state after `n` steps. -/
def HF (A B : FVec F S32x512 .f32) (x : FVec F S1x1x1024x512 .f32) : ℕ → FVec F S32x512 .f32
  | 0 => k0_pay45
  | n + 1 => stp A B (xrow x n) (HF A B x n)

/-- The backward state after `n` steps. -/
def HB (A B : FVec F S32x512 .f32) (x : FVec F S1x1x1024x512 .f32) : ℕ → FVec F S32x512 .f32
  | 0 => k0_pay46
  | n + 1 => stp A B (xrow x (1023 - n)) (HB A B x n)

/-- The forward read-out of every time. -/
def accf (A B C : FVec F S32x512 .f32) (x : FVec F S1x1x1024x512 .f32) : FVec F S1024x512 .f32 :=
  fun y => ysum C (HF A B x ((y 0).val + 1)) (ix2 0 (y 1))

/-- The backward read-out of every time. -/
def accb (A B C : FVec F S32x512 .f32) (x : FVec F S1x1x1024x512 .f32) : FVec F S1024x512 .f32 :=
  fun y => ysum C (HB A B x (1024 - (y 0).val)) (ix2 0 (y 1))

theorem trips_eq : k0_t1_loop.trips = 128 := by decide
theorem off3_eq : ∀ k : Fin k0_t1_loop.trips, k0_off3 k = ![0, 0, 8 * k.val, 0] := by decide +kernel
theorem off4_eq : ∀ k : Fin k0_t1_loop.trips, k0_off4 k = ![0, 0, 1016 - 8 * k.val, 0] := by decide +kernel
theorem off5_eq : ∀ k : Fin k0_t1_loop.trips, k0_off5 k = ![8 * k.val, 0] := by decide +kernel
theorem off6_eq : ∀ k : Fin k0_t1_loop.trips, k0_off6 k = ![1016 - 8 * k.val, 0] := by decide +kernel

theorem shapeCast_tile (x : FVec F S1x1x8x512 .f32) (u : Fin 8) (d : Fin 512) :
    shapeCast S8x512 x shapeCasts_S1x1x8x512_S8x512 (ix2 u d) = x (ix4 0 0 u d) := by
  pointwise

/-- Eight rows of the input from row `o` on. -/
theorem rows_at (v : View sig .tc .vmem S1x1x1024x512 .f32) (f : v.ty.Contents (Elt F)) (off : Fin 4 → ℕ) (o : ℕ) (inb) (h : off = ![0, 0, o, 0]) (u : Fin 8) (t : FVec F S8x512 .f32)
    (ht : t = shapeCast S8x512 (v.readAt (Elt F) (Rect.unit (s := S1x1x1024x512) off S1x1x8x512.size inb).toLoadRect f) shapeCasts_S1x1x8x512_S8x512) :
    rowb t u = xrow (v.read (Elt F) f) (o + u.val) := by
  subst h
  subst ht
  funext p
  have hb : o + 8 ≤ 1024 := inb 2
  rw [View.readAt_unit v f inb rfl inb]
  generalize v.read (Elt F) f = X
  rw [rowb_apply]
  unfold xrow
  refine (shapeCast_tile _ u (p 1)).trans ?_
  refine congrArg X (funext fun a => Fin.ext ?_)
  have hm : (o + u.val) % 1024 = o + u.val := Nat.mod_eq_of_lt (by omega)
  match a with
  | ⟨0, _⟩ => rfl
  | ⟨1, _⟩ => rfl
  | ⟨2, _⟩ => exact (show o + 1 * u.val = (o + u.val) % 1024 by omega)
  | ⟨3, _⟩ => exact (show 0 + 1 * (p 1).val = (p 1).val by omega)

theorem steps_up (A B : FVec F S32x512 .f32) (x : FVec F S1x1x1024x512 .f32) (t : FVec F S8x512 .f32) (o : ℕ)
    (ht : ∀ u : Fin 8, rowb t u = xrow x (o + u.val)) : ∀ n, n ≤ 8 → steps A B t up (HF A B x o) n = HF A B x (o + n) := by
  intro n
  induction n with
  | zero => intro _; rfl
  | succ n ih =>
    intro h
    have hu : (up n).val = n := Nat.mod_eq_of_lt (by omega)
    show stp A B (rowb t (up n)) (steps A B t up (HF A B x o) n) = stp A B (xrow x (o + n)) (HF A B x (o + n))
    rw [ih (by omega), ht, hu]

theorem steps_down (A B : FVec F S32x512 .f32) (x : FVec F S1x1x1024x512 .f32) (t : FVec F S8x512 .f32) (o : ℕ) (ho : o ≤ 1016)
    (ht : ∀ u : Fin 8, rowb t u = xrow x ((1016 - o) + u.val)) : ∀ n, n ≤ 8 → steps A B t down (HB A B x o) n = HB A B x (o + n) := by
  intro n
  induction n with
  | zero => intro _; rfl
  | succ n ih =>
    intro h
    have hu : (down n).val = 7 - n := Nat.mod_eq_of_lt (by omega)
    show stp A B (rowb t (down n)) (steps A B t down (HB A B x o) n) = stp A B (xrow x (1023 - (o + n))) (HB A B x (o + n))
    rw [ih (by omega), ht, hu]
    congr 2
    omega

/-- The loop before trip `n`: both states after `8 n` steps, and the read-outs of the times passed. -/
theorem loop_sem (𝒱 : Variants) (c : Dev nD) (bd : Option 𝒱.V) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (v32 : Elt F .f32) (v34 : Elt F .f32) (v37 : IVec S32x512 1) (X_arg2 : BufTy.Contents (Elt F) arg2.view.ty) (X_arg5 : BufTy.Contents (Elt F) arg5.view.ty) (X_arg19 : BufTy.Contents (Elt F) arg19.view.ty) (X_arg20 : BufTy.Contents (Elt F) arg20.view.ty) (G_arg16 : BufTy.Contents (Elt F) arg16.view.ty) (G_arg17 : BufTy.Contents (Elt F) arg17.view.ty) (G_arg21 : BufTy.Contents (Elt F) arg21.view.ty) (G_arg22 : BufTy.Contents (Elt F) arg22.view.ty) (A B C : FVec F S32x512 .f32) (x : FVec F S1x1x1024x512 .f32)
    (hx : arg2.view.read (Elt F) X_arg2 = x) (hA : arg19.view.read (Elt F) X_arg19 = A) (hB : k0_pay3 (arg5.view.read (Elt F) X_arg5) = B) (hC : arg20.view.read (Elt F) X_arg20 = C)
    (h21 : arg21.view.read (Elt F) G_arg21 = k0_pay45) (h22 : arg22.view.read (Elt F) G_arg22 = k0_pay46) : ∀ n : ℕ, n ≤ 128 →
    arg21.view.read (Elt F) (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.2.1) = HF A B x (8 * n)
    ∧ arg22.view.read (Elt F) (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.2.2) = HB A B x (8 * n)
    ∧ (∀ y : S1024x512.Idx, (y 0).val < 8 * n → arg16.view.read (Elt F) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).1) y = accf A B C x y)
    ∧ (∀ y : S1024x512.Idx, 1024 - 8 * n ≤ (y 0).val → arg17.view.read (Elt F) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.1) y = accb A B C x y) := by
  intro n
  induction n with
  | zero =>
    intro _
    refine ⟨h21, h22, fun y hy => absurd hy (by omega), fun y hy => absurd hy ?_⟩
    have : (y 0).val < 1024 := (y 0).isLt
    omega
  | succ n ih =>
    intro hn
    obtain ⟨i21, i22, i16, i17⟩ := ih (by omega)
    have hk : n < k0_t1_loop.trips := by rw [trips_eq]; omega
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 ⟨n, hk⟩
    have e16 := (congrArg (fun p => p.1) e).trans (congrArg (· ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).1) (trip16 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 ⟨n, hk⟩ _ _ _ _))
    have e17 := (congrArg (fun p => p.2.1) e).trans (congrArg (· ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.1) (trip17 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 ⟨n, hk⟩ _ _ _ _))
    have e21 := (congrArg (fun p => p.2.2.1) e).trans (congrArg (· ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.2.1) (trip21 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 ⟨n, hk⟩ _ _ _ _))
    have e22 := (congrArg (fun p => p.2.2.2) e).trans (congrArg (· ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.2.2) (trip22 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 ⟨n, hk⟩ _ _ _ _))
    clear e
    beta_reduce at e16 e17 e21 e22
    rw [e16, e17, e21, e22]
    clear e16 e17 e21 e22
    simp only [View.writes_append]
    have rA := (View.readAt_full arg19.view X_arg19 inb_S32x512_S32x512_0_0).trans hA
    have rC := (View.readAt_full arg20.view X_arg20 inb_S32x512_S32x512_0_0).trans hC
    have rB := (congrArg k0_pay3 (View.readAt_full arg5.view X_arg5 inb_S1x32x512_S1x32x512_0_0_0)).trans hB
    have rF := (View.readAt_full arg21.view (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.2.1) inb_S32x512_S32x512_0_0).trans i21
    have rG := (View.readAt_full arg22.view (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 v37 X_arg2 X_arg5 X_arg19 X_arg20 G_arg16 G_arg17 G_arg21 G_arg22 n).2.2.2) inb_S32x512_S32x512_0_0).trans i22
    have tF : ∀ u : Fin 8, rowb (k0_pay4 (arg2.view.readAt (Elt F) (Rect.unit (s := S1x1x1024x512) (k0_off3 ⟨n, hk⟩) S1x1x8x512.size (k0_off3_inb ⟨n, hk⟩)).toLoadRect X_arg2)) u = xrow x (8 * n + u.val) := fun u => hx ▸ rows_at arg2.view X_arg2 _ (8 * n) _ (off3_eq ⟨n, hk⟩) u _ rfl
    have tB : ∀ u : Fin 8, rowb (k0_pay5 (arg2.view.readAt (Elt F) (Rect.unit (s := S1x1x1024x512) (k0_off4 ⟨n, hk⟩) S1x1x8x512.size (k0_off4_inb ⟨n, hk⟩)).toLoadRect X_arg2)) u = xrow x ((1016 - 8 * n) + u.val) := fun u => hx ▸ rows_at arg2.view X_arg2 _ (1016 - 8 * n) _ (off4_eq ⟨n, hk⟩) u _ rfl
    generalize (k0_pay4 (arg2.view.readAt (Elt F) (Rect.unit (s := S1x1x1024x512) (k0_off3 ⟨n, hk⟩) S1x1x8x512.size (k0_off3_inb ⟨n, hk⟩)).toLoadRect X_arg2)) = tf at tF ⊢
    generalize (k0_pay5 (arg2.view.readAt (Elt F) (Rect.unit (s := S1x1x1024x512) (k0_off4 ⟨n, hk⟩) S1x1x8x512.size (k0_off4_inb ⟨n, hk⟩)).toLoadRect X_arg2)) = tb at tB ⊢
    have sF := steps_up A B x tf (8 * n) tF
    have sB := steps_down A B x tb (8 * n) (by omega) tB
    rw [rA, rB, rC, rF, rG]
    refine ⟨?_, ?_, fun y hy => ?_, fun y hy => ?_⟩
    · refine (View.read_writes_full arg21.view _ inb_S32x512_S32x512_0_0 _ []).trans ?_
      rw [shapeCast_same, sF 8 le_rfl]
      rfl
    · refine (View.read_writes_full arg22.view _ inb_S32x512_S32x512_0_0 _ []).trans ?_
      rw [shapeCast_same, sB 8 le_rfl]
      rfl
    · by_cases hc : 8 * n ≤ (y 0).val
      · have hu : (y 0).val - 8 * n < 8 := by omega
        refine (View.read_writes_cons_rows_of_mem (d := ![1024, 512]) arg16.view _ (o := 8 * n) (k0_off5_inb ⟨n, hk⟩) _ [] y (ix2 ⟨(y 0).val - 8 * n, hu⟩ (y 1)) (off5_eq ⟨n, hk⟩) (by show (y 0).val = 8 * n + ((y 0).val - 8 * n); omega) rfl).trans ?_
        rw [shapeCast_same, stack8_apply]
        show ysum C (steps A B tf up (HF A B x (8 * n)) ((y 0).val - 8 * n + 1)) (ix2 0 (y 1)) = accf A B C x y
        rw [sF _ (by omega)]
        exact congrArg (fun m => ysum C (HF A B x m) (ix2 0 (y 1))) (show 8 * n + ((y 0).val - 8 * n + 1) = (y 0).val + 1 by omega)
      · refine (View.read_writes_cons_rows_of_not_mem (d := ![1024, 512]) arg16.view _ (o := 8 * n) (W := 8) (k0_off5_inb ⟨n, hk⟩) _ [] y (off5_eq ⟨n, hk⟩) rfl (Or.inl (by omega))).trans ?_
        exact i16 y (by omega)
    · have hy0 : 1024 - 8 * (n + 1) ≤ (y 0).val := hy
      have hy1 : (y 0).val < 1024 := (y 0).isLt
      by_cases hc : (y 0).val < 1024 - 8 * n
      · have hu : (y 0).val - (1016 - 8 * n) < 8 := by omega
        refine (View.read_writes_cons_rows_of_mem (d := ![1024, 512]) arg17.view _ (o := 1016 - 8 * n) (k0_off6_inb ⟨n, hk⟩) _ [] y (ix2 ⟨(y 0).val - (1016 - 8 * n), hu⟩ (y 1)) (off6_eq ⟨n, hk⟩) (by show (y 0).val = 1016 - 8 * n + ((y 0).val - (1016 - 8 * n)); omega) rfl).trans ?_
        rw [shapeCast_same, stack8_apply]
        show ysum C (steps A B tb down (HB A B x (8 * n)) (8 - ((y 0).val - (1016 - 8 * n)))) (ix2 0 (y 1)) = accb A B C x y
        rw [sB _ (by omega)]
        exact congrArg (fun m => ysum C (HB A B x m) (ix2 0 (y 1))) (show 8 * n + (8 - ((y 0).val - (1016 - 8 * n))) = 1024 - (y 0).val by omega)
      · refine (View.read_writes_cons_rows_of_not_mem (d := ![1024, 512]) arg17.view _ (o := 1016 - 8 * n) (W := 8) (k0_off6_inb ⟨n, hk⟩) _ [] y (off6_eq ⟨n, hk⟩) rfl (Or.inr (by omega))).trans ?_
        exact i17 y (by omega)

end Cert.ScanIdeal.Hand

end
-- ==== Proof.RunA.lean ====
module

public import proofs.«01_k».proof.Proof.Gen.ScanIdeal.Frame
public import proofs.«01_k».proof.Proof.Gen.ScanIdeal.Loops
public import proofs.«01_k».proof.Proof.Gen.ScanIdeal.Skeleton
public import proofs.«01_k».proof.Proof.LoopSem

@[expose] public section

set_option maxRecDepth 16384

noncomputable section

namespace Cert.ScanIdeal.Hand

open Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (Scalar.remsi (BitVec.ofNat 32 (i 0).val) 2#32) 0#32)) 0#32) = 1#1
abbrev cond0_1 (i : grid0.Coords) : Prop := k0_cond2 i = 1#1

/-- The first weight of the sequence a point works on. -/
def lamS (i : grid0.Coords) (x0 : FVec F S4x2 .f32) : F .f32 := x0 (ix2 ⟨(i 0).val / 2 % 4, Nat.mod_lt _ (by decide)⟩ 0)
/-- The second weight of the sequence a point works on. -/
def lamC (i : grid0.Coords) (x0 : FVec F S4x2 .f32) : F .f32 := x0 (ix2 ⟨(i 0).val / 2 % 4, Nat.mod_lt _ (by decide)⟩ 1)

/-- The read-out rows of a point, weighted. -/
def cw (i : grid0.Coords) (x0 : FVec F S4x2 .f32) (x5 : FVec F S1x32x512 .f32) : FVec F S32x512 .f32 := k0_pay43 (lamS i x0) (lamC i x0) k0_pay42 x5

/-- What a point projects: its half of the channels, scanned both ways, gated and projected. -/
def part (i : grid0.Coords) (x0 : FVec F S4x2 .f32) (x1 x2 : FVec F S1x1x1024x512 .f32) (x3 x4 x5 : FVec F S1x32x512 .f32) (x7 : FVec F S1x512x512 .f32) : FVec F S512x1024 .f32 :=
  k0_pay50 (accf (k0_pay41 x3) (k0_pay3 x4) (cw i x0 x5) x1) (accb (k0_pay41 x3) (k0_pay3 x4) (cw i x0 x5) x1) x2 x7

/-- What a point of the first half leaves for the next. -/
def keep (i : grid0.Coords) (x0 : FVec F S4x2 .f32) (x1 x2 : FVec F S1x1x1024x512 .f32) (x3 x4 x5 : FVec F S1x32x512 .f32) (x7 : FVec F S1x512x512 .f32) : FVec F S512x1024 .f32 :=
  k0_pay1 (part i x0 x1 x2 x3 x4 x5 x7)

/-- What a point of the second half writes, `s` being what the point before left. -/
def outv (i : grid0.Coords) (x0 : FVec F S4x2 .f32) (x1 x2 : FVec F S1x1x1024x512 .f32) (x3 x4 x5 : FVec F S1x32x512 .f32) (x6 : FVec F S1x1 .f32) (x7 : FVec F S1x512x512 .f32)
    (x8 : FVec F S256x512 .f32) (x9 x10 x11 x12 : FVec F S256x1 .f32) (x13 : FVec F S1x1x256x1024 .f32) (s : FVec F S512x1024 .f32) : FVec F S1x1x256x1024 .f32 :=
  k0_pay2 (part i x0 x1 x2 x3 x4 x5 x7) s x8 x9 x12 x10 x11 x6 x13

theorem off1_eq : ∀ i : grid0.Coords, k0_off1 i = ![(i 0).val / 2 % 4, 0] := by decide +kernel

theorem off2_eq : ∀ i : grid0.Coords, k0_off2 i = ![(i 0).val / 2 % 4, 1] := by decide +kernel

/-- A one-element read of a four by two array, at row `r` and column `q`. -/
theorem elem_at (v : View sig .tc .smem S4x2 .f32) (f : v.ty.Contents (Elt F)) (off : Fin 2 → ℕ) (r : Fin 4) (q : Fin 2) (inb) (h : off = ![r.val, q.val]) (y : S1x1.Idx) :
    v.readAt (Elt F) (Rect.unit (s := S4x2) off S1x1.size inb).toLoadRect f y = v.read (Elt F) f (ix2 r q) := by
  subst h
  refine congrArg (v.read (Elt F) f) (funext fun a => Fin.ext ?_)
  match a with
  | ⟨0, _⟩ => exact (show r.val + 1 * (y 0).val = r.val by have : (y 0).val < 1 := (y 0).isLt; omega)
  | ⟨1, _⟩ => exact (show q.val + 1 * (y 1).val = q.val by have : (y 1).val < 1 := (y 1).isLt; omega)

/-- The loop gone through, what the point projects is `part`. -/
theorem part_of (𝒱 : Variants) (c : Dev nD) (bd : Option 𝒱.V) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (v32 : Elt F .f32) (v34 : Elt F .f32) (X_arg2 : BufTy.Contents (Elt F) arg2.view.ty) (X_arg5 : BufTy.Contents (Elt F) arg5.view.ty) (X_arg19 : BufTy.Contents (Elt F) arg19.view.ty) (X_arg20 : BufTy.Contents (Elt F) arg20.view.ty) (G_arg16 : BufTy.Contents (Elt F) arg16.view.ty) (G_arg17 : BufTy.Contents (Elt F) arg17.view.ty) (G_arg21 : BufTy.Contents (Elt F) arg21.view.ty) (G_arg22 : BufTy.Contents (Elt F) arg22.view.ty) (x0 : FVec F S4x2 .f32) (x1 x2 : FVec F S1x1x1024x512 .f32) (x3 x4 x5 : FVec F S1x32x512 .f32) (x7 : FVec F S1x512x512 .f32)
    (h32 : v32 = lamS i x0) (h34 : v34 = lamC i x0)
    (hx : arg2.view.read (Elt F) X_arg2 = x1) (h5 : arg5.view.read (Elt F) X_arg5 = x4)
    (h19 : arg19.view.read (Elt F) X_arg19 = k0_pay41 x3) (h20 : arg20.view.read (Elt F) X_arg20 = k0_pay43 v32 v34 k0_pay42 x5)
    (h21 : arg21.view.read (Elt F) G_arg21 = k0_pay45) (h22 : arg22.view.read (Elt F) G_arg22 = k0_pay46) :
    k0_pay50 (arg16.view.readAt (Elt F) (Rect.unit (s := S1024x512) ![0, 0] S1024x512.size inb_S1024x512_S1024x512_0_0).toLoadRect (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 k0_pay42 X_arg2 X_arg5 X_arg19 X_arg20 G_arg16 G_arg17 G_arg21 G_arg22 (Scf.trips k0_t1_loop.lb k0_t1_loop.ub k0_t1_loop.st)).1)) (arg17.view.readAt (Elt F) (Rect.unit (s := S1024x512) ![0, 0] S1024x512.size inb_S1024x512_S1024x512_0_0).toLoadRect (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 k0_pay42 X_arg2 X_arg5 X_arg19 X_arg20 G_arg16 G_arg17 G_arg21 G_arg22 (Scf.trips k0_t1_loop.lb k0_t1_loop.ub k0_t1_loop.st)).2.1)) x2 x7
      = part i x0 x1 x2 x3 x4 x5 x7 := by
  have e := loop_sem (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v32 v34 k0_pay42 X_arg2 X_arg5 X_arg19 X_arg20 G_arg16 G_arg17 G_arg21 G_arg22 (k0_pay41 x3) (k0_pay3 x4) (cw i x0 x5) x1 hx h19 (congrArg k0_pay3 h5)
    (h20.trans (by rw [h32, h34]; rfl)) h21 h22 128 le_rfl
  have ht : Scf.trips k0_t1_loop.lb k0_t1_loop.ub k0_t1_loop.st = 128 := trips_eq
  rw [ht, View.readAt_full, View.readAt_full]
  unfold part
  congr 1
  · funext y
    exact e.2.2.1 y (y 0).isLt
  · funext y
    exact e.2.2.2 y (Nat.zero_le _)

set_option maxHeartbeats 1000000 in
/-- The body at a point of the first half: the carried scratch is left at `keep`, the output buffer as it was. -/
theorem kernelRun0_A (c : Dev nD) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (hc0 : cond0_0 i) (hc1 : ¬cond0_1 i)
    (x0 : Vec F S4x2 .f32) (x1 : Vec F S1x1x1024x512 .f32) (x2 : Vec F S1x1x1024x512 .f32) (x3 : Vec F S1x32x512 .f32) (x4 : Vec F S1x32x512 .f32) (x5 : Vec F S1x32x512 .f32) (x6 : Vec F S1x1 .f32) (x7 : Vec F S1x512x512 .f32) (x8 : Vec F S256x512 .f32) (x9 : Vec F S256x1 .f32) (x10 : Vec F S256x1 .f32) (x11 : Vec F S256x1 .f32) (x12 : Vec F S256x1 .f32) (x13 : Vec F S1x1x256x1024 .f32) (xi14 : Vec F S1x1x256x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ (∃ d, owns (c : Thread nD τ) arg17 fullShare d) ∗ owns (c : Thread nD τ) arg18 fullShare (keep i x0 x1 x2 x3 x4 x5 x7) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mamba_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mamba_scan_eq_skeleton]; unfold cc0_mamba_scan_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]
    · iexists _, _; isplitr; swap; · iexact HS0
      ipureintro; rfl
    isplitl [HS1]
    · iexists _, _; isplitr; swap; · iexact HS1
      ipureintro; rfl
    isplitl [HS2]
    · iexists _; isplitr; swap; · iexact HS2
      ipureintro
      refine (View.read_writes_full arg18.view fs2 inb_S512x1024_S512x1024_0_0 _ []).trans ?_
      refine congrArg k0_pay1 ?_
      unfold kernelRun0_A.sl.r_2
      have e2 := (View.readAt_full arg3.view (harg3.unread x2) inb_S1x1x1024x512_S1x1x1024x512_0_0_0_0).trans (harg3.read_unread x2)
      have e7 := (View.readAt_full arg8.view (harg8.unread x7) inb_S1x512x512_S1x512x512_0_0_0).trans (harg8.read_unread x7)
      rw [e2, e7]
      unfold kernelRun0_A.sl.v57 kernelRun0_A.sl.v58
      refine part_of _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_
      · unfold kernelRun0_A.sl.r
        exact (elem_at arg1.view _ _ ⟨(i 0).val / 2 % 4, Nat.mod_lt _ (by decide)⟩ 0 _ (off1_eq i) _).trans (congrFun (harg1.read_unread x0) _)
      · unfold kernelRun0_A.sl.r_1
        exact (elem_at arg1.view _ _ ⟨(i 0).val / 2 % 4, Nat.mod_lt _ (by decide)⟩ 1 _ (off2_eq i) _).trans (congrFun (harg1.read_unread x0) _)
      · exact harg2.read_unread x1
      · exact harg5.read_unread x4
      · refine (View.read_writes_full _ _ inb_S32x512_S32x512_0_0 _ []).trans ?_
        rw [View.readAt_full arg4.view _ inb_S1x32x512_S1x32x512_0_0_0, harg4.read_unread]
      · refine (View.read_writes_full _ _ inb_S32x512_S32x512_0_0 _ []).trans ?_
        rw [View.readAt_full arg6.view _ inb_S1x32x512_S1x32x512_0_0_0, harg6.read_unread]
      · exact View.read_writes_full _ _ inb_S32x512_S32x512_0_0 _ []
      · exact View.read_writes_full _ _ inb_S32x512_S32x512_0_0 _ []
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.ScanIdeal.Hand

end
-- ==== Proof.RunB.lean ====
module

public import proofs.«01_k».proof.Proof.Gen.ScanIdeal.Frame
public import proofs.«01_k».proof.Proof.Gen.ScanIdeal.Loops
public import proofs.«01_k».proof.Proof.Gen.ScanIdeal.Skeleton
public import proofs.«01_k».proof.Proof.RunA

@[expose] public section

set_option maxRecDepth 16384

noncomputable section

namespace Cert.ScanIdeal.Hand

open Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point of the second half: the output buffer is left at `outv`, the carried scratch as it was. -/
theorem kernelRun0_B (c : Dev nD) (i : grid0.Coords) (arg1 : Memref sig .tc .smem S4x2 .f32) (harg1 : arg1.IsWhole) (arg2 : Memref sig .tc .vmem S1x1x1024x512 .f32) (harg2 : arg2.IsWhole) (arg3 : Memref sig .tc .vmem S1x1x1024x512 .f32) (harg3 : arg3.IsWhole) (arg4 : Memref sig .tc .vmem S1x32x512 .f32) (harg4 : arg4.IsWhole) (arg5 : Memref sig .tc .vmem S1x32x512 .f32) (harg5 : arg5.IsWhole) (arg6 : Memref sig .tc .vmem S1x32x512 .f32) (harg6 : arg6.IsWhole) (arg7 : Memref sig .tc .vmem S1x1 .f32) (harg7 : arg7.IsWhole) (arg8 : Memref sig .tc .vmem S1x512x512 .f32) (harg8 : arg8.IsWhole) (arg9 : Memref sig .tc .vmem S256x512 .f32) (harg9 : arg9.IsWhole) (arg10 : Memref sig .tc .vmem S256x1 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (arg14 : Memref sig .tc .vmem S1x1x256x1024 .f32) (harg14 : arg14.IsWhole) (arg15 : Memref sig .tc .vmem S1x1x256x1024 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S512x1024 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x512 .f32) (harg22 : arg22.IsWhole) (hc0 : ¬cond0_0 i) (hc1 : cond0_1 i)
    (x0 : Vec F S4x2 .f32) (x1 : Vec F S1x1x1024x512 .f32) (x2 : Vec F S1x1x1024x512 .f32) (x3 : Vec F S1x32x512 .f32) (x4 : Vec F S1x32x512 .f32) (x5 : Vec F S1x32x512 .f32) (x6 : Vec F S1x1 .f32) (x7 : Vec F S1x512x512 .f32) (x8 : Vec F S256x512 .f32) (x9 : Vec F S256x1 .f32) (x10 : Vec F S256x1 .f32) (x11 : Vec F S256x1 .f32) (x12 : Vec F S256x1 .f32) (x13 : Vec F S1x1x256x1024 .f32) (s : Vec F S512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare s ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outv i x0 x1 x2 x3 x4 x5 x6 x7 x8 x9 x10 x11 x12 x13 s) ∗ (∃ d, owns (c : Thread nD τ) arg16 fullShare d) ∗ (∃ d, owns (c : Thread nD τ) arg17 fullShare d) ∗ owns (c : Thread nD τ) arg18 fullShare s ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mamba_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mamba_scan_eq_skeleton]; unfold cc0_mamba_scan_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, ⟨%ds1, %fs1, -, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg18.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro
      refine (View.read_writes_full arg15.view f14 inb_S1x1x256x1024_S1x1x256x1024_0_0_0_0 _ []).trans ?_
      have r18 := (View.readAt_full arg18.view (harg18.unread s) inb_S512x1024_S512x1024_0_0).trans (harg18.read_unread s)
      have r9 := (View.readAt_full arg9.view (harg9.unread x8) inb_S256x512_S256x512_0_0).trans (harg9.read_unread x8)
      have r10 := (View.readAt_full arg10.view (harg10.unread x9) inb_S256x1_S256x1_0_0).trans (harg10.read_unread x9)
      have r11 := (View.readAt_full arg11.view (harg11.unread x10) inb_S256x1_S256x1_0_0).trans (harg11.read_unread x10)
      have r12 := (View.readAt_full arg12.view (harg12.unread x11) inb_S256x1_S256x1_0_0).trans (harg12.read_unread x11)
      have r13 := (View.readAt_full arg13.view (harg13.unread x12) inb_S256x1_S256x1_0_0).trans (harg13.read_unread x12)
      have r7 := (View.readAt_full arg7.view (harg7.unread x6) inb_S1x1_S1x1_0_0).trans (harg7.read_unread x6)
      have r14 := (View.readAt_full arg14.view (harg14.unread x13) inb_S1x1x256x1024_S1x1x256x1024_0_0_0_0).trans (harg14.read_unread x13)
      unfold kernelRun0_B.sl.v93
      rw [r18, r9, r10, r11, r12, r13, r7, r14]
      refine congrArg (fun w => k0_pay2 w s x8 x9 x12 x10 x11 x6 x13) ?_
      unfold kernelRun0_B.sl.r_2
      have e2 := (View.readAt_full arg3.view (harg3.unread x2) inb_S1x1x1024x512_S1x1x1024x512_0_0_0_0).trans (harg3.read_unread x2)
      have e7 := (View.readAt_full arg8.view (harg8.unread x7) inb_S1x512x512_S1x512x512_0_0_0).trans (harg8.read_unread x7)
      rw [e2, e7]
      unfold kernelRun0_B.sl.v57 kernelRun0_B.sl.v58
      refine part_of _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_
      · unfold kernelRun0_B.sl.r
        exact (elem_at arg1.view _ _ ⟨(i 0).val / 2 % 4, Nat.mod_lt _ (by decide)⟩ 0 _ (off1_eq i) _).trans (congrFun (harg1.read_unread x0) _)
      · unfold kernelRun0_B.sl.r_1
        exact (elem_at arg1.view _ _ ⟨(i 0).val / 2 % 4, Nat.mod_lt _ (by decide)⟩ 1 _ (off2_eq i) _).trans (congrFun (harg1.read_unread x0) _)
      · exact harg2.read_unread x1
      · exact harg5.read_unread x4
      · refine (View.read_writes_full _ _ inb_S32x512_S32x512_0_0 _ []).trans ?_
        rw [View.readAt_full arg4.view _ inb_S1x32x512_S1x32x512_0_0_0, harg4.read_unread]
      · refine (View.read_writes_full _ _ inb_S32x512_S32x512_0_0 _ []).trans ?_
        rw [View.readAt_full arg6.view _ inb_S1x32x512_S1x32x512_0_0_0, harg6.read_unread]
      · exact View.read_writes_full _ _ inb_S32x512_S32x512_0_0 _ []
      · exact View.read_writes_full _ _ inb_S32x512_S32x512_0_0 _ []
    isplitl [HS0]
    · iexists _, _; isplitr; swap; · iexact HS0
      ipureintro; rfl
    isplitl [HS1]
    · iexists _, _; isplitr; swap; · iexact HS1
      ipureintro; rfl
    isplitl [HS2]
    · iexists _; isplitr; · ipureintro; exact harg18.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.ScanIdeal.Hand

end
-- ==== Proof.Track.lean ====
module

public import proofs.«01_k».proof.Proof.Gen.ScanIdeal.Frame
public import proofs.«01_k».proof.Proof.Gen.ScanIdeal.Loops
public import proofs.«01_k».proof.Proof.Gen.ScanIdeal.Skeleton
public import proofs.«01_k».proof.Proof.RunB
public import Idealize.ShloMosaic.Lib.Claim

@[expose] public section

set_option maxRecDepth 16384

noncomputable section

namespace Cert.ScanIdeal.Hand

open Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the points ≡ 0 (mod 2) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- At the points of case A the configuration calls output 14 idle: the case stores nothing into it. -/
theorem idleAt0_14_A : ∀ t : Fin cfg0.N, cond0_0 (grid0.coords t) → ¬cond0_1 (grid0.coords t) → cfg0.idle 14 (grid0.coords t) = true := by decide +kernel
/-- At the points of case A the pipeline does not write output 14's block back. -/
theorem noFlush0_14_A : ∀ t : Fin cfg0.N, cond0_0 (grid0.coords t) → ¬cond0_1 (grid0.coords t) → (cfg0.win 14).flush t = false := by decide +kernel
/-- At the points of case B the configuration calls output 14 live: the case stores into it. -/
theorem liveAt0_14_B : ∀ t : Fin cfg0.N, ¬cond0_0 (grid0.coords t) → cond0_1 (grid0.coords t) → cfg0.idle 14 (grid0.coords t) = false := by decide +kernel

/-- Each window's current staging memref at point `t`, spelled as the pipeline passes it (`bodyAt0`), and its wholeness. -/
abbrev ms0_0 (t : Fin cfg0.N) : Memref sig .tc .smem S4x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x256x1024 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1024x512 .f32 := Memref.whole cc0_scratch0
abbrev scM0_1 : Memref sig .tc .vmem S1024x512 .f32 := Memref.whole cc0_scratch1
abbrev scM0_2 : Memref sig .tc .vmem S512x1024 .f32 := Memref.whole cc0_scratch2
abbrev scM0_3 : Memref sig .tc .vmem S32x512 .f32 := Memref.whole cc0_scratch3
abbrev scM0_4 : Memref sig .tc .vmem S32x512 .f32 := Memref.whole cc0_scratch4
abbrev scM0_5 : Memref sig .tc .vmem S32x512 .f32 := Memref.whole cc0_scratch5
abbrev scM0_6 : Memref sig .tc .vmem S32x512 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- What the point at `n` of the first half keeps for the next. -/
def keepAt (c : Dev nD) (t : Fin cfg0.N) : Vec F S512x1024 .f32 :=
  keep (grid0.coords t) (iblk m c 0 t) (iblk m c 1 t) (iblk m c 2 t) (iblk m c 3 t) (iblk m c 4 t) (iblk m c 5 t) (iblk m c 7 t)

/-- What the point at `n` of the second half writes, `s` being what was kept. -/
def outAt (c : Dev nD) (t : Fin cfg0.N) (s : Vec F S512x1024 .f32) : Vec F S1x1x256x1024 .f32 :=
  outv (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s

/-- What the output's buffer and the carried scratch hold after point `n`. At a point of the first half nothing is
    written to the output, and what is said of it there is never used. -/
def outsAt0 (c : Dev nD) (n : ℕ) (hn : n < cfg0.N) : Vec F S1x1x256x1024 .f32 × Vec F S512x1024 .f32 :=
  if n % 2 = 0 then (iblk m c 13 ⟨n, hn⟩, keepAt m c ⟨n, hn⟩)
  else (outAt m c ⟨n, hn⟩ (keepAt m c ⟨n - 1, by omega⟩), keepAt m c ⟨n - 1, by omega⟩)

theorem outsAt0_A (c : Dev nD) (n : ℕ) (hn : n < cfg0.N) (h : n % 2 = 0) : (outsAt0 m c n hn).2 = keepAt m c ⟨n, hn⟩ := by
  unfold outsAt0; rw [if_pos h]

theorem outsAt0_B (c : Dev nD) (n : ℕ) (hn : n < cfg0.N) (h : ¬n % 2 = 0) :
    outsAt0 m c n hn = (outAt m c ⟨n, hn⟩ (keepAt m c ⟨n - 1, by omega⟩), keepAt m c ⟨n - 1, by omega⟩) := by
  unfold outsAt0; rw [if_neg h]

/-- What holds of the scratch buffers before point `n`: nothing is known before the first; afterwards the carried one holds
    what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((outsAt0 m c (n - 1) (by omega)).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The proof data of the pipeline on core `c`: every input's buffer at its block, the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [Dat.leavesExact_idle (dats m 0 c) 14 t (idleAt0_14_A t ((hcond0_0 t).mpr h0) (fun h => h1 ((hcond0_1 t).mp h))) (noFlush0_14_A t ((hcond0_0 t).mpr h0) (fun h => h1 ((hcond0_1 t).mp h)))]
      by_cases hz : t.val = 0
      · rw [PhiS_castSucc m c t, PhiS_zero m c _ _ hz, PhiA0_eq]
        rw [outsAt0_A m c t.val t.isLt h0]
        unfold keepAt
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply (kernelRun0_A c (grid0.coords t) _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, H14, HS0, HS1, HS2, HS3, HS4, HS5, HS6⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14
      · rw [PhiS_castSucc m c t, PhiS_pos m c _ _ hz]
        rw [outsAt0_A m c t.val t.isLt h0]
        unfold keepAt
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply (kernelRun0_A c (grid0.coords t) _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HS0]; · iexact HS0
        isplitl [HS1]; · iexact HS1
        isplitl [HS2]; · iexists _; iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, H14, HS0, HS1, HS2, HS3, HS4, HS5, HS6⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexists _; iexact H14
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1)], after0_14]
      by_cases hz : t.val = 0
      · exfalso; have hN : t.val < 16 := lt_of_lt_of_eq t.isLt (show cfg0.N = 16 from N_0); omega
      · rw [PhiS_castSucc m c t, PhiS_pos m c _ _ hz]
        rw [outsAt0_B m c t.val t.isLt h0, outsAt0_A m c (t.val - 1) _ (by omega)]
        unfold outAt; dsimp only
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply (kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, H13, H14, HS0, HS1, HS2, HS3, HS4, HS5, HS6⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexact HS4
            isplitl [HS5]
            · iexact HS5
            iexact HS6
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexact HS1
    isplitl [HS2]
    · iexists _; iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- Every run ends, with every counter at zero and the arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.ScanIdeal.Hand

end
-- ==== Proof.KerPure.lean ====
module

public import proofs.«01_k».proof.Proof.RunA
public import proofs.«01_k».proof.Proof.Num

@[expose] public section

set_option maxRecDepth 16384

noncomputable section

namespace Cert.ScanIdeal.Hand

open Cert.ScanIdeal.Gen Cert.Num
open Idealize.ShloMosaic Idealize.ShloMosaic.TcCoe

theorem HF_at (A B : FVec Ideal S32x512 .f32) (x : FVec Ideal S1x1x1024x512 .f32) (r : Fin 32) (c : Fin 512) (n : ℕ) :
    HF A B x n (ix2 r c) = hs (A (ix2 r c)) (B (ix2 r c)) (fun k => x (ix4 0 0 ⟨k % 1024, Nat.mod_lt _ (by decide)⟩ c)) n := by
  induction n with
  | zero => pointwise [HF, hs, k0_pay45, k0_pay44]
  | succ n ih =>
    unfold HF hs
    rw [← ih]
    pointwise [stp, xrow]

theorem HB_at (A B : FVec Ideal S32x512 .f32) (x : FVec Ideal S1x1x1024x512 .f32) (r : Fin 32) (c : Fin 512) (n : ℕ) :
    HB A B x n (ix2 r c) = hs (A (ix2 r c)) (B (ix2 r c)) (fun k => x (ix4 0 0 ⟨(1023 - k) % 1024, Nat.mod_lt _ (by decide)⟩ c)) n := by
  induction n with
  | zero => pointwise [HB, hs, k0_pay46, k0_pay44]
  | succ n ih =>
    unfold HB hs
    rw [← ih]
    pointwise [stp, xrow]

theorem ysum_at (C h : FVec Ideal S32x512 .f32) (c : Fin 512) : ysum C h (ix2 0 c) = ∑ r : Fin 32, h (ix2 r c) * C (ix2 r c) := by
  pointwise [ysum]

theorem pay41_at (x : FVec Ideal S1x32x512 .f32) (r : Fin 32) (c : Fin 512) : k0_pay41 (F := Ideal) x (ix2 r c) = dec (x (ix3 0 r c)) := by
  pointwise [k0_pay41, dec]
  rw [zero_sub]

theorem pay3_at (x : FVec Ideal S1x32x512 .f32) (r : Fin 32) (c : Fin 512) : k0_pay3 x (ix2 r c) = x (ix3 0 r c) := by
  pointwise [k0_pay3]

theorem cw_at (i : grid0.Coords) (x0 : FVec Ideal S4x2 .f32) (x5 : FVec Ideal S1x32x512 .f32) (r : Fin 32) (c : Fin 512) :
    cw i x0 x5 (ix2 r c) = (x5 (ix3 0 r c) * (if r.val < 16 then lamS i x0 else lamC i x0)) * Ideal.ofBits .f32 0x3F000000#32 := by
  unfold cw
  pointwise [k0_pay43, k0_pay42]
  fin_vals r with hk
  all_goals simp only [hk]; rfl

theorem pay50_at (p q : FVec Ideal S1024x512 .f32) (x2 : FVec Ideal S1x1x1024x512 .f32) (x7 : FVec Ideal S1x512x512 .f32) (d : Fin 512) (l : Fin 1024) :
    k0_pay50 p q x2 x7 (ix2 d l) = ∑ c : Fin 512, x7 (ix3 0 d c) * ((p (ix2 l c) + q (ix2 l c)) * x2 (ix4 0 0 l c)) := by
  pointwise [k0_pay50]

theorem pay2_at (v65 s : FVec Ideal S512x1024 .f32) (x8 : FVec Ideal S256x512 .f32) (g v b mm : FVec Ideal S256x1 .f32) (gt : FVec Ideal S1x1 .f32) (xo : FVec Ideal S1x1x256x1024 .f32) (o : Fin 256) (l : Fin 1024) :
    k0_pay2 v65 s x8 g v b mm gt xo (ix4 0 0 o l) = kform (xo (ix4 0 0 o l)) (gt (ix2 0 0)) (g (ix2 o 0)) (b (ix2 o 0)) (mm (ix2 o 0)) (v (ix2 o 0))
      (fun d => x8 (ix2 o d)) (fun d => s (ix2 d l) + v65 (ix2 d l)) := by
  pointwise [k0_pay2, kform]

/-- What a point projects, at an index. -/
theorem part_at (i : grid0.Coords) (x0 : FVec Ideal S4x2 .f32) (x1 x2 : FVec Ideal S1x1x1024x512 .f32) (x3 x4 x5 : FVec Ideal S1x32x512 .f32) (x7 : FVec Ideal S1x512x512 .f32)
    (d : Fin 512) (l : Fin 1024) :
    part i x0 x1 x2 x3 x4 x5 x7 (ix2 d l) = ∑ c : Fin 512, x7 (ix3 0 d c) *
      ((∑ r : Fin 32, hs (dec (x3 (ix3 0 r c))) (x4 (ix3 0 r c)) (fun k => x1 (ix4 0 0 ⟨k % 1024, Nat.mod_lt _ (by decide)⟩ c)) (l.val + 1)
            * ((x5 (ix3 0 r c) * (if r.val < 16 then lamS i x0 else lamC i x0)) * Ideal.ofBits .f32 0x3F000000#32)
        + ∑ r : Fin 32, hs (dec (x3 (ix3 0 r c))) (x4 (ix3 0 r c)) (fun k => x1 (ix4 0 0 ⟨(1023 - k) % 1024, Nat.mod_lt _ (by decide)⟩ c)) (1024 - l.val)
            * ((x5 (ix3 0 r c) * (if r.val < 16 then lamS i x0 else lamC i x0)) * Ideal.ofBits .f32 0x3F000000#32))
        * x2 (ix4 0 0 l c)) := by
  unfold part
  rw [pay50_at]
  refine Finset.sum_congr rfl fun c _ => ?_
  have e1 : accf (k0_pay41 x3) (k0_pay3 x4) (cw i x0 x5) x1 (ix2 l c) = ysum (cw i x0 x5) (HF (k0_pay41 x3) (k0_pay3 x4) x1 (l.val + 1)) (ix2 0 c) := rfl
  have e2 : accb (k0_pay41 x3) (k0_pay3 x4) (cw i x0 x5) x1 (ix2 l c) = ysum (cw i x0 x5) (HB (k0_pay41 x3) (k0_pay3 x4) x1 (1024 - l.val)) (ix2 0 c) := rfl
  rw [e1, e2, ysum_at, ysum_at]
  simp only [HF_at, HB_at, pay41_at, pay3_at, cw_at]

end Cert.ScanIdeal.Hand
end
-- ==== Proof.KerBlk.lean ====
module

public import proofs.«01_k».proof.Proof.Track
public import proofs.«01_k».proof.Proof.KerPure
public import Idealize.ShloMosaic.Lib.Pipeline.ValueKit
public import Idealize.ShloMosaic.Lib.StableHlo.ReadAt

@[expose] public section

set_option maxRecDepth 16384

noncomputable section

namespace Cert.ScanIdeal.Hand

open Cert.ScanIdeal Cert.ScanIdeal.Gen Cert.Num
open Idealize.ShloMosaic Idealize.ShloMosaic.TcCoe
open Idealize.ShloMosaic.Pipeline (Dat Cfg Window)

variable (m : (ℓ : Loc nD τ sig) → Buf (Elt Ideal) ℓ) (c : Dev nD)

/-- The stream a point works on. -/
def sOf (t : Fin cfg0.N) : Fin 2 := ⟨t.val / 8, (by have : t.val < 16 := t.isLt; omega)⟩
/-- The sequence a point works on. -/
def bOf (t : Fin cfg0.N) : Fin 4 := ⟨t.val / 2 % 4, Nat.mod_lt _ (by decide)⟩
/-- The channel behind column `q` of a point's half. -/
def chOf (t : Fin cfg0.N) (q : Fin 512) : Fin 1024 := ⟨512 * (t.val % 2) + q.val, (by omega)⟩

/-- The state behind a row: rows sixteen apart hold the same state of two scans. -/
def md (r : Fin 32) : Fin 16 := ⟨r.val % 16, Nat.mod_lt _ (by decide)⟩

theorem md_lt (r : Fin 32) (h : r.val < 16) : (⟨r.val, h⟩ : Fin 16) = md r := Fin.ext (Nat.mod_eq_of_lt h).symm
theorem md_ge (r : Fin 32) (h : ¬ r.val < 16) (h' : r.val - 16 < 16) : (⟨r.val - 16, h'⟩ : Fin 16) = md r :=
  Fin.ext (by show r.val - 16 = r.val % 16; omega)

theorem V_v16 (s : Fin 2) (r : Fin 32) (i : Fin 1024) :
    (V m c main_v16 : FVec Ideal S2x32x1024 .f32) (ix3 s r i) = if s.val = 0 then m ((c.tc : Thread nD τ).loc main_arg11) (ix2 i (md r)) else m ((c.tc : Thread nD τ).loc main_arg15) (ix2 i (md r)) := by
  unfold V
  after_reads_at
  try after_reads_at
  fin_vals s with hs
  all_goals by_cases hr : r.val < 16
  all_goals simp [hs, hr, md_lt, md_ge]

theorem V_v25 (s : Fin 2) (r : Fin 32) (i : Fin 1024) :
    (V m c main_v25 : FVec Ideal S2x32x1024 .f32) (ix3 s r i) = if (s.val = 0) = (r.val < 16) then m ((c.tc : Thread nD τ).loc main_arg12) (ix2 i (md r)) else m ((c.tc : Thread nD τ).loc main_arg16) (ix2 i (md r)) := by
  unfold V
  after_reads_at
  try after_reads_at
  fin_vals s with hs
  all_goals by_cases hr : r.val < 16
  all_goals simp [hs, hr, md_lt, md_ge]

theorem V_v34 (s : Fin 2) (r : Fin 32) (i : Fin 1024) :
    (V m c main_v34 : FVec Ideal S2x32x1024 .f32) (ix3 s r i) = if s.val = 0 then m ((c.tc : Thread nD τ).loc main_arg13) (ix2 i (md r)) else m ((c.tc : Thread nD τ).loc main_arg17) (ix2 i (md r)) := by
  unfold V
  after_reads_at
  try after_reads_at
  fin_vals s with hs
  all_goals by_cases hr : r.val < 16
  all_goals simp [hs, hr, md_lt, md_ge]

theorem V_v35  :
    (V m c main_v35 : FVec Ideal S1x1 .f32) (ix2 0 0) = m ((c.tc : Thread nD τ).loc main_arg18) ix0 := by
  unfold V
  after_reads_at
  try after_reads_at
  all_goals rfl

theorem V_v7 (s : Fin 2) (d : Fin 512) (i : Fin 1024) :
    (V m c main_v7 : FVec Ideal S2x512x1024 .f32) (ix3 s d i) = if s.val = 0 then m ((c.tc : Thread nD τ).loc main_arg10) (ix2 d i) else m ((c.tc : Thread nD τ).loc main_arg14) (ix2 d i) := by
  unfold V
  after_reads_at
  try after_reads_at
  fin_vals s with hs
  all_goals simp [hs]

theorem V_v36 (o : Fin 256) :
    (V m c main_v36 : FVec Ideal S256x1 .f32) (ix2 o 0) = m ((c.tc : Thread nD τ).loc main_arg6) (ix1 o) := by
  unfold V
  after_reads_at
  try after_reads_at
  all_goals rfl

theorem V_v37 (o : Fin 256) :
    (V m c main_v37 : FVec Ideal S256x1 .f32) (ix2 o 0) = m ((c.tc : Thread nD τ).loc main_arg7) (ix1 o) := by
  unfold V
  after_reads_at
  try after_reads_at
  all_goals rfl

theorem V_v38 (o : Fin 256) :
    (V m c main_v38 : FVec Ideal S256x1 .f32) (ix2 o 0) = m ((c.tc : Thread nD τ).loc main_arg8) (ix1 o) := by
  unfold V
  after_reads_at
  try after_reads_at
  all_goals rfl

theorem V_v39 (o : Fin 256) :
    (V m c main_v39 : FVec Ideal S256x1 .f32) (ix2 o 0) = m ((c.tc : Thread nD τ).loc main_arg9) (ix1 o) := by
  unfold V
  after_reads_at
  try after_reads_at
  all_goals rfl

theorem V_v4 (s : Fin 2) (b : Fin 4) (o : Fin 256) (p q : Fin 32) (h : p.val * 32 + q.val < 1024) :
    (V m c main_v4 : FVec Ideal S2x4x256x1024 .f32) (ix4 s b o ⟨p.val * 32 + q.val, h⟩) = if s.val = 0 then m ((c.tc : Thread nD τ).loc main_arg3) (ix4 b o p q) else m ((c.tc : Thread nD τ).loc main_arg4) (ix4 b o p q) := by
  unfold V
  after_reads_at
  try after_reads_at
  fin_vals s with hs
  all_goals simp only [hs, Nat.lt_one_iff, ↓reduceDIte, ↓reduceIte, one_ne_zero]
  all_goals have e1 : (⟨(p.val * 32 + q.val) / 32, by omega⟩ : Fin 32) = p := Fin.ext (by show (p.val * 32 + q.val) / 32 = p.val; omega)
  all_goals have e2 : (⟨(p.val * 32 + q.val) % 32, by omega⟩ : Fin 32) = q := Fin.ext (by show (p.val * 32 + q.val) % 32 = q.val; omega)
  · exact congrArg₂ (fun a b' => m ((c.tc : Thread nD τ).loc main_arg3) (ix4 b o a b')) e1 e2
  · exact congrArg₂ (fun a b' => m ((c.tc : Thread nD τ).loc main_arg4) (ix4 b o a b')) e1 e2

theorem idx : ∀ t : Fin cfg0.N, (cfg0.win 0).index t = ![0, 0] ∧ (cfg0.win 1).index t = ![t.val / 8, t.val / 2 % 4, 0, t.val % 2]
    ∧ (cfg0.win 2).index t = ![t.val / 8, t.val / 2 % 4, 0, t.val % 2] ∧ (cfg0.win 3).index t = ![t.val / 8, 0, t.val % 2]
    ∧ (cfg0.win 4).index t = ![t.val / 8, 0, t.val % 2] ∧ (cfg0.win 5).index t = ![t.val / 8, 0, t.val % 2]
    ∧ (cfg0.win 6).index t = ![0, 0] ∧ (cfg0.win 7).index t = ![t.val / 8, 0, t.val % 2] ∧ (cfg0.win 8).index t = ![0, 0]
    ∧ (cfg0.win 9).index t = ![0, 0] ∧ (cfg0.win 10).index t = ![0, 0] ∧ (cfg0.win 11).index t = ![0, 0] ∧ (cfg0.win 12).index t = ![0, 0]
    ∧ (cfg0.win 13).index t = ![t.val / 8, t.val / 2 % 4, 0, 0] ∧ (cfg0.win 14).index t = ![t.val / 8, t.val / 2 % 4, 0, 0] := by decide +kernel

theorem blk0 (t : Fin cfg0.N) (r : Fin 4) (k : Fin 2) : iblk m c 0 t (ix2 r k) = V m c main_arg0 (ix2 r k) := by
  blk_ext [iblk, idx t, sOf, bOf, chOf]

theorem blk1 (t : Fin cfg0.N) (l : Fin 1024) (q : Fin 512) : iblk m c 1 t (ix4 0 0 l q) = V m c main_arg1 (ix4 (sOf t) (bOf t) l (chOf t q)) := by
  blk_ext [iblk, idx t, sOf, bOf, chOf]

theorem blk2 (t : Fin cfg0.N) (l : Fin 1024) (q : Fin 512) : iblk m c 2 t (ix4 0 0 l q) = V m c main_arg2 (ix4 (sOf t) (bOf t) l (chOf t q)) := by
  blk_ext [iblk, idx t, sOf, bOf, chOf]

theorem blk3 (t : Fin cfg0.N) (r : Fin 32) (q : Fin 512) : iblk m c 3 t (ix3 0 r q) = V m c main_v16 (ix3 (sOf t) r (chOf t q)) := by
  blk_ext [iblk, idx t, sOf, bOf, chOf]

theorem blk4 (t : Fin cfg0.N) (r : Fin 32) (q : Fin 512) : iblk m c 4 t (ix3 0 r q) = V m c main_v25 (ix3 (sOf t) r (chOf t q)) := by
  blk_ext [iblk, idx t, sOf, bOf, chOf]

theorem blk5 (t : Fin cfg0.N) (r : Fin 32) (q : Fin 512) : iblk m c 5 t (ix3 0 r q) = V m c main_v34 (ix3 (sOf t) r (chOf t q)) := by
  blk_ext [iblk, idx t, sOf, bOf, chOf]

theorem blk6 (t : Fin cfg0.N)  : iblk m c 6 t (ix2 0 0) = V m c main_v35 (ix2 0 0) := by
  blk_ext [iblk, idx t, sOf, bOf, chOf]

theorem blk7 (t : Fin cfg0.N) (d q : Fin 512) : iblk m c 7 t (ix3 0 d q) = V m c main_v7 (ix3 (sOf t) d (chOf t q)) := by
  blk_ext [iblk, idx t, sOf, bOf, chOf]

theorem blk8 (t : Fin cfg0.N) (o : Fin 256) (d : Fin 512) : iblk m c 8 t (ix2 o d) = V m c main_arg5 (ix2 o d) := by
  blk_ext [iblk, idx t, sOf, bOf, chOf]

theorem blk9 (t : Fin cfg0.N) (o : Fin 256) : iblk m c 9 t (ix2 o 0) = V m c main_v36 (ix2 o 0) := by
  blk_ext [iblk, idx t, sOf, bOf, chOf]

theorem blk10 (t : Fin cfg0.N) (o : Fin 256) : iblk m c 10 t (ix2 o 0) = V m c main_v37 (ix2 o 0) := by
  blk_ext [iblk, idx t, sOf, bOf, chOf]

theorem blk11 (t : Fin cfg0.N) (o : Fin 256) : iblk m c 11 t (ix2 o 0) = V m c main_v38 (ix2 o 0) := by
  blk_ext [iblk, idx t, sOf, bOf, chOf]

theorem blk12 (t : Fin cfg0.N) (o : Fin 256) : iblk m c 12 t (ix2 o 0) = V m c main_v39 (ix2 o 0) := by
  blk_ext [iblk, idx t, sOf, bOf, chOf]

theorem blk13 (t : Fin cfg0.N) (o : Fin 256) (l : Fin 1024) : iblk m c 13 t (ix4 0 0 o l) = V m c main_v4 (ix4 (sOf t) (bOf t) o l) := by
  blk_ext [iblk, idx t, sOf, bOf, chOf]

end Cert.ScanIdeal.Hand
end
-- ==== Proof.KerVal.lean ====
module

public import proofs.«01_k».proof.Proof.KerBlk
public import proofs.«01_k».proof.Proof.Alg

@[expose] public section

set_option maxRecDepth 16384

noncomputable section

namespace Cert.ScanIdeal.Hand

open Cert.ScanIdeal Cert.ScanIdeal.Gen Cert.Num
open Idealize.ShloMosaic Idealize.ShloMosaic.TcCoe
open Idealize.ShloMosaic.Pipeline (Dat Cfg Window)

variable (m : (ℓ : Loc nD τ sig) → Buf (Elt Ideal) ℓ) (c : Dev nD)

/-- The decay of row `r` of stream `s` at channel `i`. -/
def rowA (s : Fin 2) (r : Fin 32) (i : Fin 1024) : EReal :=
  dec (if s.val = 0 then m ((c.tc : Thread nD τ).loc main_arg11) (ix2 i (md r)) else m ((c.tc : Thread nD τ).loc main_arg15) (ix2 i (md r)))
/-- The input weight of row `r` of stream `s` at channel `i`. -/
def rowB (s : Fin 2) (r : Fin 32) (i : Fin 1024) : EReal :=
  if (s.val = 0) = (r.val < 16) then m ((c.tc : Thread nD τ).loc main_arg12) (ix2 i (md r)) else m ((c.tc : Thread nD τ).loc main_arg16) (ix2 i (md r))
/-- The read-out weight of row `r` of stream `s` at channel `i`. -/
def rowC (s : Fin 2) (r : Fin 32) (i : Fin 1024) : EReal :=
  if s.val = 0 then m ((c.tc : Thread nD τ).loc main_arg13) (ix2 i (md r)) else m ((c.tc : Thread nD τ).loc main_arg17) (ix2 i (md r))
/-- The projection's weights of stream `s` at feature `d`. -/
def rowW (s : Fin 2) (d : Fin 512) (i : Fin 1024) : EReal :=
  if s.val = 0 then m ((c.tc : Thread nD τ).loc main_arg10) (ix2 d i) else m ((c.tc : Thread nD τ).loc main_arg14) (ix2 d i)
/-- The forward state at place `l`. -/
def fwd (s : Fin 2) (b : Fin 4) (l : Fin 1024) (r : Fin 32) (i : Fin 1024) : EReal :=
  hs (rowA m c s r i) (rowB m c s r i) (fun k => m ((c.tc : Thread nD τ).loc main_arg1) (ix4 s b ⟨k % 1024, Nat.mod_lt _ (by decide)⟩ i)) (l.val + 1)
/-- The backward state at place `l`. -/
def bwd (s : Fin 2) (b : Fin 4) (l : Fin 1024) (r : Fin 32) (i : Fin 1024) : EReal :=
  hs (rowA m c s r i) (rowB m c s r i) (fun k => m ((c.tc : Thread nD τ).loc main_arg1) (ix4 s b ⟨(1023 - k) % 1024, Nat.mod_lt _ (by decide)⟩ i)) (1024 - l.val)

/-- One half of the channels' share of feature `d` at place `l`. -/
def kfeat (s : Fin 2) (b : Fin 4) (l : Fin 1024) (d : Fin 512) (lo : Fin 512 → Fin 1024) : EReal :=
  kpart (m ((c.tc : Thread nD τ).loc main_arg0) (ix2 b 0)) (m ((c.tc : Thread nD τ).loc main_arg0) (ix2 b 1)) (rowW m c s d)
    (fun i => m ((c.tc : Thread nD τ).loc main_arg2) (ix4 s b l i)) (rowC m c s) (fwd m c s b l) (bwd m c s b l) lo

/-- The input the residual is added to. -/
def orig (s : Fin 2) (b : Fin 4) (o : Fin 256) (l : Fin 1024) : EReal := (V m c main_v4 : FVec Ideal S2x4x256x1024 .f32) (ix4 s b o l)

/-- What the launch leaves at stream `s`, sequence `b`, output channel `o`, place `l`. -/
def kout (s : Fin 2) (b : Fin 4) (o : Fin 256) (l : Fin 1024) : EReal :=
  kform (orig m c s b o l) (m ((c.tc : Thread nD τ).loc main_arg18) ix0)
    (m ((c.tc : Thread nD τ).loc main_arg6) (ix1 o)) (m ((c.tc : Thread nD τ).loc main_arg7) (ix1 o))
    (m ((c.tc : Thread nD τ).loc main_arg8) (ix1 o)) (m ((c.tc : Thread nD τ).loc main_arg9) (ix1 o))
    (fun d => m ((c.tc : Thread nD τ).loc main_arg5) (ix2 o d))
    (fun d => kfeat m c s b l d (half2 0 (by decide)) + kfeat m c s b l d (half2 1 (by decide)))

theorem coords_val : ∀ t : Fin cfg0.N, (grid0.coords t 0).val = t.val := by decide +kernel

/-! The blocks at their coordinates, over the arguments. -/

theorem in0 (t : Fin cfg0.N) (r : Fin 4) (k : Fin 2) : iblk m c 0 t (ix2 r k) = m ((c.tc : Thread nD τ).loc main_arg0) (ix2 r k) :=
  (blk0 m c t r k).trans (congrFun (V_main_arg0 m c) _)
theorem in1 (t : Fin cfg0.N) (l : Fin 1024) (q : Fin 512) : iblk m c 1 t (ix4 0 0 l q) = m ((c.tc : Thread nD τ).loc main_arg1) (ix4 (sOf t) (bOf t) l (chOf t q)) :=
  (blk1 m c t l q).trans (congrFun (V_main_arg1 m c) _)
theorem in2 (t : Fin cfg0.N) (l : Fin 1024) (q : Fin 512) : iblk m c 2 t (ix4 0 0 l q) = m ((c.tc : Thread nD τ).loc main_arg2) (ix4 (sOf t) (bOf t) l (chOf t q)) :=
  (blk2 m c t l q).trans (congrFun (V_main_arg2 m c) _)
theorem in3 (t : Fin cfg0.N) (r : Fin 32) (q : Fin 512) : dec (iblk m c 3 t (ix3 0 r q)) = rowA m c (sOf t) r (chOf t q) :=
  congrArg dec ((blk3 m c t r q).trans (V_v16 m c _ _ _))
theorem in4 (t : Fin cfg0.N) (r : Fin 32) (q : Fin 512) : iblk m c 4 t (ix3 0 r q) = rowB m c (sOf t) r (chOf t q) :=
  (blk4 m c t r q).trans (V_v25 m c _ _ _)
theorem in5 (t : Fin cfg0.N) (r : Fin 32) (q : Fin 512) : iblk m c 5 t (ix3 0 r q) = rowC m c (sOf t) r (chOf t q) :=
  (blk5 m c t r q).trans (V_v34 m c _ _ _)
theorem in6 (t : Fin cfg0.N) : iblk m c 6 t (ix2 0 0) = m ((c.tc : Thread nD τ).loc main_arg18) ix0 :=
  (blk6 m c t).trans (V_v35 m c)
theorem in7 (t : Fin cfg0.N) (d q : Fin 512) : iblk m c 7 t (ix3 0 d q) = rowW m c (sOf t) d (chOf t q) :=
  (blk7 m c t d q).trans (V_v7 m c _ _ _)
theorem in8 (t : Fin cfg0.N) (o : Fin 256) (d : Fin 512) : iblk m c 8 t (ix2 o d) = m ((c.tc : Thread nD τ).loc main_arg5) (ix2 o d) :=
  (blk8 m c t o d).trans (congrFun (V_main_arg5 m c) _)
theorem in9 (t : Fin cfg0.N) (o : Fin 256) : iblk m c 9 t (ix2 o 0) = m ((c.tc : Thread nD τ).loc main_arg6) (ix1 o) :=
  (blk9 m c t o).trans (V_v36 m c o)
theorem in10 (t : Fin cfg0.N) (o : Fin 256) : iblk m c 10 t (ix2 o 0) = m ((c.tc : Thread nD τ).loc main_arg7) (ix1 o) :=
  (blk10 m c t o).trans (V_v37 m c o)
theorem in11 (t : Fin cfg0.N) (o : Fin 256) : iblk m c 11 t (ix2 o 0) = m ((c.tc : Thread nD τ).loc main_arg8) (ix1 o) :=
  (blk11 m c t o).trans (V_v38 m c o)
theorem in12 (t : Fin cfg0.N) (o : Fin 256) : iblk m c 12 t (ix2 o 0) = m ((c.tc : Thread nD τ).loc main_arg9) (ix1 o) :=
  (blk12 m c t o).trans (V_v39 m c o)
theorem in13 (t : Fin cfg0.N) (o : Fin 256) (l : Fin 1024) : iblk m c 13 t (ix4 0 0 o l) = orig m c (sOf t) (bOf t) o l :=
  blk13 m c t o l

/-- What a point projects, over any contents that are known at an index. -/
theorem part_feat (i : grid0.Coords) (x0 : FVec Ideal S4x2 .f32) (x1 x2 : FVec Ideal S1x1x1024x512 .f32) (x3 x4 x5 : FVec Ideal S1x32x512 .f32)
    (x7 : FVec Ideal S1x512x512 .f32) (s : Fin 2) (b : Fin 4) (ch : Fin 512 → Fin 1024) (hb : (i 0).val / 2 % 4 = b.val)
    (h0 : ∀ r k, x0 (ix2 r k) = m ((c.tc : Thread nD τ).loc main_arg0) (ix2 r k))
    (h1 : ∀ l q, x1 (ix4 0 0 l q) = m ((c.tc : Thread nD τ).loc main_arg1) (ix4 s b l (ch q)))
    (h2 : ∀ l q, x2 (ix4 0 0 l q) = m ((c.tc : Thread nD τ).loc main_arg2) (ix4 s b l (ch q)))
    (h3 : ∀ r q, dec (x3 (ix3 0 r q)) = rowA m c s r (ch q)) (h4 : ∀ r q, x4 (ix3 0 r q) = rowB m c s r (ch q))
    (h5 : ∀ r q, x5 (ix3 0 r q) = rowC m c s r (ch q)) (h7 : ∀ d q, x7 (ix3 0 d q) = rowW m c s d (ch q))
    (d : Fin 512) (l : Fin 1024) : part (F := Ideal) i x0 x1 x2 x3 x4 x5 x7 (ix2 d l) = kfeat m c s b l d ch := by
  have e : (⟨(i 0).val / 2 % 4, Nat.mod_lt _ (by decide)⟩ : Fin 4) = b := Fin.ext hb
  have hS : lamS (F := Ideal) i x0 = m ((c.tc : Thread nD τ).loc main_arg0) (ix2 b 0) := by
    unfold lamS; rw [h0, e]
  have hC : lamC (F := Ideal) i x0 = m ((c.tc : Thread nD τ).loc main_arg0) (ix2 b 1) := by
    unfold lamC; rw [h0, e]
  rw [part_at, hS, hC]
  unfold kfeat kpart fwd bwd
  refine Finset.sum_congr rfl fun q _ => ?_
  simp only [h1, h2, h3, h4, h5, h7]

theorem part_t (t : Fin cfg0.N) (d : Fin 512) (l : Fin 1024) :
    part (F := Ideal) (grid0.coords t) (iblk m c 0 t) (iblk m c 1 t) (iblk m c 2 t) (iblk m c 3 t) (iblk m c 4 t) (iblk m c 5 t) (iblk m c 7 t) (ix2 d l)
      = kfeat m c (sOf t) (bOf t) l d (chOf t) :=
  part_feat m c _ _ _ _ _ _ _ _ (sOf t) (bOf t) (chOf t) (by rw [coords_val]; rfl) (in0 m c t) (in1 m c t) (in2 m c t) (in3 m c t) (in4 m c t) (in5 m c t) (in7 m c t) d l

theorem pay1_at (x : FVec Ideal S512x1024 .f32) (d : Fin 512) (l : Fin 1024) : k0_pay1 (F := Ideal) x (ix2 d l) = x (ix2 d l) := by
  pointwise [k0_pay1]

theorem keepAt_at (t : Fin cfg0.N) (d : Fin 512) (l : Fin 1024) : keepAt (F := Ideal) m c t (ix2 d l) = kfeat m c (sOf t) (bOf t) l d (chOf t) :=
  (pay1_at _ d l).trans (part_t m c t d l)

theorem outAt_at (t t' : Fin cfg0.N) (ht : t.val % 2 = 1) (ht' : t'.val + 1 = t.val) (o : Fin 256) (l : Fin 1024) :
    outAt (F := Ideal) m c t (keepAt m c t') (ix4 0 0 o l) = kout m c (sOf t) (bOf t) o l := by
  have es : sOf t' = sOf t := Fin.ext (by show t'.val / 8 = t.val / 8; omega)
  have eb : bOf t' = bOf t := Fin.ext (by show t'.val / 2 % 4 = t.val / 2 % 4; omega)
  have e0 : chOf t' = half2 0 (by decide) := funext fun q => Fin.ext (by show 512 * (t'.val % 2) + q.val = 512 * 0 + q.val; omega)
  have e1 : chOf t = half2 1 (by decide) := funext fun q => Fin.ext (by show 512 * (t.val % 2) + q.val = 512 * 1 + q.val; omega)
  refine (pay2_at _ _ _ _ _ _ _ _ _ o l).trans ?_
  unfold kout
  rw [in13, in6, in9, in10, in11, in12]
  congr 1
  · exact funext fun d => in8 m c t o d
  · funext d
    exact congrArg₂ (· + ·) ((keepAt_at m c t' d l).trans (by rw [es, eb, e0])) ((part_t m c t d l).trans (by rw [e1]))

theorem flush_odd : ∀ t : Fin cfg0.N, (cfg0.win 14).flush t = true → t.val % 2 = 1 := by decide +kernel

theorem covers14 : (cfg0.win 14).Covers := by decide +kernel

/-- What the launch leaves, as one array. -/
def arrOut : FVec Ideal S2x4x256x1024 .f32 := fun j => kout m c (j 0) (j 1) (j 2) (j 3)

/-- What an odd point leaves in the output window. -/
theorem after_odd (t : Fin cfg0.N) (ht : t.val % 2 = 1) (o : Fin 256) (l : Fin 1024) :
    (outsAt0 (F := Ideal) m c t.val t.isLt).1 (ix4 0 0 o l) = kout m c (sOf t) (bOf t) o l := by
  rw [outsAt0_B m c t.val t.isLt (by omega)]
  exact outAt_at m c t ⟨t.val - 1, _⟩ ht (by show t.val - 1 + 1 = t.val; omega) o l

end Cert.ScanIdeal.Hand
end
-- ==== Proof.KerArr.lean ====
module

public import proofs.«01_k».proof.Proof.KerVal

@[expose] public section

set_option maxRecDepth 16384

noncomputable section

namespace Cert.ScanIdeal.Hand

open Cert.ScanIdeal Cert.ScanIdeal.Gen Cert.Num
open Idealize.ShloMosaic Idealize.ShloMosaic.TcCoe
open Idealize.ShloMosaic.Pipeline (Dat Cfg Window)

variable (m : (ℓ : Loc nD τ sig) → Buf (Elt Ideal) ℓ) (c : Dev nD)

theorem idx_eta (y : S1x1x256x1024.Idx) : ∃ (o : Fin 256) (l : Fin 1024), y = ix4 0 0 o l :=
  ⟨y 2, y 3, funext fun a => by
    fin_cases a
    · exact Subsingleton.elim (α := Fin 1) _ _
    · exact Subsingleton.elim (α := Fin 1) _ _
    · rfl
    · rfl⟩

theorem emb14 (t : Fin cfg0.N) (o : Fin 256) (l : Fin 1024) : (win0_14.blk t).view.emb (ix4 0 0 o l) = ix4 (sOf t) (bOf t) o l := by
  have e : win0_14.index t = ![t.val / 8, t.val / 2 % 4, 0, 0] := (idx t).2.2.2.2.2.2.2.2.2.2.2.2.2.2
  blk_ext [e, sOf, bOf]

/-- The output array after the run. -/
theorem arr14 : (dats (F := Ideal) m 0 c).arrAt 14 cfg0.N = arrOut m c := by
  refine (dats m 0 c).arrAt_eq_of_covers 14 _ covers14 fun t hf y => ?_
  have hodd := flush_odd t hf
  blk_simp
  rw [after0_14]
  obtain ⟨o, l, hy⟩ := idx_eta y
  refine (congrArg (outsAt0 (F := Ideal) m c t.val t.isLt).1 hy).trans ((after_odd m c t hodd o l).trans ?_)
  exact (congrArg (arrOut m c) ((congrArg (win0_14.blk t).view.emb hy).trans (emb14 t o l))).symm

/-- The output array as the lines after the launch find it. -/
theorem found14 (j : S2x4x256x1024.Idx) :
    (Pipeline.withArrays (cfgs 0).spec c (V0 m c) (fun w => (dats (F := Ideal) m 0 c).arrAt w (cfgs 0).N) (Proc.tc.devRef main_v40) : FVec Ideal S2x4x256x1024 .f32) j
      = arrOut m c j :=
  congrFun ((Pipeline.withArrays_arr (cfgs 0).spec (by decide) c (V0 m c) (fun w => (dats (F := Ideal) m 0 c).arrAt w (cfgs 0).N) 14).trans (arr14 m c)) j

/-- The first result at an index: stream 0 of the output array. -/
theorem res43 (b : Fin 4) (o : Fin 256) (p q : Fin 32) (h : p.val * 32 + q.val < 1024) :
    (Pipeline.afterTail₀ cfgs (dats (F := Ideal) m) 0 (V0 m) [hostOps1] c main_v43 : FVec Ideal S4x256x32x32 .f32) (ix4 b o p q)
      = kout m c 0 b o ⟨p.val * 32 + q.val, h⟩ := by
  unfold Pipeline.afterTail₀
  after_reads_at
  try after_reads_at
  exact found14 m c _

/-- The second result at an index: stream 1 of the output array. -/
theorem res46 (b : Fin 4) (o : Fin 256) (p q : Fin 32) (h : p.val * 32 + q.val < 1024) :
    (Pipeline.afterTail₀ cfgs (dats (F := Ideal) m) 0 (V0 m) [hostOps1] c main_v46 : FVec Ideal S4x256x32x32 .f32) (ix4 b o p q)
      = kout m c 1 b o ⟨p.val * 32 + q.val, h⟩ := by
  unfold Pipeline.afterTail₀
  after_reads_at
  try after_reads_at
  exact found14 m c _

end Cert.ScanIdeal.Hand
end
-- ==== Proof.RefVal.lean ====
module

public import proofs.«01_k».proof.Proof.Gen.ScanReferenceIdeal.Step
public import proofs.«01_k».proof.Proof.Num
public import Idealize.ShloMosaic.Lib.DynamicIndex
public import Idealize.ShloMosaic.Lib.Tactic.CleanTypes

@[expose] public section

set_option maxRecDepth 16384

noncomputable section

namespace Cert.ScanReferenceIdeal.Hand

open Cert.ScanReferenceIdeal Cert.ScanReferenceIdeal.Gen Cert.ScanReferenceIdeal.Step Cert.Num
open Idealize.ShloMosaic Idealize.ShloMosaic.TcCoe

theorem starts (n : ℕ) (hn : n < 1024) (z0 z1 z2 z3 : IVec S_ 32) (h0 : z0 = constantI S_ 32 0#32) (h1 : z1 = constantI S_ 32 0#32)
    (h2 : z2 = constantI S_ 32 0#32) (h3 : z3 = constantI S_ 32 0#32) (k : Fin 5) :
    ((![(constantI S_ 32 (BitVec.ofNat 32 n) : IVec S_ 32), z0, z1, z2, z3] : Fin 5 → IVec S_ 32) k (Shape.Idx.first h_S_)).toInt = (((![n, 0, 0, 0, 0] : Fin 5 → ℕ) k : ℕ) : ℤ) := by
  subst h0 h1 h2 h3
  match k with
  | ⟨0, _⟩ => exact toInt_ofNat_of_lt (by omega)
  | ⟨1, _⟩ => rfl
  | ⟨2, _⟩ => rfl
  | ⟨3, _⟩ => rfl
  | ⟨4, _⟩ => rfl

theorem slices_at (n : ℕ) (hn : n < 1024) : S1024x2x4x4x1024.Slices ![n, 0, 0, 0, 0] S1x2x4x4x1024 :=
  ⟨rfl, fun a => by
    match a with
    | ⟨0, _⟩ => exact (show n + 1 ≤ 1024 by omega)
    | ⟨1, _⟩ => exact le_rfl
    | ⟨2, _⟩ => exact le_rfl
    | ⟨3, _⟩ => exact le_rfl
    | ⟨4, _⟩ => exact le_rfl⟩

/-- An update whose start needs no clamping is the update at that start. -/
theorem update_eq {s : Shape} {α : Type} {u : Shape} (x : s.Idx → α) (upd : u.Idx → α) (start : Fin s.rank → ℤ) (off : Fin s.rank → ℕ)
    (h : s.Slices (fun _ => 0) u) (hoff : s.Slices off u) (hs : ∀ a, start a = (off a : ℤ)) :
    Host.dynamicUpdateSlice x upd start h = updateSlice x upd off hoff := by
  obtain rfl : (fun a => (min (max (start a) 0) ((s.size a - u.size (a.cast h.1.symm) : Nat) : Int)).toNat) = off :=
    funext fun a => by have := hoff.2 a; rw [hs a]; omega
  rfl

theorem b4_eq (n : ℕ) (hn : n < 1024) (s : State Ideal) : b4 n s = extractStridedSlice S1x2x4x4x1024 ![n, 0, 0, 0, 0] s.main_v26_0 (slices_at n hn) := by
  unfold b4
  exact Host.dynamicSlice_eq_extractStridedSlice _ _ _ _ _ (slices_at n hn) (starts n hn _ _ _ _ rfl rfl rfl rfl)

theorem b36_eq (n : ℕ) (hn : n < 1024) (s : State Ideal) : b36 n s = updateSlice s.main_v26_6 (b31 n s) ![n, 0, 0, 0, 0] (slices_at n hn) := by
  unfold b36
  exact update_eq _ _ _ _ _ (slices_at n hn) (starts n hn _ _ _ _ rfl rfl rfl rfl)

theorem step_h (n : ℕ) (hn : n < 1024) (s : State Ideal) (y : Fin 2) (r : Fin 4) (b : Fin 4) (i : Fin 1024) (k : Fin 16) :
    (step n s).main_v26_5 (ix5 y r b i k) = min (Ideal.ofBits .f32 0x41200000#32) (max (Ideal.ofBits .f32 0xC1200000#32)
      (s.main_v26_5 (ix5 y r b i k) * s.main_v26_1 (ix3 r i k) + s.main_v26_0 (ix5 ⟨n, hn⟩ y r b i) * s.main_v26_2 (ix3 r i k))) := by
  unfold step
  clean_types
  pointwise [b24, b23, b22, b18, b21, b20, b19, b17, b16, b15, b14, b13, b12, b11, b10, b9, b8, b7, b6, b5, b4_eq n hn]

theorem step_y (n : ℕ) (hn : n < 1024) (s : State Ideal) (l : Fin 1024) (y : Fin 2) (r : Fin 4) (b : Fin 4) (i : Fin 1024) :
    (step n s).main_v26_6 (ix5 l y r b i) = if l.val = n then ∑ k : Fin 16, (step n s).main_v26_5 (ix5 y r b i k) * s.main_v26_3 (ix3 r i k)
      else s.main_v26_6 (ix5 l y r b i) := by
  unfold step
  clean_types
  pointwise [b36_eq n hn, b31, b30, b29, b28, b27, b26, b25]
  by_cases h : l.val = n
  · rw [dif_pos (by omega), if_pos h]
  · rw [dif_neg (by omega), if_neg h]

theorem init_h (a1 : FVec Ideal S2x4x1024x1024 .f32) (a11 a12 a13 a15 a16 a17 : FVec Ideal S1024x16 .f32) (y : Fin 2) (r : Fin 4) (b : Fin 4) (i : Fin 1024) (k : Fin 16) :
    (Step.init (F := Ideal) a1 a11 a12 a13 a15 a16 a17).main_v26_5 (ix5 y r b i k) = 0 := by
  unfold Step.init
  clean_types
  pointwise [K_main_v20, K_main_cst_1]

theorem init_A (a1 : FVec Ideal S2x4x1024x1024 .f32) (a11 a12 a13 a15 a16 a17 : FVec Ideal S1024x16 .f32) (r : Fin 4) (i : Fin 1024) (k : Fin 16) :
    (Step.init (F := Ideal) a1 a11 a12 a13 a15 a16 a17).main_v26_1 (ix3 r i k) = dec (if r.val % 2 = 0 then a11 (ix2 i k) else a15 (ix2 i k)) := by
  unfold Step.init
  clean_types
  pointwise [A_main_v7, A_main_call0_v2, K_main_call0_v4, K_main_call0_v3, K_main_cst_0, K_main_call0_v1, K_main_call0_v0, K_main_cst, A_main_v6, A_main_v5, A_main_v4, A_main_v3, A_main_v2, A_main_v1, A_main_v0, dec]
  fin_vals r with hk
  all_goals (simp [hk]; rfl)

theorem init_B (a1 : FVec Ideal S2x4x1024x1024 .f32) (a11 a12 a13 a15 a16 a17 : FVec Ideal S1024x16 .f32) (r : Fin 4) (i : Fin 1024) (k : Fin 16) :
    (Step.init (F := Ideal) a1 a11 a12 a13 a15 a16 a17).main_v26_2 (ix3 r i k) = if r.val = 0 ∨ r.val = 3 then a12 (ix2 i k) else a16 (ix2 i k) := by
  unfold Step.init
  clean_types
  pointwise [A_main_v12, A_main_v11, A_main_v10, A_main_v9, A_main_v8]
  fin_vals r with hk
  all_goals simp [hk]

theorem init_C (a1 : FVec Ideal S2x4x1024x1024 .f32) (a11 a12 a13 a15 a16 a17 : FVec Ideal S1024x16 .f32) (r : Fin 4) (i : Fin 1024) (k : Fin 16) :
    (Step.init (F := Ideal) a1 a11 a12 a13 a15 a16 a17).main_v26_3 (ix3 r i k) = if r.val % 2 = 0 then a13 (ix2 i k) else a17 (ix2 i k) := by
  unfold Step.init
  clean_types
  pointwise [A_main_v17, A_main_v16, A_main_v15, A_main_v14, A_main_v13]
  fin_vals r with hk
  all_goals simp [hk]

theorem init_x (a1 : FVec Ideal S2x4x1024x1024 .f32) (a11 a12 a13 a15 a16 a17 : FVec Ideal S1024x16 .f32) (n : Fin 1024) (y : Fin 2) (r : Fin 4) (b : Fin 4) (i : Fin 1024) :
    (Step.init (F := Ideal) a1 a11 a12 a13 a15 a16 a17).main_v26_0 (ix5 n y r b i) =
      a1 (ix4 ⟨r.val % 2, Nat.mod_lt _ (by decide)⟩ b ⟨if y.val = 0 then n.val else 1023 - n.val, by split <;> omega⟩ i) := by
  unfold Step.init
  clean_types
  pointwise [A_main_v24, A_main_v23, A_main_v22, A_main_v21, A_main_v19, A_main_v18]
  have hrev : n.rev = ⟨1023 - n.val, by omega⟩ := Fin.ext (by rw [Fin.val_rev]; show 1024 - (n.val + 1) = 1023 - n.val; omega)
  fin_vals r with hk
  all_goals fin_vals y with hy
  all_goals simp [hk, hy, hrev]

/-- The loop's states, from a given one. -/
def iter (s0 : State Ideal) : ℕ → State Ideal
  | 0 => s0
  | n + 1 => step n (iter s0 n)

theorem iter_const (s0 : State Ideal) (n : ℕ) : (iter s0 n).main_v26_0 = s0.main_v26_0 ∧ (iter s0 n).main_v26_1 = s0.main_v26_1
    ∧ (iter s0 n).main_v26_2 = s0.main_v26_2 ∧ (iter s0 n).main_v26_3 = s0.main_v26_3 := by
  induction n with
  | zero => exact ⟨rfl, rfl, rfl, rfl⟩
  | succ n ih => exact ih

/-- The carried states: the scalar recurrence, state by state. -/
theorem iter_h (s0 : State Ideal) (h0 : ∀ y r b i k, s0.main_v26_5 (ix5 y r b i k) = (0 : EReal)) (n : ℕ) (hn : n ≤ 1024)
    (y : Fin 2) (r : Fin 4) (b : Fin 4) (i : Fin 1024) (k : Fin 16) :
    (iter s0 n).main_v26_5 (ix5 y r b i k) = hs (s0.main_v26_1 (ix3 r i k)) (s0.main_v26_2 (ix3 r i k))
      (fun q => s0.main_v26_0 (ix5 ⟨q % 1024, Nat.mod_lt _ (by decide)⟩ y r b i)) n := by
  induction n with
  | zero => exact h0 y r b i k
  | succ n ih =>
    have hn' : n < 1024 := hn
    have e : (⟨n % 1024, Nat.mod_lt _ (by decide)⟩ : Fin 1024) = ⟨n, hn'⟩ := Fin.ext (Nat.mod_eq_of_lt hn')
    show (step n (iter s0 n)).main_v26_5 (ix5 y r b i k) = _
    rw [step_h n hn', (iter_const s0 n).1, (iter_const s0 n).2.1, (iter_const s0 n).2.2.1, ih (by omega)]
    rw [hs_succ, e]

/-- The recorded rows: every state of the row, read out. -/
theorem iter_y (s0 : State Ideal) (h0 : ∀ y r b i k, s0.main_v26_5 (ix5 y r b i k) = (0 : EReal)) (n : ℕ) (hn : n ≤ 1024)
    (l : Fin 1024) (hl : l.val < n) (y : Fin 2) (r : Fin 4) (b : Fin 4) (i : Fin 1024) :
    (iter s0 n).main_v26_6 (ix5 l y r b i) = ∑ k : Fin 16, hs (s0.main_v26_1 (ix3 r i k)) (s0.main_v26_2 (ix3 r i k))
      (fun q => s0.main_v26_0 (ix5 ⟨q % 1024, Nat.mod_lt _ (by decide)⟩ y r b i)) (l.val + 1) * s0.main_v26_3 (ix3 r i k) := by
  induction n with
  | zero => omega
  | succ n ih =>
    show (step n (iter s0 n)).main_v26_6 (ix5 l y r b i) = _
    rw [step_y n hn]
    by_cases h : l.val = n
    · rw [if_pos h]
      have e := iter_h s0 h0 (n + 1) hn y r b i
      refine Finset.sum_congr rfl fun k _ => ?_
      rw [h, ← e k, (iter_const s0 n).2.2.2]
      rfl
    · rw [if_neg h]
      exact ih (by omega) (by omega)

theorem R87_at (s : State Ideal) (a0 : FVec Ideal S4x2 .f32) (a2 : FVec Ideal S2x4x1024x1024 .f32) (a3 : FVec Ideal S4x256x32x32 .f32) (a5 : FVec Ideal S256x512 .f32)
    (a6 a7 a8 a9 : FVec Ideal S256 .f32) (a10 a14 : FVec Ideal S512x1024 .f32) (a18 : FVec Ideal S_ .f32) (b : Fin 4) (o : Fin 256) (p q : Fin 32) (hl : p.val * 32 + q.val < 1024) (l : Fin 1024) (hl' : l = ⟨p.val * 32 + q.val, hl⟩) :
    R_main_v87 (F := Ideal) s a0 a2 a3 a5 a6 a7 a8 a9 a10 a14 a18 (ix4 b o p q) = rform (a3 (ix4 b o p q)) (a18 ix0) (a6 (ix1 o)) (a7 (ix1 o)) (a8 (ix1 o)) (a9 (ix1 o))
      (fun d => a5 (ix2 o d)) (fun d => fref (a0 (ix2 b 0)) (a0 (ix2 b 1)) (fun i => a2 (ix4 0 b l i)) (fun i => a10 (ix2 d i))
        (fun i => s.main_v26_6 (ix5 l 0 0 b i) + s.main_v26_6 (ix5 l.rev 1 0 b i)) (fun i => s.main_v26_6 (ix5 l 0 2 b i) + s.main_v26_6 (ix5 l.rev 1 2 b i))) := by
  subst hl'
  unfold R_main_v87
  clean_types
  pointwise [rform, fref]
  rfl

theorem R125_at (s : State Ideal) (a0 : FVec Ideal S4x2 .f32) (a2 : FVec Ideal S2x4x1024x1024 .f32) (a3 : FVec Ideal S4x256x32x32 .f32) (a5 : FVec Ideal S256x512 .f32)
    (a6 a7 a8 a9 : FVec Ideal S256 .f32) (a10 a14 : FVec Ideal S512x1024 .f32) (a18 : FVec Ideal S_ .f32) (b : Fin 4) (o : Fin 256) (p q : Fin 32) (hl : p.val * 32 + q.val < 1024) (l : Fin 1024) (hl' : l = ⟨p.val * 32 + q.val, hl⟩) :
    R_main_v125 (F := Ideal) s a0 a2 a3 a5 a6 a7 a8 a9 a10 a14 a18 (ix4 b o p q) = rform (a3 (ix4 b o p q)) (a18 ix0) (a6 (ix1 o)) (a7 (ix1 o)) (a8 (ix1 o)) (a9 (ix1 o))
      (fun d => a5 (ix2 o d)) (fun d => fref (a0 (ix2 b 0)) (a0 (ix2 b 1)) (fun i => a2 (ix4 1 b l i)) (fun i => a14 (ix2 d i))
        (fun i => s.main_v26_6 (ix5 l 0 1 b i) + s.main_v26_6 (ix5 l.rev 1 1 b i)) (fun i => s.main_v26_6 (ix5 l 0 3 b i) + s.main_v26_6 (ix5 l.rev 1 3 b i))) := by
  subst hl'
  unfold R_main_v125
  clean_types
  pointwise [rform, fref]
  rfl

end Cert.ScanReferenceIdeal.Hand
end
-- ==== Proof.Join.lean ====
module

public import proofs.«01_k».proof.Proof.KerArr
public import proofs.«01_k».proof.Proof.RefVal

@[expose] public section

set_option maxRecDepth 16384

noncomputable section

namespace Cert.Join

open Cert.Num Cert.ScanIdeal.Hand
open Idealize.ShloMosaic Idealize.ShloMosaic.TcCoe
open Cert.ScanReferenceIdeal (Step.init Step.R_main_v87 Step.R_main_v125)

section
open Cert.ScanReferenceIdeal Cert.ScanReferenceIdeal.Hand

/-- A recorded row of the reference's scan, over the arguments. -/
theorem y_at (a1 : FVec Ideal S2x4x1024x1024 .f32) (a11 a12 a13 a15 a16 a17 : FVec Ideal S1024x16 .f32) (l : Fin 1024) (y : Fin 2) (r : Fin 4) (b : Fin 4) (i : Fin 1024) :
    (iter (Step.init (F := Ideal) a1 a11 a12 a13 a15 a16 a17) 1024).main_v26_6 (ix5 l y r b i)
      = ∑ k : Fin 16, hs (dec (if r.val % 2 = 0 then a11 (ix2 i k) else a15 (ix2 i k))) (if r.val = 0 ∨ r.val = 3 then a12 (ix2 i k) else a16 (ix2 i k))
          (fun q => a1 (ix4 ⟨r.val % 2, Nat.mod_lt _ (by decide)⟩ b ⟨if y.val = 0 then q % 1024 else 1023 - q % 1024, by split <;> omega⟩ i)) (l.val + 1)
          * (if r.val % 2 = 0 then a13 (ix2 i k) else a17 (ix2 i k)) := by
  rw [iter_y _ (init_h a1 a11 a12 a13 a15 a16 a17) 1024 le_rfl l l.isLt]
  refine Finset.sum_congr rfl fun k _ => ?_
  rw [init_A, init_B, init_C]
  simp only [init_x]

end

open Cert.ScanIdeal

variable (m : (ℓ : Loc nD τ sig) → Buf (Elt Ideal) ℓ) (c : Dev nD)

/-- The reference's last state of the loop, from the launch's arguments. -/
def last : Cert.ScanReferenceIdeal.Step.State Ideal :=
  Cert.ScanReferenceIdeal.Hand.iter (Step.init (F := Ideal) (m ((c.tc : Thread nD τ).loc main_arg1)) (m ((c.tc : Thread nD τ).loc main_arg11))
    (m ((c.tc : Thread nD τ).loc main_arg12)) (m ((c.tc : Thread nD τ).loc main_arg13)) (m ((c.tc : Thread nD τ).loc main_arg15))
    (m ((c.tc : Thread nD τ).loc main_arg16)) (m ((c.tc : Thread nD τ).loc main_arg17))) 1024

/-- The data of row `ρ k` is that of state `k` of the reference's scan `r`. -/
theorem row_eq (s : Fin 2) (r : Fin 4) (k : Fin 16) (ρ : Fin 32) (hs' : r.val % 2 = s.val) (hmd : md ρ = k) (hlt : ρ.val < 16 ↔ r.val < 2) (i : Fin 1024) :
    rowA m c s ρ i = dec (if r.val % 2 = 0 then m ((c.tc : Thread nD τ).loc main_arg11) (ix2 i k) else m ((c.tc : Thread nD τ).loc main_arg15) (ix2 i k))
      ∧ rowB m c s ρ i = (if r.val = 0 ∨ r.val = 3 then m ((c.tc : Thread nD τ).loc main_arg12) (ix2 i k) else m ((c.tc : Thread nD τ).loc main_arg16) (ix2 i k))
      ∧ rowC m c s ρ i = (if r.val % 2 = 0 then m ((c.tc : Thread nD τ).loc main_arg13) (ix2 i k) else m ((c.tc : Thread nD τ).loc main_arg17) (ix2 i k)) := by
  subst hmd
  refine ⟨by unfold rowA; rw [hs'], ?_, by unfold rowC; rw [hs']⟩
  unfold rowB
  refine if_congr ?_ rfl rfl
  rw [eq_iff_iff, hlt]
  omega

/-- The forward read-out of the reference at place `l`. -/
theorem yF (s : Fin 2) (r : Fin 4) (ρ : Fin 16 → Fin 32) (hs' : r.val % 2 = s.val) (hmd : ∀ k, md (ρ k) = k) (hlt : ∀ k, (ρ k).val < 16 ↔ r.val < 2)
    (b : Fin 4) (l i : Fin 1024) :
    (last m c).main_v26_6 (ix5 l 0 r b i) = ∑ k : Fin 16, fwd m c s b l (ρ k) i * rowC m c s (ρ k) i := by
  refine (y_at _ _ _ _ _ _ _ l 0 r b i).trans (Finset.sum_congr rfl fun k _ => ?_)
  obtain ⟨hA, hB, hC⟩ := row_eq m c s r k (ρ k) hs' (hmd k) (hlt k) i
  unfold fwd
  rw [hA, hB, hC]
  refine congrArg₂ (· * ·) (hs_congr _ _ _ _ _ fun q hq => ?_) rfl
  refine congrArg (fun j => m ((c.tc : Thread nD τ).loc main_arg1) j) ?_
  exact congrArg (fun s => ix4 s b _ i) (Fin.ext hs')

/-- The backward read-out of the reference, turned round, at place `l`. -/
theorem yB (s : Fin 2) (r : Fin 4) (ρ : Fin 16 → Fin 32) (hs' : r.val % 2 = s.val) (hmd : ∀ k, md (ρ k) = k) (hlt : ∀ k, (ρ k).val < 16 ↔ r.val < 2)
    (b : Fin 4) (l i : Fin 1024) :
    (last m c).main_v26_6 (ix5 l.rev 1 r b i) = ∑ k : Fin 16, bwd m c s b l (ρ k) i * rowC m c s (ρ k) i := by
  refine (y_at _ _ _ _ _ _ _ l.rev 1 r b i).trans (Finset.sum_congr rfl fun k _ => ?_)
  obtain ⟨hA, hB, hC⟩ := row_eq m c s r k (ρ k) hs' (hmd k) (hlt k) i
  have hn : l.rev.val + 1 = 1024 - l.val := by rw [Fin.val_rev]; omega
  unfold bwd
  rw [hA, hB, hC, hn]
  refine congrArg₂ (· * ·) (hs_congr _ _ _ _ _ fun q hq => ?_) rfl
  refine congrArg (fun j => m ((c.tc : Thread nD τ).loc main_arg1) j) ?_
  refine congrArg₂ (fun s l => ix4 s b l i) (Fin.ext hs') (Fin.ext ?_)
  show (if (1 : Fin 2).val = 0 then q % 1024 else 1023 - q % 1024) = (1023 - q) % 1024
  rw [if_neg (by decide)]
  omega

theorem md_lo (k : Fin 16) : md (Fin.castAdd 16 k) = k := Fin.ext (by show k.val % 16 = k.val; omega)
theorem md_hi (k : Fin 16) : md (Fin.natAdd 16 k) = k := Fin.ext (by show (16 + k.val) % 16 = k.val; omega)

/-- What the arguments must satisfy: the variance is not negative, and these arrays hold real numbers. -/
def Good : Prop :=
  (∀ o, (0 : EReal) ≤ m ((c.tc : Thread nD τ).loc main_arg9) (ix1 o)) ∧ (∀ b k, IsReal (m ((c.tc : Thread nD τ).loc main_arg0) (ix2 b k)))
    ∧ (∀ s b l i, IsReal (m ((c.tc : Thread nD τ).loc main_arg2) (ix4 s b l i))) ∧ (∀ o d, IsReal (m ((c.tc : Thread nD τ).loc main_arg5) (ix2 o d)))
    ∧ (∀ o, IsReal (m ((c.tc : Thread nD τ).loc main_arg6) (ix1 o))) ∧ (∀ o, IsReal (m ((c.tc : Thread nD τ).loc main_arg7) (ix1 o)))
    ∧ (∀ o, IsReal (m ((c.tc : Thread nD τ).loc main_arg8) (ix1 o))) ∧ (∀ o, IsReal (m ((c.tc : Thread nD τ).loc main_arg9) (ix1 o)))
    ∧ (∀ d i, IsReal (m ((c.tc : Thread nD τ).loc main_arg10) (ix2 d i))) ∧ (∀ i k, IsReal (m ((c.tc : Thread nD τ).loc main_arg13) (ix2 i k)))
    ∧ (∀ d i, IsReal (m ((c.tc : Thread nD τ).loc main_arg14) (ix2 d i))) ∧ ∀ i k, IsReal (m ((c.tc : Thread nD τ).loc main_arg17) (ix2 i k))

/-- The launch's output at an index is the residual block as written, over the reference's read-outs. -/
theorem kout_eq (hg : Good m c) (s : Fin 2) (r0 r1 : Fin 4) (h0 : r0.val = s.val) (h1 : r1.val = s.val + 2) (b : Fin 4) (o : Fin 256) (l : Fin 1024) :
    kout m c s b o l = rform (orig m c s b o l) (m ((c.tc : Thread nD τ).loc main_arg18) ix0)
      (m ((c.tc : Thread nD τ).loc main_arg6) (ix1 o)) (m ((c.tc : Thread nD τ).loc main_arg7) (ix1 o))
      (m ((c.tc : Thread nD τ).loc main_arg8) (ix1 o)) (m ((c.tc : Thread nD τ).loc main_arg9) (ix1 o))
      (fun d => m ((c.tc : Thread nD τ).loc main_arg5) (ix2 o d))
      (fun d => fref (m ((c.tc : Thread nD τ).loc main_arg0) (ix2 b 0)) (m ((c.tc : Thread nD τ).loc main_arg0) (ix2 b 1))
        (fun i => m ((c.tc : Thread nD τ).loc main_arg2) (ix4 s b l i)) (rowW m c s d)
        (fun i => (last m c).main_v26_6 (ix5 l 0 r0 b i) + (last m c).main_v26_6 (ix5 l.rev 1 r0 b i))
        (fun i => (last m c).main_v26_6 (ix5 l 0 r1 b i) + (last m c).main_v26_6 (ix5 l.rev 1 r1 b i))) := by
  obtain ⟨g9', g0, g2, g5, g6, g7, g8, g9, g10, g13, g14, g17⟩ := hg
  have rC : ∀ ρ i, IsReal (rowC m c s ρ i) := fun ρ i => by
    unfold rowC; split
    · exact g13 _ _
    · exact g17 _ _
  have rW : ∀ d i, IsReal (rowW m c s d i) := fun d i => by
    unfold rowW; split
    · exact g10 _ _
    · exact g14 _ _
  have p0 : r0.val % 2 = s.val := by omega
  have p1 : r1.val % 2 = s.val := by omega
  have q0 : ∀ k : Fin 16, (Fin.castAdd 16 k).val < 16 ↔ r0.val < 2 := fun k => by
    have : (Fin.castAdd 16 k).val = k.val := rfl
    omega
  have q1 : ∀ k : Fin 16, (Fin.natAdd 16 k).val < 16 ↔ r1.val < 2 := fun k => by
    have : (Fin.natAdd 16 k).val = 16 + k.val := rfl
    omega
  have hfeat := fun d => feature (m ((c.tc : Thread nD τ).loc main_arg0) (ix2 b 0)) (m ((c.tc : Thread nD τ).loc main_arg0) (ix2 b 1))
    (fun i => m ((c.tc : Thread nD τ).loc main_arg2) (ix4 s b l i)) (rowW m c s d)
    (fun k => rowC m c s (Fin.castAdd 16 k)) (fun k => fwd m c s b l (Fin.castAdd 16 k)) (fun k => fwd m c s b l (Fin.natAdd 16 k))
    (fun k => bwd m c s b l (Fin.castAdd 16 k)) (fun k => bwd m c s b l (Fin.natAdd 16 k)) (rowC m c s) (fwd m c s b l) (bwd m c s b l)
    (fun i => (last m c).main_v26_6 (ix5 l 0 r0 b i) + (last m c).main_v26_6 (ix5 l.rev 1 r0 b i))
    (fun i => (last m c).main_v26_6 (ix5 l 0 r1 b i) + (last m c).main_v26_6 (ix5 l.rev 1 r1 b i))
    (g0 _ _) (g0 _ _) (g2 s b l) (rW d) (fun k i => rC _ i) (fun k i => hs_real _ _ _ _) (fun k i => hs_real _ _ _ _) (fun k i => hs_real _ _ _ _) (fun k i => hs_real _ _ _ _)
    (fun k => rfl) (fun k => by unfold rowC; rw [md_lo, md_hi]) (fun k => rfl) (fun k => rfl) (fun k => rfl) (fun k => rfl)
    (fun i => congrArg₂ (· + ·) (yF m c s r0 (Fin.castAdd 16) p0 md_lo q0 b l i) (yB m c s r0 (Fin.castAdd 16) p0 md_lo q0 b l i))
    (fun i => by
      have e : ∀ k : Fin 16, rowC m c s (Fin.castAdd 16 k) i = rowC m c s (Fin.natAdd 16 k) i := fun k => by unfold rowC; rw [md_lo, md_hi]
      simp only [e]
      exact congrArg₂ (· + ·) (yF m c s r1 (Fin.natAdd 16) p1 md_hi q1 b l i) (yB m c s r1 (Fin.natAdd 16) p1 md_hi q1 b l i))
  unfold kout
  have hk : (fun d => kfeat m c s b l d (half2 0 (by decide)) + kfeat m c s b l d (half2 1 (by decide))) = _ := funext fun d => (hfeat d).1
  rw [hk]
  exact kform_eq _ _ _ _ _ _ _ _ (g5 o) (fun d => (hfeat d).2) (g6 o) (g7 o) (g8 o) (g9 o) (g9' o)

open Cert.ScanIdeal.Gen

/-- The first result. -/
theorem first (hg : Good m c) :
    (Pipeline.afterTail₀ cfgs (dats (F := Ideal) m) 0 (V0 m) [hostOps1] c main_v43 : FVec Ideal S4x256x32x32 .f32)
      = Step.R_main_v87 (F := Ideal) (last m c) (m ((c.tc : Thread nD τ).loc main_arg0)) (m ((c.tc : Thread nD τ).loc main_arg2)) (m ((c.tc : Thread nD τ).loc main_arg3))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg14)) (m ((c.tc : Thread nD τ).loc main_arg18)) := by
  funext j
  obtain ⟨b, o, p, q, rfl⟩ : ∃ (b : Fin 4) (o : Fin 256) (p q : Fin 32), j = ix4 b o p q := ⟨j 0, j 1, j 2, j 3, eq_ix4 j⟩
  have hl : p.val * 32 + q.val < 1024 := by omega
  exact (res43 m c b o p q hl).trans ((kout_eq m c hg 0 0 2 rfl rfl b o ⟨_, hl⟩).trans
    ((congrArg (fun x => rform x _ _ _ _ _ _ _) (V_v4 m c 0 b o p q hl)).trans (Cert.ScanReferenceIdeal.Hand.R87_at (last m c) _ _ _ _ _ _ _ _ _ _ _ b o p q hl ⟨_, hl⟩ rfl).symm))

/-- The second result. -/
theorem second (hg : Good m c) :
    (Pipeline.afterTail₀ cfgs (dats (F := Ideal) m) 0 (V0 m) [hostOps1] c main_v46 : FVec Ideal S4x256x32x32 .f32)
      = Step.R_main_v125 (F := Ideal) (last m c) (m ((c.tc : Thread nD τ).loc main_arg0)) (m ((c.tc : Thread nD τ).loc main_arg2)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg14)) (m ((c.tc : Thread nD τ).loc main_arg18)) := by
  funext j
  obtain ⟨b, o, p, q, rfl⟩ : ∃ (b : Fin 4) (o : Fin 256) (p q : Fin 32), j = ix4 b o p q := ⟨j 0, j 1, j 2, j 3, eq_ix4 j⟩
  have hl : p.val * 32 + q.val < 1024 := by omega
  exact (res46 m c b o p q hl).trans ((kout_eq m c hg 1 1 3 rfl rfl b o ⟨_, hl⟩).trans
    ((congrArg (fun x => rform x _ _ _ _ _ _ _) (V_v4 m c 1 b o p q hl)).trans (Cert.ScanReferenceIdeal.Hand.R125_at (last m c) _ _ _ _ _ _ _ _ _ _ _ b o p q hl ⟨_, hl⟩ rfl).symm))

end Cert.Join
end
-- ==== Proof.PreVal.lean ====
module

public import proofs.«01_k».proof.Pre_admissible
public import Idealize.ShloMosaic.Lib.ReduceAll
public import proofs.«01_k».proof.Proof.Alg

@[expose] public section

set_option maxRecDepth 16384

noncomputable section

namespace Cert.Pre_admissible

open Cert.Num
open Idealize.ShloMosaic
open Facts

variable [Facts]

/-- Where "every element is smaller than infinity in absolute value" holds, every element is a real number. -/
theorem real_of_all {s : Shape} {axes : List (Fin s.rank)} (x : FVec Ideal s .f32) (hb : S_.BroadcastsInDim s (![] : Fin 0 → Fin s.rank))
    (hr : s.ReducesTo axes S_) (i0 : S_.Idx)
    (e : Host.reduce IntOp.andi (cmpf .olt (Host.absf x) (broadcastInDim s ![] hb (constant S_ .f32 0x7F800000#32))) (constantI S_ 1 1#1) hr h_S_ i0 = 1#1) (i : s.Idx) :
    IsReal (x i) := by
  have h := Host.reduce_andi_all _ _ _ _ _ e i
  have h' : BitVec.ofBool (decide (max (x i) (-(x i)) < Ideal.ofBits .f32 0x7F800000#32)) = 1#1 := by
    revert h
    pointwise
    exact id
  have top : Ideal.ofBits .f32 0x7F800000#32 = ⊤ := by simp [Ideal.ofBits, Ideal.ieee]
  rw [top] at h'
  have hlt : max (x i) (-(x i)) < ⊤ := by
    by_contra hn
    rw [decide_eq_false hn] at h'
    exact absurd h' (by decide)
  have h1 : x i ≠ ⊤ := ne_of_lt (lt_of_le_of_lt (le_max_left _ _) hlt)
  have h2 : x i ≠ ⊥ := fun e => by
    rw [e] at hlt
    exact absurd (lt_of_le_of_lt (le_max_right _ _) hlt) (by simp)
  exact ⟨_, (EReal.coe_toReal h1 h2).symm⟩

theorem nonneg_of_all (x : FVec Ideal S256 .f32) (i0 : S_.Idx)
    (e : Host.reduce IntOp.andi (cmpf .oge x (broadcastInDim S256 ![] bcast_S_S256 (constant S_ .f32 0x00000000#32))) (constantI S_ 1 1#1) reducesTo_S256_S_d0 h_S_ i0 = 1#1) (i : S256.Idx) :
    0 ≤ x i := by
  have h := Host.reduce_andi_all _ _ _ _ _ e i
  have h' : BitVec.ofBool (decide (0 ≤ x i)) = 1#1 := by
    revert h
    pointwise
    exact id
  by_contra hn
  rw [decide_eq_false hn] at h'
  exact absurd h' (by decide)

theorem and_at {x y : IVec S_ 1} {i : S_.Idx} (h : andi x y i = 1#1) : x i = 1#1 ∧ y i = 1#1 := IntOp.andi_eq_one.1 h

/-- What the precondition says: the variance is not negative, and the arrays it names hold real numbers. -/
theorem decode (a0 : FVec Ideal S4x2 .f32) (a1 a2 : FVec Ideal S2x4x1024x1024 .f32) (a3 a4 : FVec Ideal S4x256x32x32 .f32) (a5 : FVec Ideal S256x512 .f32)
    (a6 a7 a8 a9 : FVec Ideal S256 .f32) (a10 : FVec Ideal S512x1024 .f32) (a11 a12 a13 : FVec Ideal S1024x16 .f32) (a14 : FVec Ideal S512x1024 .f32)
    (a15 a16 a17 : FVec Ideal S1024x16 .f32) (a18 : FVec Ideal S_ .f32)
    (h : fn (F := Ideal) a0 a1 a2 a3 a4 a5 a6 a7 a8 a9 a10 a11 a12 a13 a14 a15 a16 a17 a18 = fun _ => 1#1) :
    (∀ i, 0 ≤ a9 i) ∧ (∀ i, IsReal (a0 i)) ∧ (∀ i, IsReal (a2 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a13 i)) ∧ (∀ i, IsReal (a14 i)) ∧ ∀ i, IsReal (a17 i) := by
  have h := congrFun h ix0
  dsimp only [fn, fn_part1, fn_part2, fn_part3] at h
  obtain ⟨h, e17⟩ := and_at h
  obtain ⟨h, e14⟩ := and_at h
  obtain ⟨h, e13⟩ := and_at h
  obtain ⟨h, e10⟩ := and_at h
  obtain ⟨h, e9⟩ := and_at h
  obtain ⟨h, e8⟩ := and_at h
  obtain ⟨h, e7⟩ := and_at h
  obtain ⟨h, e6⟩ := and_at h
  obtain ⟨h, e5⟩ := and_at h
  obtain ⟨h, e2⟩ := and_at h
  obtain ⟨h, e0⟩ := and_at h
  exact ⟨nonneg_of_all a9 _ h, real_of_all a0 _ _ _ e0, real_of_all a2 _ _ _ e2, real_of_all a5 _ _ _ e5, real_of_all a6 _ _ _ e6, real_of_all a7 _ _ _ e7, real_of_all a8 _ _ _ e8, real_of_all a9 _ _ _ e9, real_of_all a10 _ _ _ e10, real_of_all a13 _ _ _ e13, real_of_all a14 _ _ _ e14, real_of_all a17 _ _ _ e17⟩

end Cert.Pre_admissible
end
-- ==== Proof.RefRun.lean ====
/- The reference's run, stated over one trip's step. At a valuation that holds a state (the carried buffers, the set-up
   values at the loop's constants, the trip's number at its counters) every value of one trip is the step's. What @main
   leaves before the loop holds the initial state, and the results are what the step iterated from it leaves. -/
module

public import proofs.«01_k».proof.Proof.Gen.ScanReferenceIdeal.Run
public import proofs.«01_k».proof.Proof.Gen.ScanReferenceIdeal.Step

@[expose] public section

noncomputable section

namespace Cert.ScanReferenceIdeal.StepRun

open Idealize.ShloMosaic Idealize.ShloMosaic.TcCoe Idealize.SL.Sem Idealize.ShloMosaic.StableHlo
open Cert.ScanReferenceIdeal Cert.ScanReferenceIdeal.Gen Cert.ScanReferenceIdeal.Value
open Cert.ScanReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v26_5) = s.main_v26_5
  f_6 : V0 (Proc.devRef .tc main_v26_6) = s.main_v26_6
  f_0 : V0 (Proc.devRef .tc main_v26_0) = s.main_v26_0
  f_1 : V0 (Proc.devRef .tc main_v26_1) = s.main_v26_1
  f_2 : V0 (Proc.devRef .tc main_v26_2) = s.main_v26_2
  f_3 : V0 (Proc.devRef .tc main_v26_3) = s.main_v26_3
  n_4 : V0 (Proc.devRef .tc main_v26_4) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ScanReferenceIdeal.Step.b0 j s := by
  unfold Cert.ScanReferenceIdeal.Step.b0
  rfl
set_option maxRecDepth 8192 in
theorem al_1 (h : Holds V0 s j) : (constantI S_ 32 0#32 : (Proc.devRef .tc main_while0b_call2_c_0 : DevRef τ sig).ty.Contents (Elt F)) = Cert.ScanReferenceIdeal.Step.b1 j s := by
  unfold Cert.ScanReferenceIdeal.Step.b1
  rfl
set_option maxRecDepth 8192 in
theorem al_2 (h : Holds V0 s j) : (constantI S_ 32 0#32 : (Proc.devRef .tc main_while0b_call2_c_1 : DevRef τ sig).ty.Contents (Elt F)) = Cert.ScanReferenceIdeal.Step.b2 j s := by
  unfold Cert.ScanReferenceIdeal.Step.b2
  rfl
set_option maxRecDepth 8192 in
theorem al_3 (h : Holds V0 s j) : (constantI S_ 32 0#32 : (Proc.devRef .tc main_while0b_call2_c_2 : DevRef τ sig).ty.Contents (Elt F)) = Cert.ScanReferenceIdeal.Step.b3 j s := by
  unfold Cert.ScanReferenceIdeal.Step.b3
  rfl
set_option maxRecDepth 8192 in
theorem al_4 (h : Holds V0 s j) : (Host.dynamicSlice S1x2x4x4x1024 (V0 (Proc.devRef .tc main_v26_0)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) sliceFits_S1024x2x4x4x1024_S1x2x4x4x1024 : (Proc.devRef .tc main_while0b_call2_v0 : DevRef τ sig).ty.Contents (Elt F)) = Cert.ScanReferenceIdeal.Step.b4 j s := by
  unfold Cert.ScanReferenceIdeal.Step.b4
  rw [← al_0 h, ← al_1 h, ← al_2 h, ← al_3 h, h.f_0, h.n_4]
  try rfl
set_option maxRecDepth 8192 in
theorem al_5 (h : Holds V0 s j) : (shapeCast S2x4x4x1024 (Host.dynamicSlice S1x2x4x4x1024 (V0 (Proc.devRef .tc main_v26_0)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) sliceFits_S1024x2x4x4x1024_S1x2x4x4x1024) shapeCasts_S1x2x4x4x1024_S2x4x4x1024 : (Proc.devRef .tc main_while0b_v126 : DevRef τ sig).ty.Contents (Elt F)) = Cert.ScanReferenceIdeal.Step.b5 j s := by
  unfold Cert.ScanReferenceIdeal.Step.b5
  rw [← al_4 h]
  try rfl
set_option maxRecDepth 8192 in
theorem al_6 (h : Holds V0 s j) : (broadcastInDim S4x1x1024x16 ![0, 2, 3] bcast_S4x1024x16_S4x1x1024x16_0_2_3 (V0 (Proc.devRef .tc main_v26_1)) : (Proc.devRef .tc main_while0b_v127 : DevRef τ sig).ty.Contents (Elt F)) = Cert.ScanReferenceIdeal.Step.b6 j s := by
  unfold Cert.ScanReferenceIdeal.Step.b6
  rw [h.f_1]
  try rfl
set_option maxRecDepth 8192 in
theorem al_7 (h : Holds V0 s j) : (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_1))) : (Proc.devRef .tc main_while0b_v128 : DevRef τ sig).ty.Contents (Elt F)) = Cert.ScanReferenceIdeal.Step.b7 j s := by
  unfold Cert.ScanReferenceIdeal.Step.b7
  rw [← al_6 h]
  try rfl
set_option maxRecDepth 8192 in
theorem al_8 (h : Holds V0 s j) : (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_1)))) : (Proc.devRef .tc main_while0b_v129 : DevRef τ sig).ty.Contents (Elt F)) = Cert.ScanReferenceIdeal.Step.b8 j s := by
  unfold Cert.ScanReferenceIdeal.Step.b8
  rw [← al_7 h]
  try rfl
set_option maxRecDepth 8192 in
theorem al_9 (h : Holds V0 s j) : (mulf (V0 (Proc.devRef .tc main_v26_5)) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_1))))) : (Proc.devRef .tc main_while0b_v130 : DevRef τ sig).ty.Contents (Elt F)) = Cert.ScanReferenceIdeal.Step.b9 j s := by
  unfold Cert.ScanReferenceIdeal.Step.b9
  rw [← al_8 h, h.f_5]
  try rfl
set_option maxRecDepth 8192 in
theorem al_10 (h : Holds V0 s j) : (broadcastInDim S2x4x4x1024x1 ![0, 1, 2, 3] bcast_S2x4x4x1024_S2x4x4x1024x1_0_1_2_3 (shapeCast S2x4x4x1024 (Host.dynamicSlice S1x2x4x4x1024 (V0 (Proc.devRef .tc main_v26_0)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) sliceFits_S1024x2x4x4x1024_S1x2x4x4x1024) shapeCasts_S1x2x4x4x1024_S2x4x4x1024) : (Proc.devRef .tc main_while0b_v131 : DevRef τ sig).ty.Contents (Elt F)) = Cert.ScanReferenceIdeal.Step.b10 j s := by
  unfold Cert.ScanReferenceIdeal.Step.b10
  rw [← al_5 h]
  try rfl
set_option maxRecDepth 8192 in
theorem al_11 (h : Holds V0 s j) : (broadcastInDim S4x1x1024x16 ![0, 2, 3] bcast_S4x1024x16_S4x1x1024x16_0_2_3 (V0 (Proc.devRef .tc main_v26_2)) : (Proc.devRef .tc main_while0b_v132 : DevRef τ sig).ty.Contents (Elt F)) = Cert.ScanReferenceIdeal.Step.b11 j s := by
  unfold Cert.ScanReferenceIdeal.Step.b11
  rw [h.f_2]
  try rfl
set_option maxRecDepth 8192 in
theorem al_12 (h : Holds V0 s j) : (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_2))) : (Proc.devRef .tc main_while0b_v133 : DevRef τ sig).ty.Contents (Elt F)) = Cert.ScanReferenceIdeal.Step.b12 j s := by
  unfold Cert.ScanReferenceIdeal.Step.b12
  rw [← al_11 h]
  try rfl
set_option maxRecDepth 8192 in
theorem al_13 (h : Holds V0 s j) : (broadcastInDim S2x4x4x1024x16 ![0, 1, 2, 3, 4] bcast_S2x4x4x1024x1_S2x4x4x1024x16_0_1_2_3_4 (broadcastInDim S2x4x4x1024x1 ![0, 1, 2, 3] bcast_S2x4x4x1024_S2x4x4x1024x1_0_1_2_3 (shapeCast S2x4x4x1024 (Host.dynamicSlice S1x2x4x4x1024 (V0 (Proc.devRef .tc main_v26_0)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) sliceFits_S1024x2x4x4x1024_S1x2x4x4x1024) shapeCasts_S1x2x4x4x1024_S2x4x4x1024)) : (Proc.devRef .tc main_while0b_v134 : DevRef τ sig).ty.Contents (Elt F)) = Cert.ScanReferenceIdeal.Step.b13 j s := by
  unfold Cert.ScanReferenceIdeal.Step.b13
  rw [← al_10 h]
  try rfl
set_option maxRecDepth 8192 in
theorem al_14 (h : Holds V0 s j) : (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_2)))) : (Proc.devRef .tc main_while0b_v135 : DevRef τ sig).ty.Contents (Elt F)) = Cert.ScanReferenceIdeal.Step.b14 j s := by
  unfold Cert.ScanReferenceIdeal.Step.b14
  rw [← al_12 h]
  try rfl
set_option maxRecDepth 8192 in
theorem al_15 (h : Holds V0 s j) : (mulf (broadcastInDim S2x4x4x1024x16 ![0, 1, 2, 3, 4] bcast_S2x4x4x1024x1_S2x4x4x1024x16_0_1_2_3_4 (broadcastInDim S2x4x4x1024x1 ![0, 1, 2, 3] bcast_S2x4x4x1024_S2x4x4x1024x1_0_1_2_3 (shapeCast S2x4x4x1024 (Host.dynamicSlice S1x2x4x4x1024 (V0 (Proc.devRef .tc main_v26_0)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) sliceFits_S1024x2x4x4x1024_S1x2x4x4x1024) shapeCasts_S1x2x4x4x1024_S2x4x4x1024))) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_2))))) : (Proc.devRef .tc main_while0b_v136 : DevRef τ sig).ty.Contents (Elt F)) = Cert.ScanReferenceIdeal.Step.b15 j s := by
  unfold Cert.ScanReferenceIdeal.Step.b15
  rw [← al_13 h, ← al_14 h]
  try rfl
set_option maxRecDepth 8192 in
theorem al_16 (h : Holds V0 s j) : (addf (mulf (V0 (Proc.devRef .tc main_v26_5)) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_1)))))) (mulf (broadcastInDim S2x4x4x1024x16 ![0, 1, 2, 3, 4] bcast_S2x4x4x1024x1_S2x4x4x1024x16_0_1_2_3_4 (broadcastInDim S2x4x4x1024x1 ![0, 1, 2, 3] bcast_S2x4x4x1024_S2x4x4x1024x1_0_1_2_3 (shapeCast S2x4x4x1024 (Host.dynamicSlice S1x2x4x4x1024 (V0 (Proc.devRef .tc main_v26_0)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) sliceFits_S1024x2x4x4x1024_S1x2x4x4x1024) shapeCasts_S1x2x4x4x1024_S2x4x4x1024))) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_2)))))) : (Proc.devRef .tc main_while0b_v137 : DevRef τ sig).ty.Contents (Elt F)) = Cert.ScanReferenceIdeal.Step.b16 j s := by
  unfold Cert.ScanReferenceIdeal.Step.b16
  rw [← al_9 h, ← al_15 h]
  try rfl
set_option maxRecDepth 8192 in
theorem al_17 (h : Holds V0 s j) : (constant S_ .f32 0xC1200000#32 : (Proc.devRef .tc main_while0b_cst_16 : DevRef τ sig).ty.Contents (Elt F)) = Cert.ScanReferenceIdeal.Step.b17 j s := by
  unfold Cert.ScanReferenceIdeal.Step.b17
  rfl
set_option maxRecDepth 8192 in
theorem al_18 (h : Holds V0 s j) : (constant S_ .f32 0x41200000#32 : (Proc.devRef .tc main_while0b_cst_17 : DevRef τ sig).ty.Contents (Elt F)) = Cert.ScanReferenceIdeal.Step.b18 j s := by
  unfold Cert.ScanReferenceIdeal.Step.b18
  rfl
set_option maxRecDepth 8192 in
theorem al_19 (h : Holds V0 s j) : (id (constant S_ .f32 0xC1200000#32) : (Proc.devRef .tc main_while0b_call3_v0 : DevRef τ sig).ty.Contents (Elt F)) = Cert.ScanReferenceIdeal.Step.b19 j s := by
  unfold Cert.ScanReferenceIdeal.Step.b19
  rw [← al_17 h]
  try rfl
set_option maxRecDepth 8192 in
theorem al_20 (h : Holds V0 s j) : (broadcastInDim S2x4x4x1024x16 ![] bcast_S_S2x4x4x1024x16 (id (constant S_ .f32 0xC1200000#32)) : (Proc.devRef .tc main_while0b_call3_v1 : DevRef τ sig).ty.Contents (Elt F)) = Cert.ScanReferenceIdeal.Step.b20 j s := by
  unfold Cert.ScanReferenceIdeal.Step.b20
  rw [← al_19 h]
  try rfl
set_option maxRecDepth 8192 in
theorem al_21 (h : Holds V0 s j) : (maximumf (broadcastInDim S2x4x4x1024x16 ![] bcast_S_S2x4x4x1024x16 (id (constant S_ .f32 0xC1200000#32))) (addf (mulf (V0 (Proc.devRef .tc main_v26_5)) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_1)))))) (mulf (broadcastInDim S2x4x4x1024x16 ![0, 1, 2, 3, 4] bcast_S2x4x4x1024x1_S2x4x4x1024x16_0_1_2_3_4 (broadcastInDim S2x4x4x1024x1 ![0, 1, 2, 3] bcast_S2x4x4x1024_S2x4x4x1024x1_0_1_2_3 (shapeCast S2x4x4x1024 (Host.dynamicSlice S1x2x4x4x1024 (V0 (Proc.devRef .tc main_v26_0)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) sliceFits_S1024x2x4x4x1024_S1x2x4x4x1024) shapeCasts_S1x2x4x4x1024_S2x4x4x1024))) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_2))))))) : (Proc.devRef .tc main_while0b_call3_v2 : DevRef τ sig).ty.Contents (Elt F)) = Cert.ScanReferenceIdeal.Step.b21 j s := by
  unfold Cert.ScanReferenceIdeal.Step.b21
  rw [← al_20 h, ← al_16 h]
  try rfl
set_option maxRecDepth 8192 in
theorem al_22 (h : Holds V0 s j) : (id (constant S_ .f32 0x41200000#32) : (Proc.devRef .tc main_while0b_call3_v3 : DevRef τ sig).ty.Contents (Elt F)) = Cert.ScanReferenceIdeal.Step.b22 j s := by
  unfold Cert.ScanReferenceIdeal.Step.b22
  rw [← al_18 h]
  try rfl
set_option maxRecDepth 8192 in
theorem al_23 (h : Holds V0 s j) : (broadcastInDim S2x4x4x1024x16 ![] bcast_S_S2x4x4x1024x16 (id (constant S_ .f32 0x41200000#32)) : (Proc.devRef .tc main_while0b_call3_v4 : DevRef τ sig).ty.Contents (Elt F)) = Cert.ScanReferenceIdeal.Step.b23 j s := by
  unfold Cert.ScanReferenceIdeal.Step.b23
  rw [← al_22 h]
  try rfl
set_option maxRecDepth 8192 in
theorem al_24 (h : Holds V0 s j) : (res_main_while0b_v138 V0 : (Proc.devRef .tc main_while0b_v138 : DevRef τ sig).ty.Contents (Elt F)) = Cert.ScanReferenceIdeal.Step.b24 j s := by
  unfold res_main_while0b_v138 Cert.ScanReferenceIdeal.Step.b24
  rw [← al_23 h, ← al_21 h]
  try rfl
set_option maxRecDepth 8192 in
theorem al_25 (h : Holds V0 s j) : (broadcastInDim S4x1x1024x16 ![0, 2, 3] bcast_S4x1024x16_S4x1x1024x16_0_2_3 (V0 (Proc.devRef .tc main_v26_3)) : (Proc.devRef .tc main_while0b_v139 : DevRef τ sig).ty.Contents (Elt F)) = Cert.ScanReferenceIdeal.Step.b25 j s := by
  unfold Cert.ScanReferenceIdeal.Step.b25
  rw [h.f_3]
  try rfl
set_option maxRecDepth 8192 in
theorem al_26 (h : Holds V0 s j) : (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_3))) : (Proc.devRef .tc main_while0b_v140 : DevRef τ sig).ty.Contents (Elt F)) = Cert.ScanReferenceIdeal.Step.b26 j s := by
  unfold Cert.ScanReferenceIdeal.Step.b26
  rw [← al_25 h]
  try rfl
set_option maxRecDepth 8192 in
theorem al_27 (h : Holds V0 s j) : (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_3)))) : (Proc.devRef .tc main_while0b_v141 : DevRef τ sig).ty.Contents (Elt F)) = Cert.ScanReferenceIdeal.Step.b27 j s := by
  unfold Cert.ScanReferenceIdeal.Step.b27
  rw [← al_26 h]
  try rfl
set_option maxRecDepth 8192 in
theorem al_28 (h : Holds V0 s j) : (mulf (res_main_while0b_v138 V0) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_3))))) : (Proc.devRef .tc main_while0b_v142 : DevRef τ sig).ty.Contents (Elt F)) = Cert.ScanReferenceIdeal.Step.b28 j s := by
  unfold Cert.ScanReferenceIdeal.Step.b28
  rw [← al_24 h, ← al_27 h]
  try rfl
set_option maxRecDepth 8192 in
theorem al_29 (h : Holds V0 s j) : (constant S_ .f32 0x00000000#32 : (Proc.devRef .tc main_while0b_cst_18 : DevRef τ sig).ty.Contents (Elt F)) = Cert.ScanReferenceIdeal.Step.b29 j s := by
  unfold Cert.ScanReferenceIdeal.Step.b29
  rfl
set_option maxRecDepth 8192 in
theorem al_30 (h : Holds V0 s j) : (Host.reduceAdd (mulf (res_main_while0b_v138 V0) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_3)))))) (constant S_ .f32 0x00000000#32) reducesTo_S2x4x4x1024x16_S2x4x4x1024_d4 h_S_ : (Proc.devRef .tc main_while0b_v143 : DevRef τ sig).ty.Contents (Elt F)) = Cert.ScanReferenceIdeal.Step.b30 j s := by
  unfold Cert.ScanReferenceIdeal.Step.b30
  rw [← al_28 h, ← al_29 h]
  try rfl
set_option maxRecDepth 8192 in
theorem al_31 (h : Holds V0 s j) : (broadcastInDim S1x2x4x4x1024 ![1, 2, 3, 4] bcast_S2x4x4x1024_S1x2x4x4x1024_1_2_3_4 (Host.reduceAdd (mulf (res_main_while0b_v138 V0) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_3)))))) (constant S_ .f32 0x00000000#32) reducesTo_S2x4x4x1024x16_S2x4x4x1024_d4 h_S_) : (Proc.devRef .tc main_while0b_call4_v0 : DevRef τ sig).ty.Contents (Elt F)) = Cert.ScanReferenceIdeal.Step.b31 j s := by
  unfold Cert.ScanReferenceIdeal.Step.b31
  rw [← al_30 h]
  try rfl
set_option maxRecDepth 8192 in
theorem al_32 (h : Holds V0 s j) : (constantI S_ 32 0#32 : (Proc.devRef .tc main_while0b_call4_c : DevRef τ sig).ty.Contents (Elt F)) = Cert.ScanReferenceIdeal.Step.b32 j s := by
  unfold Cert.ScanReferenceIdeal.Step.b32
  rfl
set_option maxRecDepth 8192 in
theorem al_33 (h : Holds V0 s j) : (constantI S_ 32 0#32 : (Proc.devRef .tc main_while0b_call4_c_0 : DevRef τ sig).ty.Contents (Elt F)) = Cert.ScanReferenceIdeal.Step.b33 j s := by
  unfold Cert.ScanReferenceIdeal.Step.b33
  rfl
set_option maxRecDepth 8192 in
theorem al_34 (h : Holds V0 s j) : (constantI S_ 32 0#32 : (Proc.devRef .tc main_while0b_call4_c_1 : DevRef τ sig).ty.Contents (Elt F)) = Cert.ScanReferenceIdeal.Step.b34 j s := by
  unfold Cert.ScanReferenceIdeal.Step.b34
  rfl
set_option maxRecDepth 8192 in
theorem al_35 (h : Holds V0 s j) : (constantI S_ 32 0#32 : (Proc.devRef .tc main_while0b_call4_c_2 : DevRef τ sig).ty.Contents (Elt F)) = Cert.ScanReferenceIdeal.Step.b35 j s := by
  unfold Cert.ScanReferenceIdeal.Step.b35
  rfl
set_option maxRecDepth 8192 in
theorem al_36 (h : Holds V0 s j) : (Host.dynamicUpdateSlice (V0 (Proc.devRef .tc main_v26_6)) (broadcastInDim S1x2x4x4x1024 ![1, 2, 3, 4] bcast_S2x4x4x1024_S1x2x4x4x1024_1_2_3_4 (Host.reduceAdd (mulf (res_main_while0b_v138 V0) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_3)))))) (constant S_ .f32 0x00000000#32) reducesTo_S2x4x4x1024x16_S2x4x4x1024_d4 h_S_)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) updateFits_S1024x2x4x4x1024_S1x2x4x4x1024 : (Proc.devRef .tc main_while0b_v144 : DevRef τ sig).ty.Contents (Elt F)) = Cert.ScanReferenceIdeal.Step.b36 j s := by
  unfold Cert.ScanReferenceIdeal.Step.b36
  rw [← al_31 h, ← al_32 h, ← al_33 h, ← al_34 h, ← al_35 h, h.f_6, h.n_4]
  try rfl

/-! One trip's step of the carried values is `step`, field by field; a counter steps to the next number. -/

theorem step_5 (h : Holds V0 s j) : step_main_v26_5 V0 = (step j s).main_v26_5 := by
  unfold step_main_v26_5 Cert.ScanReferenceIdeal.Step.step
  show id (res_main_while0b_v138 V0) = _
  rw [al_24 h]
  try rfl
theorem step_6 (h : Holds V0 s j) : step_main_v26_6 V0 = (step j s).main_v26_6 := by
  unfold step_main_v26_6 Cert.ScanReferenceIdeal.Step.step
  show id (Host.dynamicUpdateSlice (V0 (Proc.devRef .tc main_v26_6)) (broadcastInDim S1x2x4x4x1024 ![1, 2, 3, 4] bcast_S2x4x4x1024_S1x2x4x4x1024_1_2_3_4 (Host.reduceAdd (mulf (res_main_while0b_v138 V0) (broadcastInDim S2x4x4x1024x16 ![0, 1, 2, 3, 4] bcast_S1x4x1x1024x16_S2x4x4x1024x16_0_1_2_3_4 (broadcastInDim S1x4x1x1024x16 ![1, 2, 3, 4] bcast_S4x1x1024x16_S1x4x1x1024x16_1_2_3_4 (broadcastInDim S4x1x1024x16 ![0, 2, 3] bcast_S4x1024x16_S4x1x1024x16_0_2_3 (V0 (Proc.devRef .tc main_v26_3)))))) (constant S_ .f32 0x00000000#32) reducesTo_S2x4x4x1024x16_S2x4x4x1024_d4 h_S_)) (fun k => (((![V0 (Proc.devRef .tc main_v26_4), constantI S_ 32 0#32, constantI S_ 32 0#32, constantI S_ 32 0#32, constantI S_ 32 0#32] : Fin 5 → (⟨S_, .i32⟩ : BufTy).Contents (Elt F))) k (Shape.Idx.first h_S_)).toInt) updateFits_S1024x2x4x4x1024_S1x2x4x4x1024) = _
  exact al_36 h
theorem step_4 (h : Holds V0 s j) : step_main_v26_4 V0 = constantI S_ 32 (BitVec.ofNat 32 (j + 1)) := by
  unfold step_main_v26_4
  rw [h.n_4]
  funext i
  show BitVec.ofNat 32 j + 1#32 = BitVec.ofNat 32 (j + 1)
  simp only [BitVec.ofNat_add]

set_option maxRecDepth 8192 in
theorem out_main_v87_holds (h : Holds V0 s j) {x_main_arg0 : (⟨S4x2, .f32⟩ : BufTy).Contents (Elt F)} (h_main_arg0 : V0 (Proc.devRef .tc main_arg0) = x_main_arg0) {x_main_arg2 : (⟨S2x4x1024x1024, .f32⟩ : BufTy).Contents (Elt F)} (h_main_arg2 : V0 (Proc.devRef .tc main_arg2) = x_main_arg2) {x_main_arg3 : (⟨S4x256x32x32, .f32⟩ : BufTy).Contents (Elt F)} (h_main_arg3 : V0 (Proc.devRef .tc main_arg3) = x_main_arg3) {x_main_arg5 : (⟨S256x512, .f32⟩ : BufTy).Contents (Elt F)} (h_main_arg5 : V0 (Proc.devRef .tc main_arg5) = x_main_arg5) {x_main_arg6 : (⟨S256, .f32⟩ : BufTy).Contents (Elt F)} (h_main_arg6 : V0 (Proc.devRef .tc main_arg6) = x_main_arg6) {x_main_arg7 : (⟨S256, .f32⟩ : BufTy).Contents (Elt F)} (h_main_arg7 : V0 (Proc.devRef .tc main_arg7) = x_main_arg7) {x_main_arg8 : (⟨S256, .f32⟩ : BufTy).Contents (Elt F)} (h_main_arg8 : V0 (Proc.devRef .tc main_arg8) = x_main_arg8) {x_main_arg9 : (⟨S256, .f32⟩ : BufTy).Contents (Elt F)} (h_main_arg9 : V0 (Proc.devRef .tc main_arg9) = x_main_arg9) {x_main_arg10 : (⟨S512x1024, .f32⟩ : BufTy).Contents (Elt F)} (h_main_arg10 : V0 (Proc.devRef .tc main_arg10) = x_main_arg10) {x_main_arg14 : (⟨S512x1024, .f32⟩ : BufTy).Contents (Elt F)} (h_main_arg14 : V0 (Proc.devRef .tc main_arg14) = x_main_arg14) {x_main_arg18 : (⟨S_, .f32⟩ : BufTy).Contents (Elt F)} (h_main_arg18 : V0 (Proc.devRef .tc main_arg18) = x_main_arg18) : out_main_v87 V0 = Cert.ScanReferenceIdeal.Step.R_main_v87 s x_main_arg0 x_main_arg2 x_main_arg3 x_main_arg5 x_main_arg6 x_main_arg7 x_main_arg8 x_main_arg9 x_main_arg10 x_main_arg14 x_main_arg18 := by
  unfold out_main_v87 Cert.ScanReferenceIdeal.Step.R_main_v87
  rw [h.f_6, h_main_arg0, h_main_arg2, h_main_arg3, h_main_arg5, h_main_arg6, h_main_arg7, h_main_arg8, h_main_arg9, h_main_arg10, h_main_arg14, h_main_arg18]
  try rfl

set_option maxRecDepth 8192 in
theorem out_main_v125_holds (h : Holds V0 s j) {x_main_arg0 : (⟨S4x2, .f32⟩ : BufTy).Contents (Elt F)} (h_main_arg0 : V0 (Proc.devRef .tc main_arg0) = x_main_arg0) {x_main_arg2 : (⟨S2x4x1024x1024, .f32⟩ : BufTy).Contents (Elt F)} (h_main_arg2 : V0 (Proc.devRef .tc main_arg2) = x_main_arg2) {x_main_arg4 : (⟨S4x256x32x32, .f32⟩ : BufTy).Contents (Elt F)} (h_main_arg4 : V0 (Proc.devRef .tc main_arg4) = x_main_arg4) {x_main_arg5 : (⟨S256x512, .f32⟩ : BufTy).Contents (Elt F)} (h_main_arg5 : V0 (Proc.devRef .tc main_arg5) = x_main_arg5) {x_main_arg6 : (⟨S256, .f32⟩ : BufTy).Contents (Elt F)} (h_main_arg6 : V0 (Proc.devRef .tc main_arg6) = x_main_arg6) {x_main_arg7 : (⟨S256, .f32⟩ : BufTy).Contents (Elt F)} (h_main_arg7 : V0 (Proc.devRef .tc main_arg7) = x_main_arg7) {x_main_arg8 : (⟨S256, .f32⟩ : BufTy).Contents (Elt F)} (h_main_arg8 : V0 (Proc.devRef .tc main_arg8) = x_main_arg8) {x_main_arg9 : (⟨S256, .f32⟩ : BufTy).Contents (Elt F)} (h_main_arg9 : V0 (Proc.devRef .tc main_arg9) = x_main_arg9) {x_main_arg10 : (⟨S512x1024, .f32⟩ : BufTy).Contents (Elt F)} (h_main_arg10 : V0 (Proc.devRef .tc main_arg10) = x_main_arg10) {x_main_arg14 : (⟨S512x1024, .f32⟩ : BufTy).Contents (Elt F)} (h_main_arg14 : V0 (Proc.devRef .tc main_arg14) = x_main_arg14) {x_main_arg18 : (⟨S_, .f32⟩ : BufTy).Contents (Elt F)} (h_main_arg18 : V0 (Proc.devRef .tc main_arg18) = x_main_arg18) : out_main_v125 V0 = Cert.ScanReferenceIdeal.Step.R_main_v125 s x_main_arg0 x_main_arg2 x_main_arg4 x_main_arg5 x_main_arg6 x_main_arg7 x_main_arg8 x_main_arg9 x_main_arg10 x_main_arg14 x_main_arg18 := by
  unfold out_main_v125 Cert.ScanReferenceIdeal.Step.R_main_v125
  rw [h.f_6, h_main_arg0, h_main_arg2, h_main_arg4, h_main_arg5, h_main_arg6, h_main_arg7, h_main_arg8, h_main_arg9, h_main_arg10, h_main_arg14, h_main_arg18]
  try rfl

/-- One trip keeps the valuation holding: `step` of the state, the same set-up values, the next number. -/
theorem holds_step (h : Holds V0 s j) : Holds (STEP V0) (step j s) (j + 1) where
  f_5 := (STEP_main_v26_5 V0).trans (step_5 h)
  f_6 := (STEP_main_v26_6 V0).trans (step_6 h)
  n_4 := (STEP_main_v26_4 V0).trans (step_4 h)
  f_0 := (STEP_main_v26_0 V0).trans h.f_0
  f_1 := (STEP_main_v26_1 V0).trans h.f_1
  f_2 := (STEP_main_v26_2 V0).trans h.f_2
  f_3 := (STEP_main_v26_3 V0).trans h.f_3

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg15)) (m ((c.tc : Thread nD τ).loc main_arg16)) (m ((c.tc : Thread nD τ).loc main_arg17))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ScanReferenceIdeal` terminates with each result at its field of state
    number 1024 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v87) = Cert.ScanReferenceIdeal.Step.R_main_v87 (it c 1024) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg18))
      ∧ r.2.mem ((c.tc : Thread nD τ).loc main_v125) = Cert.ScanReferenceIdeal.Step.R_main_v125 (it c 1024) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c =>
    have hk := holds_iter m c (it c) (h0 c) (hs c) 1024
    ⟨(h c).1.trans (out_main_v87_holds hk (iter_main_arg0 m c 1024) (iter_main_arg2 m c 1024) (iter_main_arg3 m c 1024) (iter_main_arg5 m c 1024) (iter_main_arg6 m c 1024) (iter_main_arg7 m c 1024) (iter_main_arg8 m c 1024) (iter_main_arg9 m c 1024) (iter_main_arg10 m c 1024) (iter_main_arg14 m c 1024) (iter_main_arg18 m c 1024)), (h c).2.1.trans (out_main_v125_holds hk (iter_main_arg0 m c 1024) (iter_main_arg2 m c 1024) (iter_main_arg4 m c 1024) (iter_main_arg5 m c 1024) (iter_main_arg6 m c 1024) (iter_main_arg7 m c 1024) (iter_main_arg8 m c 1024) (iter_main_arg9 m c 1024) (iter_main_arg10 m c 1024) (iter_main_arg14 m c 1024) (iter_main_arg18 m c 1024)), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2⟩) (Value.run m ρ)

end Cert.ScanReferenceIdeal.StepRun

end
-- ==== Proof.lean ====
module

public import proofs.«01_k».proof.Defs
public import proofs.«01_k».proof.Proof.Gen.Scan
public import proofs.«01_k».proof.Proof.ScanFrame
public import proofs.«01_k».proof.Proof.Gen.ScanIdeal
public import proofs.«01_k».proof.Proof.Gen.ScanReferenceIdeal
public import proofs.«01_k».proof.Proof.Gen.Pre_admissible
public import proofs.«01_k».proof.Proof.Gen.Front
public import proofs.«01_k».proof.Proof.Gen.Front.Frame
public import proofs.«01_k».proof.Proof.Gen.FrontIdeal
public import proofs.«01_k».proof.Proof.Gen.FrontReferenceIdeal
public import proofs.«01_k».proof.Proof.Gen.FrontReferenceIdeal.Run
public import proofs.«01_k».proof.Proof.Gen.Mixing
public import proofs.«01_k».proof.Proof.Gen.Mixing.Frame
public import proofs.«01_k».proof.Proof.Gen.MixingIdeal
public import proofs.«01_k».proof.Proof.Gen.MixingReferenceIdeal
public import proofs.«01_k».proof.Proof.Gen.MixingReferenceIdeal.Run
public import proofs.«01_k».proof.Proof.Gen.Pre_front_admissible
public import proofs.«01_k».proof.Proof.FrontArr
public import proofs.«01_k».proof.Proof.MixVal
public import proofs.«01_k».proof.Proof.PreFront
public import proofs.«01_k».proof.Proof.Join
public import proofs.«01_k».proof.Proof.PreVal
public import proofs.«01_k».proof.Proof.RefRun
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's states. -/
def states (m : (ℓ : Loc Cert.ScanReferenceIdeal.nD Cert.ScanReferenceIdeal.τ Cert.ScanReferenceIdeal.sig) → Buf (Elt Ideal) ℓ) (c : Dev Cert.ScanReferenceIdeal.nD) :
    ℕ → Cert.ScanReferenceIdeal.Step.State Ideal :=
  Cert.ScanReferenceIdeal.Hand.iter (Cert.ScanReferenceIdeal.StepRun.initState m c)

theorem quiescent_ref : quiescent_ScanReferenceIdeal := fun m g _ =>
  (θ_run _ _ _).mono (fun r h => ⟨fun c => (h c).2.2, sem_eq_zero_of_no_sems (by decide) r.2⟩)
    (Cert.ScanReferenceIdeal.StepRun.run_iter m g (states m) (fun _ => rfl) (fun _ _ => rfl))

/-- The precondition, read. -/
theorem good (m : (ℓ : Loc Cert.ScanIdeal.nD Cert.ScanIdeal.τ Cert.ScanIdeal.sig) → Buf (Elt Ideal) ℓ) (h : Pre_ScanIdeal_admissible m)
    (c : Dev Cert.ScanIdeal.nD) : Cert.Join.Good m c := by
  obtain ⟨g9', g0, g2, g5, g6, g7, g8, g9, g10, g13, g14, g17⟩ := Cert.Pre_admissible.decode _ _ _ _ _ _ _ _ _ _ _ _ _ _ _ _ _ _ _ (h c)
  exact ⟨fun _ => g9' _, fun _ _ => g0 _, fun _ _ _ _ => g2 _, fun _ _ => g5 _, fun _ => g6 _, fun _ => g7 _, fun _ => g8 _, fun _ => g9 _,
    fun _ _ => g10 _, fun _ _ => g13 _, fun _ _ => g14 _, fun _ _ => g17 _⟩

theorem algebraic : algebraic_ScanIdeal_ScanReferenceIdeal_pre_admissible := fun m g m' g' hpre hagree => by
  refine ⟨fun c => Cert.ScanReferenceIdeal.Step.R_main_v87 (F := Ideal) (Cert.Join.last m c) (m ((c.tc : Thread Cert.ScanIdeal.nD Cert.ScanIdeal.τ).loc Cert.ScanIdeal.main_arg0)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9)) (m ((c.tc : Thread Cert.ScanIdeal.nD Cert.ScanIdeal.τ).loc Cert.ScanIdeal.main_arg10)) (m ((c.tc : Thread Cert.ScanIdeal.nD Cert.ScanIdeal.τ).loc Cert.ScanIdeal.main_arg14)) (m ((c.tc : Thread Cert.ScanIdeal.nD Cert.ScanIdeal.τ).loc Cert.ScanIdeal.main_arg18)),
    fun c => Cert.ScanReferenceIdeal.Step.R_main_v125 (F := Ideal) (Cert.Join.last m c) (m ((c.tc : Thread Cert.ScanIdeal.nD Cert.ScanIdeal.τ).loc Cert.ScanIdeal.main_arg0)) (m ((c.tc : Thread Cert.ScanIdeal.nD Cert.ScanIdeal.τ).loc Cert.ScanIdeal.main_arg2)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9)) (m ((c.tc : Thread Cert.ScanIdeal.nD Cert.ScanIdeal.τ).loc Cert.ScanIdeal.main_arg10)) (m ((c.tc : Thread Cert.ScanIdeal.nD Cert.ScanIdeal.τ).loc Cert.ScanIdeal.main_arg14)) (m ((c.tc : Thread Cert.ScanIdeal.nD Cert.ScanIdeal.τ).loc Cert.ScanIdeal.main_arg18)), ?_, ?_⟩
  · refine (θ_run _ _ _).mono (fun r h c => ?_) (θ_run_and (Cert.ScanIdeal.Hand.unchanged m g) (Cert.ScanIdeal.Hand.run_main m g))
    exact ⟨((h.2 c).2 Cert.ScanIdeal.main_v43 (by decide)).trans (Cert.Join.first m c (good m hpre c)),
      ((h.2 c).2 Cert.ScanIdeal.main_v46 (by decide)).trans (Cert.Join.second m c (good m hpre c)), h.1 c⟩
  · refine (θ_run _ _ _).mono (fun r h c => ?_) (Cert.ScanReferenceIdeal.StepRun.run_iter m' g' (states m') (fun _ => rfl) (fun _ _ => rfl))
    obtain ⟨e0, e1, e2, e3, e4, e5, e6, e7, e8, e9, e10, e11, e12, e13, e14, e15, e16, e17, e18⟩ := hagree c
    have hl : states m' c 1024 = Cert.Join.last m c := by
      unfold states Cert.ScanReferenceIdeal.StepRun.initState Cert.Join.last
      rw [e1, e11, e12, e13, e15, e16, e17]
    refine ⟨(h c).1.trans ?_, (h c).2.1.trans ?_, (h c).2.2⟩
    · rw [hl, e0, e2, e3, e5, e6, e7, e8, e9, e10, e14, e18]
    · rw [hl, e0, e2, e4, e5, e6, e7, e8, e9, e10, e14, e18]

theorem quiescent_front_ref : quiescent_FrontReferenceIdeal := fun m g _ =>
  (θ_run _ _ _).mono (fun r h => ⟨fun c => (h c).2.2.2, sem_eq_zero_of_no_sems (by decide) r.2⟩) (Cert.FrontReferenceIdeal.Value.run m g)

theorem quiescent_mixing_ref : quiescent_MixingReferenceIdeal := fun m g _ =>
  (θ_run _ _ _).mono (fun r h => ⟨fun c => (h c).2, sem_eq_zero_of_no_sems (by decide) r.2⟩) (Cert.MixingReferenceIdeal.Value.run m g)

/-- The precondition of the front launch, read. -/
theorem good_front (m : (ℓ : Loc Cert.FrontIdeal.nD Cert.FrontIdeal.τ Cert.FrontIdeal.sig) → Buf (Elt Ideal) ℓ) (h : Pre_FrontIdeal_front_admissible m)
    (c : Dev Cert.FrontIdeal.nD) : Cert.FrontIdeal.Hand.Good m c := by
  obtain ⟨h6, r3, r4, r5, r6⟩ := Cert.Pre_front_admissible.decode _ _ _ _ _ _ _ _ _ _ _ _ _ (h c)
  exact ⟨fun _ => h6 _, fun _ => r3 _, fun _ => r4 _, fun _ => r5 _, fun _ => r6 _⟩

theorem algebraic_front : algebraic_FrontIdeal_FrontReferenceIdeal_pre_front_admissible := fun m g m' g' hpre hagree => by
  refine ⟨fun c => Cert.FrontReferenceIdeal.Read.val_main_v126 (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8)) (m ((c.tc : Thread Cert.FrontIdeal.nD Cert.FrontIdeal.τ).loc Cert.FrontIdeal.main_arg9)) (m ((c.tc : Thread Cert.FrontIdeal.nD Cert.FrontIdeal.τ).loc Cert.FrontIdeal.main_arg10)) (m ((c.tc : Thread Cert.FrontIdeal.nD Cert.FrontIdeal.τ).loc Cert.FrontIdeal.main_arg11)) (m ((c.tc : Thread Cert.FrontIdeal.nD Cert.FrontIdeal.τ).loc Cert.FrontIdeal.main_arg12)),
    fun c => Cert.FrontReferenceIdeal.Read.val_main_v129 (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8)) (m ((c.tc : Thread Cert.FrontIdeal.nD Cert.FrontIdeal.τ).loc Cert.FrontIdeal.main_arg9)) (m ((c.tc : Thread Cert.FrontIdeal.nD Cert.FrontIdeal.τ).loc Cert.FrontIdeal.main_arg10)) (m ((c.tc : Thread Cert.FrontIdeal.nD Cert.FrontIdeal.τ).loc Cert.FrontIdeal.main_arg11)) (m ((c.tc : Thread Cert.FrontIdeal.nD Cert.FrontIdeal.τ).loc Cert.FrontIdeal.main_arg12)),
    fun c => Cert.FrontReferenceIdeal.Read.val_main_v130 (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)), ?_, ?_⟩
  · refine (θ_run _ _ _).mono (fun r h c => ?_) (Cert.FrontIdeal.Value.run_blocks m g)
    obtain ⟨h0, h1, h2, h3⟩ := h c
    exact ⟨h0.trans ((Cert.FrontIdeal.Hand.arr9 m c).trans (Cert.FrontIdeal.Hand.first m c (good_front m hpre c))),
      h1.trans ((Cert.FrontIdeal.Hand.arr10 m c).trans (Cert.FrontIdeal.Hand.second m c (good_front m hpre c))),
      h2.trans ((Cert.FrontIdeal.Hand.arr11 m c).trans (Cert.FrontIdeal.Hand.third m c (good_front m hpre c))), h3⟩
  · refine (θ_run _ _ _).mono (fun r h c => ?_) (Cert.FrontReferenceIdeal.Value.run m' g')
    obtain ⟨e0, e1, e2, e3, e4, e5, e6, e7, e8, e9, e10, e11, e12⟩ := hagree c
    obtain ⟨h0, h1, h2, h3⟩ := h c
    refine ⟨h0.trans ((Cert.FrontReferenceIdeal.Read.val_main_v126_eq m' c).trans ?_), h1.trans ((Cert.FrontReferenceIdeal.Read.val_main_v129_eq m' c).trans ?_),
      h2.trans ((Cert.FrontReferenceIdeal.Read.val_main_v130_eq _ _ _ _ _ _ _).trans ?_), h3⟩
    · rw [e0, e1, e2, e3, e4, e5, e6, e7, e8, e9, e10, e11, e12]
    · rw [e0, e1, e2, e3, e4, e5, e6, e7, e8, e9, e10, e11, e12]
    · rw [e0, e1, e2, e3, e4, e5, e6]

theorem algebraic_mixing : algebraic_MixingIdeal_MixingReferenceIdeal := fun m g m' g' _ hagree => by
  refine ⟨fun c => Cert.MixingReferenceIdeal.Read.val_main_v23 (F := Ideal) (m ((c.tc : Thread Cert.MixingIdeal.nD Cert.MixingIdeal.τ).loc Cert.MixingIdeal.main_arg0)) (m ((c.tc : Thread Cert.MixingIdeal.nD Cert.MixingIdeal.τ).loc Cert.MixingIdeal.main_arg1)) (m ((c.tc : Thread Cert.MixingIdeal.nD Cert.MixingIdeal.τ).loc Cert.MixingIdeal.main_arg2)) (m ((c.tc : Thread Cert.MixingIdeal.nD Cert.MixingIdeal.τ).loc Cert.MixingIdeal.main_arg3)) (m ((c.tc : Thread Cert.MixingIdeal.nD Cert.MixingIdeal.τ).loc Cert.MixingIdeal.main_arg4)), ?_, ?_⟩
  · refine (θ_run _ _ _).mono (fun r h c => ?_) (Cert.MixingIdeal.Value.run_blocks m g)
    obtain ⟨h0, h1⟩ := h c
    exact ⟨h0.trans ((Cert.Mix.arr5 m c).trans (Cert.Mix.arrOut_eq m c)), h1⟩
  · refine (θ_run _ _ _).mono (fun r h c => ?_) (Cert.MixingReferenceIdeal.Value.run m' g')
    obtain ⟨e0, e1, e2, e3, e4⟩ := hagree c
    obtain ⟨h0, h1⟩ := h c
    refine ⟨h0.trans ((Cert.MixingReferenceIdeal.Read.val_main_v23_eq _ _ _ _ _).trans ?_), h1⟩
    rw [e0, e1, e2, e3, e4]

theorem claim : Cert.Claim := ⟨Cert.Scan.Gen.facts, Cert.ScanIdeal.Gen.facts, Cert.ScanReferenceIdeal.Gen.facts,
  Cert.Front.Gen.facts, Cert.FrontIdeal.Gen.facts, Cert.FrontReferenceIdeal.Gen.facts,
  Cert.Mixing.Gen.facts, Cert.MixingIdeal.Gen.facts, Cert.MixingReferenceIdeal.Gen.facts,
  Cert.Pre_admissible.Gen.facts, Cert.Pre_front_admissible.Gen.facts,
  fun m g _ => Cert.Scan.Hand.frame m g, fun m g _ => Cert.ScanIdeal.Hand.frame m g, fun m g _ => Cert.ScanIdeal.Hand.frame m g,
  quiescent_ref, fun m g _ => quiescent_ref m g trivial,
  fun m g _ => Cert.Front.Gen.frame m g, fun m g _ => Cert.FrontIdeal.Gen.frame m g, fun m g _ => Cert.FrontIdeal.Gen.frame m g,
  quiescent_front_ref, fun m g _ => quiescent_front_ref m g trivial,
  fun m g _ => Cert.Mixing.Gen.frame m g, fun m g _ => Cert.MixingIdeal.Gen.frame m g, quiescent_mixing_ref,
  trivial, algebraic, trivial, algebraic_front, trivial, algebraic_mixing⟩

end Cert.Proof

end
